-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def preserves_Kernel_KernelIdeal : Prop :=
  IdealRules.named_const.Statement Cert.KernelIdeal.κ "qscale" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)) (v1 : (c : Dev Cert.Kernel10Ideal.nD) → Buf (Elt Ideal) ((c.tc : Thread Cert.Kernel10Ideal.nD Cert.Kernel10Ideal.τ).loc Cert.Kernel10Ideal.main_v8_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_v8_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v35) = v0 c
          ∧ r.2.mem ((c.tc : Thread Cert.Reference10Ideal.nD Cert.Reference10Ideal.τ).loc Cert.Reference10Ideal.main_v36) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v7)) (v1 : (c : Dev Cert.Kernel12Ideal.nD) → Buf (Elt Ideal) ((c.tc : Thread Cert.Kernel12Ideal.nD Cert.Kernel12Ideal.τ).loc Cert.Kernel12Ideal.main_v9)) (v2 : (c : Dev Cert.Kernel12Ideal.nD) → Buf (Elt Ideal) ((c.tc : Thread Cert.Kernel12Ideal.nD Cert.Kernel12Ideal.τ).loc Cert.Kernel12Ideal.main_v38)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_v9) = v1 c
          ∧ r.2.mem ((c.tc : Thread Cert.Kernel12Ideal.nD Cert.Kernel12Ideal.τ).loc Cert.Kernel12Ideal.main_v38) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_v10) = v1 c
          ∧ r.2.mem ((c.tc : Thread Cert.Reference12Ideal.nD Cert.Reference12Ideal.τ).loc Cert.Reference12Ideal.main_v38) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v7)) (v1 : (c : Dev Cert.Kernel13Ideal.nD) → Buf (Elt Ideal) ((c.tc : Thread Cert.Kernel13Ideal.nD Cert.Kernel13Ideal.τ).loc Cert.Kernel13Ideal.main_v9)) (v2 : (c : Dev Cert.Kernel13Ideal.nD) → Buf (Elt Ideal) ((c.tc : Thread Cert.Kernel13Ideal.nD Cert.Kernel13Ideal.τ).loc Cert.Kernel13Ideal.main_v38)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_v9) = v1 c
          ∧ r.2.mem ((c.tc : Thread Cert.Kernel13Ideal.nD Cert.Kernel13Ideal.τ).loc Cert.Kernel13Ideal.main_v38) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_v10) = v1 c
          ∧ r.2.mem ((c.tc : Thread Cert.Reference13Ideal.nD Cert.Reference13Ideal.τ).loc Cert.Reference13Ideal.main_v38) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v51)) (v1 : (c : Dev Cert.Kernel14Ideal.nD) → Buf (Elt Ideal) ((c.tc : Thread Cert.Kernel14Ideal.nD Cert.Kernel14Ideal.τ).loc Cert.Kernel14Ideal.main_v53)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v51) = v0 c
          ∧ r.2.mem ((c.tc : Thread Cert.Kernel14Ideal.nD Cert.Kernel14Ideal.τ).loc Cert.Kernel14Ideal.main_v53) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v45) = v0 c
          ∧ r.2.mem ((c.tc : Thread Cert.Reference14Ideal.nD Cert.Reference14Ideal.τ).loc Cert.Reference14Ideal.main_v46) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v7_0)) (v1 : (c : Dev Cert.Kernel16Ideal.nD) → Buf (Elt Ideal) ((c.tc : Thread Cert.Kernel16Ideal.nD Cert.Kernel16Ideal.τ).loc Cert.Kernel16Ideal.main_v7_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7_0) = v0 c
          ∧ r.2.mem ((c.tc : Thread Cert.Kernel16Ideal.nD Cert.Kernel16Ideal.τ).loc Cert.Kernel16Ideal.main_v7_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v35) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_all_finite.lean ====
abbrev S8x8x6144 : Shape := ⟨3, ![8, 8, 6144]⟩
abbrev S8x2048x4x128 : Shape := ⟨4, ![8, 2048, 4, 128]⟩
abbrev S8x8x1024 : Shape := ⟨3, ![8, 8, 1024]⟩
abbrev S32x16 : Shape := ⟨2, ![32, 16]⟩
abbrev S_ : Shape := ⟨0, ![]⟩

class Facts : Prop where
  bcast_S_S8x8x6144 : S_.BroadcastsInDim S8x8x6144 (![] : Fin 0 → Fin S8x8x6144.rank)
  reducesTo_S8x8x6144_S_d0_1_2 : S8x8x6144.ReducesTo [0, 1, 2] S_
  h_S_ : 0 < S_.numel
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_
  bcast_S_S8x8x1024 : S_.BroadcastsInDim S8x8x1024 (![] : Fin 0 → Fin S8x8x1024.rank)
  reducesTo_S8x8x1024_S_d0_1_2 : S8x8x1024.ReducesTo [0, 1, 2] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_v3 : IVec S_ 1) (main_v7 : IVec S_ 1) (main_v11 : IVec S_ 1) (main_v15 : IVec S_ 1) : IVec S_ 1 :=
  let main_v16 : FVec F S32x16 .f32 := Host.absf main_arg4
  let main_cst_6 : FVec F S_ .f32 := constant S_ .f32 0x7F800000#32
  let main_v17 : FVec F S32x16 .f32 := broadcastInDim S32x16 ![] bcast_S_S32x16 main_cst_6
  let main_v18 : IVec S32x16 1 := cmpf .olt main_v16 main_v17
  let main_c_7 : IVec S_ 1 := constantI S_ 1 1#1
  let main_v19 : IVec S_ 1 := (fun x v => Host.reduce IntOp.andi x v reducesTo_S32x16_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8x8x6144 .f32) (main_arg1 : FVec F S8x2048x4x128 .f32) (main_arg2 : FVec F S8x2048x4x128 .f32) (main_arg3 : FVec F S8x8x1024 .f32) (main_arg4 : FVec F S32x16 .f32) : IVec S_ 1 :=
  let main_v0 : FVec F S8x8x6144 .f32 := Host.absf main_arg0
  let main_cst : FVec F S_ .f32 := constant S_ .f32 0x7F800000#32
  let main_v1 : FVec F S8x8x6144 .f32 := broadcastInDim S8x8x6144 ![] bcast_S_S8x8x6144 main_cst
  let main_v2 : IVec S8x8x6144 1 := cmpf .olt main_v0 main_v1
  let main_c : IVec S_ 1 := constantI S_ 1 1#1
  let main_v3 : IVec S_ 1 := (fun x v => Host.reduce IntOp.andi x v reducesTo_S8x8x6144_S_d0_1_2 h_S_) main_v2 main_c
  let main_v4 : FVec F S8x2048x4x128 .f32 := Host.absf main_arg1
  let main_cst_0 : FVec F S_ .f32 := constant S_ .f32 0x7F800000#32
  let main_v5 : FVec F S8x2048x4x128 .f32 := broadcastInDim S8x2048x4x128 ![] bcast_S_S8x2048x4x128 main_cst_0
  let main_v6 : IVec S8x2048x4x128 1 := cmpf .olt main_v4 main_v5
  let main_c_1 : IVec S_ 1 := constantI S_ 1 1#1
  let main_v7 : IVec S_ 1 := (fun x v => Host.reduce IntOp.andi x v reducesTo_S8x2048x4x128_S_d0_1_2_3 h_S_) main_v6 main_c_1
  let main_v8 : FVec F S8x2048x4x128 .f32 := Host.absf main_arg2
  let main_cst_2 : FVec F S_ .f32 := constant S_ .f32 0x7F800000#32
  let main_v9 : FVec F S8x2048x4x128 .f32 := broadcastInDim S8x2048x4x128 ![] bcast_S_S8x2048x4x128 main_cst_2
  let main_v10 : IVec S8x2048x4x128 1 := cmpf .olt main_v8 main_v9
  let main_c_3 : IVec S_ 1 := constantI S_ 1 1#1
  let main_v11 : IVec S_ 1 := (fun x v => Host.reduce IntOp.andi x v reducesTo_S8x2048x4x128_S_d0_1_2_3 h_S_) main_v10 main_c_3
  let main_v12 : FVec F S8x8x1024 .f32 := Host.absf main_arg3
  let main_cst_4 : FVec F S_ .f32 := constant S_ .f32 0x7F800000#32
  let main_v13 : FVec F S8x8x1024 .f32 := broadcastInDim S8x8x1024 ![] bcast_S_S8x8x1024 main_cst_4
  let main_v14 : IVec S8x8x1024 1 := cmpf .olt main_v12 main_v13
  let main_c_5 : IVec S_ 1 := constantI S_ 1 1#1
  let main_v15 : IVec S_ 1 := (fun x v => Host.reduce IntOp.andi x v reducesTo_S8x8x1024_S_d0_1_2 h_S_) main_v14 main_c_5
  fn_part1 (F := F) main_arg4 main_v3 main_v7 main_v11 main_v15
-- ==== Kernel.lean ====
abbrev S8x8x6144 : Shape := ⟨3, ![8, 8, 6144]⟩
abbrev S8x2048x4x128 : Shape := ⟨4, ![8, 2048, 4, 128]⟩
abbrev S8x8x1024 : Shape := ⟨3, ![8, 8, 1024]⟩
abbrev S32x16 : Shape := ⟨2, ![32, 16]⟩
abbrev S8 : Shape := ⟨1, ![8]⟩
abbrev S1x8x1 : Shape := ⟨3, ![1, 8, 1]⟩
abbrev S17 : Shape := ⟨1, ![17]⟩
abbrev S17x1x1 : Shape := ⟨3, ![17, 1, 1]⟩
abbrev S_ : Shape := ⟨0, ![]⟩
abbrev S128 : Shape := ⟨1, ![128]⟩
abbrev S1x1x128 : Shape := ⟨3, ![1, 1, 128]⟩
abbrev S17x1x128 : Shape := ⟨3, ![17, 1, 128]⟩
abbrev S17x8x128 : Shape := ⟨3, ![17, 8, 128]⟩
abbrev S51x8x128 : Shape := ⟨3, ![51, 8, 128]⟩
abbrev S408x128 : Shape := ⟨2, ![408, 128]⟩
abbrev S1x408x128 : Shape := ⟨3, ![1, 408, 128]⟩
abbrev S16x32 : Shape := ⟨2, ![16, 32]⟩
abbrev S408x128x1 : Shape := ⟨3, ![408, 128, 1]⟩
abbrev S16x408x128 : Shape := ⟨3, ![16, 408, 128]⟩
abbrev S4x4x3x17x8x128 : Shape := ⟨6, ![4, 4, 3, 17, 8, 128]⟩
abbrev S3x4x4x8x17x128 : Shape := ⟨6, ![3, 4, 4, 8, 17, 128]⟩
abbrev S3x4x32x2176 : Shape := ⟨4, ![3, 4, 32, 2176]⟩
abbrev S8x8192x128 : Shape := ⟨3, ![8, 8192, 128]⟩
abbrev S8x128x1024 : Shape := ⟨3, ![8, 128, 1024]⟩
abbrev S8x8x2048 : Shape := ⟨3, ![8, 8, 2048]⟩
abbrev S1x8x512 : Shape := ⟨3, ![1, 8, 512]⟩
abbrev S1x8192x128 : Shape := ⟨3, ![1, 8192, 128]⟩
abbrev S1x128x128 : Shape := ⟨3, ![1, 128, 128]⟩
abbrev S3x1x32x2176 : Shape := ⟨4, ![3, 1, 32, 2176]⟩
abbrev S1x2048x128 : Shape := ⟨3, ![1, 2048, 128]⟩
abbrev S2048x128 : Shape := ⟨2, ![2048, 128]⟩
abbrev S128x128 : Shape := ⟨2, ![128, 128]⟩
abbrev S1x8x128 : Shape := ⟨3, ![1, 8, 128]⟩
abbrev S8x128 : Shape := ⟨2, ![8, 128]⟩
abbrev S96x128 : Shape := ⟨2, ![96, 128]⟩
abbrev S1x1x32x2176 : Shape := ⟨4, ![1, 1, 32, 2176]⟩
abbrev S32x2176 : Shape := ⟨2, ![32, 2176]⟩
abbrev S96x2176 : Shape := ⟨2, ![96, 2176]⟩
abbrev S96x2048 : Shape := ⟨2, ![96, 2048]⟩
abbrev S96 : Shape := ⟨1, ![96]⟩
abbrev S96x1 : Shape := ⟨2, ![96, 1]⟩
abbrev S32x1 : Shape := ⟨2, ![32, 1]⟩
abbrev S32x128 : Shape := ⟨2, ![32, 128]⟩

abbrev nBuf : Space → Nat
  | .hbm => 260
  | .vmem => 18
  | .smem => 0
  | _ => 0

abbrev hbmTy0_0 (i : Nat) : BufTy := match i % 128 with
  | 0 => ⟨S8x8x6144, .f32⟩
  | 1 => ⟨S8x2048x4x128, .f32⟩
  | 2 => ⟨S8x2048x4x128, .f32⟩
  | 3 => ⟨S8x8x1024, .f32⟩
  | 4 => ⟨S32x16, .f32⟩
  | 5 => ⟨S8, .i32⟩
  | 6 => ⟨S1x8x1, .i32⟩
  | 7 => ⟨S17, .i32⟩
  | 8 => ⟨S17x1x1, .i32⟩
  | 9 => ⟨S_, .i32⟩
  | 10 => ⟨S17x1x1, .i32⟩
  | 11 => ⟨S17x1x1, .i32⟩
  | 12 => ⟨S128, .i32⟩
  | 13 => ⟨S1x1x128, .i32⟩
  | 14 => ⟨S17x1x128, .i32⟩
  | 15 => ⟨S17x1x128, .i32⟩
  | 16 => ⟨S17x1x128, .i32⟩
  | 17 => ⟨S_, .i32⟩
  | 18 => ⟨S1x8x1, .i32⟩
  | 19 => ⟨S1x8x1, .i32⟩
  | 20 => ⟨S17x8x128, .i32⟩
  | 21 => ⟨S17x8x128, .i32⟩
  | 22 => ⟨S17x8x128, .i32⟩
  | 23 => ⟨S_, .i32⟩
  | 24 => ⟨S17x8x128, .i32⟩
  | 25 => ⟨S17x8x128, .i1⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S17x8x128, .i32⟩
  | 33 => ⟨S17x8x128, .i32⟩
  | 34 => ⟨S_, .i32⟩
  | 35 => ⟨S17x8x128, .i32⟩
  | 36 => ⟨S17x8x128, .i1⟩
  | 37 => ⟨S_, .i32⟩
  | 38 => ⟨S17x8x128, .i32⟩
  | 39 => ⟨S17x8x128, .i1⟩
  | 40 => ⟨S_, .i32⟩
  | 41 => ⟨S_, .i1⟩
  | 42 => ⟨S17x8x128, .i1⟩
  | 43 => ⟨S17x8x128, .i1⟩
  | 44 => ⟨S17x8x128, .i1⟩
  | 45 => ⟨S17x8x128, .i32⟩
  | 46 => ⟨S17x8x128, .i32⟩
  | 47 => ⟨S17x8x128, .i32⟩
  | 48 => ⟨S_, .i32⟩
  | 49 => ⟨S17x8x128, .i32⟩
  | 50 => ⟨S17x8x128, .i1⟩
  | 51 => ⟨S17x8x128, .i1⟩
  | 52 => ⟨S_, .i32⟩
  | 53 => ⟨S17x8x128, .i32⟩
  | 54 => ⟨S17x8x128, .i1⟩
  | 55 => ⟨S17x8x128, .i1⟩
  | 56 => ⟨S_, .i32⟩
  | 57 => ⟨S17x8x128, .i32⟩
  | 58 => ⟨S17x8x128, .i32⟩
  | 59 => ⟨S_, .i32⟩
  | 60 => ⟨S17x8x128, .i32⟩
  | 61 => ⟨S17x8x128, .i32⟩
  | 62 => ⟨S_, .i32⟩
  | 63 => ⟨S17x8x128, .i32⟩
  | 64 => ⟨S17x8x128, .i32⟩
  | 65 => ⟨S17x8x128, .f32⟩
  | 66 => ⟨S_, .f32⟩
  | 67 => ⟨S17x8x128, .f32⟩
  | 68 => ⟨S17x8x128, .f32⟩
  | 69 => ⟨S17x8x128, .f32⟩
  | 70 => ⟨S_, .f32⟩
  | 71 => ⟨S17x8x128, .f32⟩
  | 72 => ⟨S17x8x128, .f32⟩
  | 73 => ⟨S_, .f32⟩
  | 74 => ⟨S17x8x128, .f32⟩
  | 75 => ⟨S17x8x128, .f32⟩
  | 76 => ⟨S17x8x128, .i32⟩
  | 77 => ⟨S_, .i32⟩
  | 78 => ⟨S17x8x128, .i32⟩
  | 79 => ⟨S17x8x128, .i32⟩
  | 80 => ⟨S_, .i32⟩
  | 81 => ⟨S17x8x128, .i32⟩
  | 82 => ⟨S17x8x128, .i1⟩
  | 83 => ⟨S_, .i32⟩
  | 84 => ⟨S17x8x128, .i32⟩
  | 85 => ⟨S17x8x128, .i32⟩
  | 86 => ⟨S17x8x128, .i32⟩
  | 87 => ⟨S_, .i32⟩
  | 88 => ⟨S_, .i32⟩
  | 89 => ⟨S17x8x128, .i32⟩
  | 90 => ⟨S17x8x128, .i32⟩
  | 91 => ⟨S_, .i32⟩
  | 92 => ⟨S17x8x128, .i32⟩
  | 93 => ⟨S17x8x128, .i1⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S17x8x128, .i32⟩
  | 101 => ⟨S17x8x128, .i32⟩
  | 102 => ⟨S_, .i32⟩
  | 103 => ⟨S17x8x128, .i32⟩
  | 104 => ⟨S17x8x128, .i1⟩
  | 105 => ⟨S_, .i32⟩
  | 106 => ⟨S17x8x128, .i32⟩
  | 107 => ⟨S17x8x128, .i1⟩
  | 108 => ⟨S_, .i32⟩
  | 109 => ⟨S_, .i1⟩
  | 110 => ⟨S17x8x128, .i1⟩
  | 111 => ⟨S17x8x128, .i1⟩
  | 112 => ⟨S17x8x128, .i1⟩
  | 113 => ⟨S17x8x128, .i32⟩
  | 114 => ⟨S17x8x128, .i32⟩
  | 115 => ⟨S17x8x128, .i32⟩
  | 116 => ⟨S_, .i32⟩
  | 117 => ⟨S17x8x128, .i32⟩
  | 118 => ⟨S17x8x128, .i1⟩
  | 119 => ⟨S17x8x128, .i1⟩
  | 120 => ⟨S_, .i32⟩
  | 121 => ⟨S17x8x128, .i32⟩
  | 122 => ⟨S17x8x128, .i1⟩
  | 123 => ⟨S17x8x128, .i1⟩
  | 124 => ⟨S_, .i32⟩
  | 125 => ⟨S17x8x128, .i32⟩
  | 126 => ⟨S17x8x128, .i32⟩
  | 127 => ⟨S_, .i32⟩
  | _ => ⟨S8x8x6144, .f32⟩

abbrev hbmTy0_1 (i : Nat) : BufTy := match i % 128 with
  | 0 => ⟨S17x8x128, .i32⟩
  | 1 => ⟨S17x8x128, .i32⟩
  | 2 => ⟨S_, .i32⟩
  | 3 => ⟨S17x8x128, .i32⟩
  | 4 => ⟨S17x8x128, .i32⟩
  | 5 => ⟨S17x8x128, .f32⟩
  | 6 => ⟨S_, .f32⟩
  | 7 => ⟨S17x8x128, .f32⟩
  | 8 => ⟨S17x8x128, .f32⟩
  | 9 => ⟨S17x8x128, .f32⟩
  | 10 => ⟨S_, .f32⟩
  | 11 => ⟨S17x8x128, .f32⟩
  | 12 => ⟨S17x8x128, .f32⟩
  | 13 => ⟨S_, .f32⟩
  | 14 => ⟨S17x8x128, .f32⟩
  | 15 => ⟨S17x8x128, .f32⟩
  | 16 => ⟨S17x8x128, .i32⟩
  | 17 => ⟨S_, .i32⟩
  | 18 => ⟨S17x8x128, .i32⟩
  | 19 => ⟨S17x8x128, .i32⟩
  | 20 => ⟨S_, .i32⟩
  | 21 => ⟨S17x8x128, .i32⟩
  | 22 => ⟨S17x8x128, .i1⟩
  | 23 => ⟨S_, .i32⟩
  | 24 => ⟨S17x8x128, .i32⟩
  | 25 => ⟨S17x8x128, .i32⟩
  | 26 => ⟨S17x8x128, .i32⟩
  | 27 => ⟨S_, .i32⟩
  | 28 => ⟨S_, .i32⟩
  | 29 => ⟨S17x8x128, .i32⟩
  | 30 => ⟨S17x8x128, .i32⟩
  | 31 => ⟨S_, .i32⟩
  | 32 => ⟨S17x8x128, .i32⟩
  | 33 => ⟨S17x8x128, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S17x8x128, .i32⟩
  | 41 => ⟨S17x8x128, .i32⟩
  | 42 => ⟨S_, .i32⟩
  | 43 => ⟨S17x8x128, .i32⟩
  | 44 => ⟨S17x8x128, .i1⟩
  | 45 => ⟨S_, .i32⟩
  | 46 => ⟨S17x8x128, .i32⟩
  | 47 => ⟨S17x8x128, .i1⟩
  | 48 => ⟨S_, .i32⟩
  | 49 => ⟨S_, .i1⟩
  | 50 => ⟨S17x8x128, .i1⟩
  | 51 => ⟨S17x8x128, .i1⟩
  | 52 => ⟨S17x8x128, .i1⟩
  | 53 => ⟨S17x8x128, .i32⟩
  | 54 => ⟨S17x8x128, .i32⟩
  | 55 => ⟨S17x8x128, .i32⟩
  | 56 => ⟨S_, .i32⟩
  | 57 => ⟨S17x8x128, .i32⟩
  | 58 => ⟨S17x8x128, .i1⟩
  | 59 => ⟨S17x8x128, .i1⟩
  | 60 => ⟨S_, .i32⟩
  | 61 => ⟨S17x8x128, .i32⟩
  | 62 => ⟨S17x8x128, .i1⟩
  | 63 => ⟨S17x8x128, .i1⟩
  | 64 => ⟨S_, .i32⟩
  | 65 => ⟨S17x8x128, .i32⟩
  | 66 => ⟨S17x8x128, .i32⟩
  | 67 => ⟨S_, .i32⟩
  | 68 => ⟨S17x8x128, .i32⟩
  | 69 => ⟨S17x8x128, .i32⟩
  | 70 => ⟨S_, .i32⟩
  | 71 => ⟨S17x8x128, .i32⟩
  | 72 => ⟨S17x8x128, .i32⟩
  | 73 => ⟨S17x8x128, .f32⟩
  | 74 => ⟨S_, .f32⟩
  | 75 => ⟨S17x8x128, .f32⟩
  | 76 => ⟨S17x8x128, .f32⟩
  | 77 => ⟨S17x8x128, .f32⟩
  | 78 => ⟨S_, .f32⟩
  | 79 => ⟨S17x8x128, .f32⟩
  | 80 => ⟨S17x8x128, .f32⟩
  | 81 => ⟨S_, .f32⟩
  | 82 => ⟨S17x8x128, .f32⟩
  | 83 => ⟨S17x8x128, .f32⟩
  | 84 => ⟨S17x8x128, .i32⟩
  | 85 => ⟨S_, .i32⟩
  | 86 => ⟨S17x8x128, .i32⟩
  | 87 => ⟨S17x8x128, .i32⟩
  | 88 => ⟨S_, .i32⟩
  | 89 => ⟨S17x8x128, .i32⟩
  | 90 => ⟨S17x8x128, .i1⟩
  | 91 => ⟨S_, .i32⟩
  | 92 => ⟨S17x8x128, .i32⟩
  | 93 => ⟨S17x8x128, .i32⟩
  | 94 => ⟨S17x8x128, .i32⟩
  | 95 => ⟨S_, .i32⟩
  | 96 => ⟨S_, .i32⟩
  | 97 => ⟨S17x8x128, .i32⟩
  | 98 => ⟨S17x8x128, .i32⟩
  | 99 => ⟨S51x8x128, .i32⟩
  | 100 => ⟨S408x128, .i32⟩
  | 101 => ⟨S1x408x128, .i32⟩
  | 102 => ⟨S_, .i32⟩
  | 103 => ⟨S1x408x128, .i32⟩
  | 104 => ⟨S1x408x128, .i1⟩
  | 105 => ⟨S16x32, .f32⟩
  | 106 => ⟨S_, .i32⟩
  | 107 => ⟨S408x128, .i32⟩
  | 108 => ⟨S408x128, .i32⟩
  | 109 => ⟨S_, .i32⟩
  | 110 => ⟨S408x128, .i32⟩
  | 111 => ⟨S408x128, .i1⟩
  | 112 => ⟨S_, .i32⟩
  | 113 => ⟨S408x128, .i32⟩
  | 114 => ⟨S408x128, .i32⟩
  | 115 => ⟨S408x128, .i32⟩
  | 116 => ⟨S408x128x1, .i32⟩
  | 117 => ⟨S16x408x128, .f32⟩
  | 118 => ⟨S_, .f32⟩
  | 119 => ⟨S_, .f32⟩
  | 120 => ⟨S16x408x128, .i1⟩
  | 121 => ⟨S16x408x128, .f32⟩
  | 122 => ⟨S16x408x128, .f32⟩
  | 123 => ⟨S4x4x3x17x8x128, .f32⟩
  | 124 => ⟨S3x4x4x8x17x128, .f32⟩
  | 125 => ⟨S3x4x32x2176, .f32⟩
  | 126 => ⟨S8x8192x128, .f32⟩
  | 127 => ⟨S8x8192x128, .f32⟩
  | _ => ⟨S8x8x6144, .f32⟩

abbrev hbmTy0_2 (i : Nat) : BufTy := match i % 128 with
  | 0 => ⟨S_, .i32⟩
  | 1 => ⟨S_, .f32⟩
  | 2 => ⟨S8x128x1024, .f32⟩
  | 3 => ⟨S8x8x2048, .bf16⟩
  | _ => ⟨S8x8x6144, .f32⟩

abbrev hbmTy (i : Nat) : BufTy := match i / 128 with
  | 0 => hbmTy0_0 i
  | 1 => hbmTy0_1 i
  | 2 => hbmTy0_2 i
  | _ => ⟨S8x8x6144, .f32⟩

abbrev bufTy : (tb : Table) → Fin (tcTables nBuf tb) → BufTy
  | .hbm, ⟨i, _⟩ => hbmTy i
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x8192x128, .f32⟩
  | .local _ .vmem, ⟨7, _⟩ => ⟨S1x8192x128, .f32⟩
  | .local _ .vmem, ⟨8, _⟩ => ⟨S1x8192x128, .f32⟩
  | .local _ .vmem, ⟨9, _⟩ => ⟨S1x8192x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S3x1x32x2176, .f32⟩
  | .local _ .vmem, ⟨15, _⟩ => ⟨S3x1x32x2176, .f32⟩
  | .local _ .vmem, ⟨16, _⟩ => ⟨S1x8x512, .bf16⟩
  | .local _ .vmem, ⟨17, _⟩ => ⟨S1x8x512, .bf16⟩
  | _, _ => ⟨S8x8x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v18 : Ref sig .tc := ⟨.hbm, 47, rfl⟩
abbrev main_c_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_c_6 : Ref sig .tc := ⟨.hbm, 59, rfl⟩
abbrev main_v27 : Ref sig .tc := ⟨.hbm, 60, rfl⟩
abbrev main_v28 : Ref sig .tc := ⟨.hbm, 61, rfl⟩
abbrev main_c_7 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_8 : Ref sig .tc := ⟨.hbm, 70, rfl⟩
abbrev main_v35 : Ref sig .tc := ⟨.hbm, 71, rfl⟩
abbrev main_v36 : Ref sig .tc := ⟨.hbm, 72, rfl⟩
abbrev main_cst_9 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_10 : Ref sig .tc := ⟨.hbm, 77, rfl⟩
abbrev main_v40 : Ref sig .tc := ⟨.hbm, 78, rfl⟩
abbrev main_v41 : Ref sig .tc := ⟨.hbm, 79, rfl⟩
abbrev main_c_11 : Ref sig .tc := ⟨.hbm, 80, rfl⟩
abbrev main_v42 : Ref sig .tc := ⟨.hbm, 81, rfl⟩
abbrev main_v43 : Ref sig .tc := ⟨.hbm, 82, rfl⟩
abbrev main_c_12 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_c_13 : Ref sig .tc := ⟨.hbm, 87, rfl⟩
abbrev main_call2_v0 : Ref sig .tc := ⟨.hbm, 88, rfl⟩
abbrev main_call2_v1 : Ref sig .tc := ⟨.hbm, 89, rfl⟩
abbrev main_v47 : Ref sig .tc := ⟨.hbm, 90, rfl⟩
abbrev main_c_14 : Ref sig .tc := ⟨.hbm, 91, rfl⟩
abbrev main_v48 : Ref sig .tc := ⟨.hbm, 92, rfl⟩
abbrev main_v49 : Ref sig .tc := ⟨.hbm, 93, rfl⟩
abbrev main_c_15 : Ref sig .tc := ⟨.hbm, 94, rfl⟩
abbrev main_call3_v0 : Ref sig .tc := ⟨.hbm, 95, rfl⟩
abbrev main_call3_c : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_c_1 : Ref sig .tc := ⟨.hbm, 102, rfl⟩
abbrev main_call3_v5 : Ref sig .tc := ⟨.hbm, 103, rfl⟩
abbrev main_call3_v6 : Ref sig .tc := ⟨.hbm, 104, rfl⟩
abbrev main_call3_c_2 : Ref sig .tc := ⟨.hbm, 105, rfl⟩
abbrev main_call3_v7 : Ref sig .tc := ⟨.hbm, 106, rfl⟩
abbrev main_call3_v8 : Ref sig .tc := ⟨.hbm, 107, rfl⟩
abbrev main_call3_c_3 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_v50 : Ref sig .tc := ⟨.hbm, 115, rfl⟩
abbrev main_c_16 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_c_17 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_c_18 : Ref sig .tc := ⟨.hbm, 124, rfl⟩
abbrev main_v57 : Ref sig .tc := ⟨.hbm, 125, rfl⟩
abbrev main_v58 : Ref sig .tc := ⟨.hbm, 126, rfl⟩
abbrev main_c_19 : Ref sig .tc := ⟨.hbm, 127, rfl⟩
abbrev main_v59 : Ref sig .tc := ⟨.hbm, 128, rfl⟩
abbrev main_v60 : Ref sig .tc := ⟨.hbm, 129, rfl⟩
abbrev main_c_20 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_cst_21 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_cst_22 : Ref sig .tc := ⟨.hbm, 138, rfl⟩
abbrev main_v67 : Ref sig .tc := ⟨.hbm, 139, rfl⟩
abbrev main_v68 : Ref sig .tc := ⟨.hbm, 140, rfl⟩
abbrev main_cst_23 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_c_24 : Ref sig .tc := ⟨.hbm, 145, rfl⟩
abbrev main_v72 : Ref sig .tc := ⟨.hbm, 146, rfl⟩
abbrev main_v73 : Ref sig .tc := ⟨.hbm, 147, rfl⟩
abbrev main_c_25 : Ref sig .tc := ⟨.hbm, 148, rfl⟩
abbrev main_v74 : Ref sig .tc := ⟨.hbm, 149, rfl⟩
abbrev main_v75 : Ref sig .tc := ⟨.hbm, 150, rfl⟩
abbrev main_c_26 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_c_27 : Ref sig .tc := ⟨.hbm, 155, rfl⟩
abbrev main_call5_v0 : Ref sig .tc := ⟨.hbm, 156, rfl⟩
abbrev main_call5_v1 : Ref sig .tc := ⟨.hbm, 157, rfl⟩
abbrev main_v79 : Ref sig .tc := ⟨.hbm, 158, rfl⟩
abbrev main_c_28 : Ref sig .tc := ⟨.hbm, 159, rfl⟩
abbrev main_v80 : Ref sig .tc := ⟨.hbm, 160, rfl⟩
abbrev main_v81 : Ref sig .tc := ⟨.hbm, 161, rfl⟩
abbrev main_c_29 : Ref sig .tc := ⟨.hbm, 162, rfl⟩
abbrev main_call6_v0 : Ref sig .tc := ⟨.hbm, 163, rfl⟩
abbrev main_call6_c : Ref sig .tc := ⟨.hbm, 164, rfl⟩
abbrev main_call6_v1 : Ref sig .tc := ⟨.hbm, 165, rfl⟩
abbrev main_call6_c_0 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_c_1 : Ref sig .tc := ⟨.hbm, 170, rfl⟩
abbrev main_call6_v5 : Ref sig .tc := ⟨.hbm, 171, rfl⟩
abbrev main_call6_v6 : Ref sig .tc := ⟨.hbm, 172, rfl⟩
abbrev main_call6_c_2 : Ref sig .tc := ⟨.hbm, 173, rfl⟩
abbrev main_call6_v7 : Ref sig .tc := ⟨.hbm, 174, rfl⟩
abbrev main_call6_v8 : Ref sig .tc := ⟨.hbm, 175, rfl⟩
abbrev main_call6_c_3 : Ref sig .tc := ⟨.hbm, 176, rfl⟩
abbrev main_call6_v9 : Ref sig .tc := ⟨.hbm, 177, rfl⟩
abbrev main_call6_v10 : Ref sig .tc := ⟨.hbm, 178, rfl⟩
abbrev main_call6_v11 : Ref sig .tc := ⟨.hbm, 179, rfl⟩
abbrev main_call6_v12 : Ref sig .tc := ⟨.hbm, 180, rfl⟩
abbrev main_call6_v13 : Ref sig .tc := ⟨.hbm, 181, rfl⟩
abbrev main_call6_v14 : Ref sig .tc := ⟨.hbm, 182, rfl⟩
abbrev main_v82 : Ref sig .tc := ⟨.hbm, 183, rfl⟩
abbrev main_c_30 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_c_31 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_c_32 : Ref sig .tc := ⟨.hbm, 192, rfl⟩
abbrev main_v89 : Ref sig .tc := ⟨.hbm, 193, rfl⟩
abbrev main_v90 : Ref sig .tc := ⟨.hbm, 194, rfl⟩
abbrev main_c_33 : Ref sig .tc := ⟨.hbm, 195, rfl⟩
abbrev main_v91 : Ref sig .tc := ⟨.hbm, 196, rfl⟩
abbrev main_v92 : Ref sig .tc := ⟨.hbm, 197, rfl⟩
abbrev main_c_34 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_cst_35 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_cst_36 : Ref sig .tc := ⟨.hbm, 206, rfl⟩
abbrev main_v99 : Ref sig .tc := ⟨.hbm, 207, rfl⟩
abbrev main_v100 : Ref sig .tc := ⟨.hbm, 208, rfl⟩
abbrev main_cst_37 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_c_38 : Ref sig .tc := ⟨.hbm, 213, rfl⟩
abbrev main_v104 : Ref sig .tc := ⟨.hbm, 214, rfl⟩
abbrev main_v105 : Ref sig .tc := ⟨.hbm, 215, rfl⟩
abbrev main_c_39 : Ref sig .tc := ⟨.hbm, 216, rfl⟩
abbrev main_v106 : Ref sig .tc := ⟨.hbm, 217, rfl⟩
abbrev main_v107 : Ref sig .tc := ⟨.hbm, 218, rfl⟩
abbrev main_c_40 : Ref sig .tc := ⟨.hbm, 219, rfl⟩
abbrev main_v108 : Ref sig .tc := ⟨.hbm, 220, rfl⟩
abbrev main_v109 : Ref sig .tc := ⟨.hbm, 221, rfl⟩
abbrev main_v110 : Ref sig .tc := ⟨.hbm, 222, rfl⟩
abbrev main_c_41 : Ref sig .tc := ⟨.hbm, 223, rfl⟩
abbrev main_call8_v0 : Ref sig .tc := ⟨.hbm, 224, rfl⟩
abbrev main_call8_v1 : Ref sig .tc := ⟨.hbm, 225, rfl⟩
abbrev main_v111 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_c_42 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_c_43 : Ref sig .tc := ⟨.hbm, 234, rfl⟩
abbrev main_v118 : Ref sig .tc := ⟨.hbm, 235, rfl⟩
abbrev main_v119 : Ref sig .tc := ⟨.hbm, 236, rfl⟩
abbrev main_c_44 : Ref sig .tc := ⟨.hbm, 237, rfl⟩
abbrev main_v120 : Ref sig .tc := ⟨.hbm, 238, rfl⟩
abbrev main_v121 : Ref sig .tc := ⟨.hbm, 239, rfl⟩
abbrev main_c_45 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_cst_46 : Ref sig .tc := ⟨.hbm, 246, rfl⟩
abbrev main_call9_v0 : Ref sig .tc := ⟨.hbm, 247, rfl⟩
abbrev main_call9_v1 : Ref sig .tc := ⟨.hbm, 248, rfl⟩
abbrev main_call9_v2 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_c_47 : Ref sig .tc := ⟨.hbm, 256, rfl⟩
abbrev main_call10_v0 : Ref sig .tc := ⟨.hbm, 257, rfl⟩
abbrev main_v133 : Ref sig .tc := ⟨.hbm, 258, rfl⟩
abbrev main_v134 : Ref sig .tc := ⟨.hbm, 259, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let c0 : Index := 0#32
  let arg1 : BitVec 32 := BitVec.ofNat 32 (i 1).val
  let v0 : Index := Scalar.indexCast arg1
  let c0_0 : Index := 0#32
  ![0, v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x1x32x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((11863283 / 134217728) * (Real.log 2)⁻¹ : ℝ) : EReal)
  | _ => none
-- ==== ReferenceIdeal.lean ====
abbrev S8x8x6144 : Shape := ⟨3, ![8, 8, 6144]⟩
abbrev S8x2048x4x128 : Shape := ⟨4, ![8, 2048, 4, 128]⟩
abbrev S8x8x1024 : Shape := ⟨3, ![8, 8, 1024]⟩
abbrev S32x16 : Shape := ⟨2, ![32, 16]⟩
abbrev S8x8x512 : Shape := ⟨3, ![8, 8, 512]⟩
abbrev S8x8x4x128 : Shape := ⟨4, ![8, 8, 4, 128]⟩
abbrev S8x2056x4x128 : Shape := ⟨4, ![8, 2056, 4, 128]⟩
abbrev S8x8x3x4x4x128 : Shape := ⟨6, ![8, 8, 3, 4, 4, 128]⟩
abbrev S8 : Shape := ⟨1, ![8]⟩
abbrev S_ : Shape := ⟨0, ![]⟩
abbrev S129 : Shape := ⟨1, ![129]⟩
abbrev S8x1 : Shape := ⟨2, ![8, 1]⟩
abbrev S1x129 : Shape := ⟨2, ![1, 129]⟩
abbrev S8x129 : Shape := ⟨2, ![8, 129]⟩
abbrev S8x129x1 : Shape := ⟨3, ![8, 129, 1]⟩
abbrev S8x8x129x4x128 : Shape := ⟨5, ![8, 8, 129, 4, 128]⟩
abbrev S8x8x1x4x4x128 : Shape := ⟨6, ![8, 8, 1, 4, 4, 128]⟩
abbrev S8x8x4x4x128 : Shape := ⟨5, ![8, 8, 4, 4, 128]⟩
abbrev S8x8x4x4x129 : Shape := ⟨5, ![8, 8, 4, 4, 129]⟩
abbrev S129x1 : Shape := ⟨2, ![129, 1]⟩
abbrev S129x16 : Shape := ⟨2, ![129, 16]⟩
abbrev S16x129 : Shape := ⟨2, ![16, 129]⟩
abbrev S4x4x129 : Shape := ⟨3, ![4, 4, 129]⟩
abbrev S1x8x1x1x129 : Shape := ⟨5, ![1, 8, 1, 1, 129]⟩
abbrev S1x1x4x4x129 : Shape := ⟨5, ![1, 1, 4, 4, 129]⟩
abbrev S8x8x4x4 : Shape := ⟨4, ![8, 8, 4, 4]⟩
abbrev S8x8x4x4x1 : Shape := ⟨5, ![8, 8, 4, 4, 1]⟩
abbrev S1x8x8x4x4 : Shape := ⟨5, ![1, 8, 8, 4, 4]⟩
abbrev S3x8x8x4x4 : Shape := ⟨5, ![3, 8, 8, 4, 4]⟩
abbrev S1x8x8x4x4x128 : Shape := ⟨6, ![1, 8, 8, 4, 4, 128]⟩
abbrev S3x8x8x4x4x128 : Shape := ⟨6, ![3, 8, 8, 4, 4, 128]⟩
abbrev S8x8x2048 : Shape := ⟨3, ![8, 8, 2048]⟩

abbrev nBuf : Space → Nat
  | .hbm => 347
  | .vmem => 0
  | .smem => 0
  | _ => 0

abbrev hbmTy0_0 (i : Nat) : BufTy := match i % 128 with
  | 0 => ⟨S8x8x6144, .f32⟩
  | 1 => ⟨S8x2048x4x128, .f32⟩
  | 2 => ⟨S8x2048x4x128, .f32⟩
  | 3 => ⟨S8x8x1024, .f32⟩
  | 4 => ⟨S32x16, .f32⟩
  | 5 => ⟨S8x8x512, .f32⟩
  | 6 => ⟨S8x8x512, .f32⟩
  | 7 => ⟨S8x8x4x128, .f32⟩
  | 8 => ⟨S8x2056x4x128, .f32⟩
  | 9 => ⟨S8x8x4x128, .f32⟩
  | 10 => ⟨S8x2056x4x128, .f32⟩
  | 11 => ⟨S8x8x3x4x4x128, .f32⟩
  | 12 => ⟨S8, .i32⟩
  | 13 => ⟨S_, .i32⟩
  | 14 => ⟨S8, .i32⟩
  | 15 => ⟨S8, .i32⟩
  | 16 => ⟨S129, .i32⟩
  | 17 => ⟨S_, .i32⟩
  | 18 => ⟨S129, .i32⟩
  | 19 => ⟨S129, .i32⟩
  | 20 => ⟨S8x1, .i32⟩
  | 21 => ⟨S1x129, .i32⟩
  | 22 => ⟨S8x129, .i32⟩
  | 23 => ⟨S8x129, .i32⟩
  | 24 => ⟨S8x129, .i32⟩
  | 25 => ⟨S_, .i32⟩
  | 26 => ⟨S8x129, .i32⟩
  | 27 => ⟨S8x129, .i1⟩
  | 28 => ⟨S_, .i32⟩
  | 29 => ⟨S8x129, .i32⟩
  | 30 => ⟨S8x129, .i32⟩
  | 31 => ⟨S_, .i32⟩
  | 32 => ⟨S8x129, .i32⟩
  | 33 => ⟨S8x129, .i1⟩
  | 34 => ⟨S_, .i32⟩
  | 35 => ⟨S8x129, .i32⟩
  | 36 => ⟨S8x129, .i32⟩
  | 37 => ⟨S8x129, .i32⟩
  | 38 => ⟨S8x129x1, .i32⟩
  | 39 => ⟨S8x8x129x4x128, .f32⟩
  | 40 => ⟨S_, .i32⟩
  | 41 => ⟨S8x129, .i32⟩
  | 42 => ⟨S8x129, .i1⟩
  | 43 => ⟨S_, .i32⟩
  | 44 => ⟨S8x129, .i32⟩
  | 45 => ⟨S8x129, .i32⟩
  | 46 => ⟨S8x129, .i32⟩
  | 47 => ⟨S8x129x1, .i32⟩
  | 48 => ⟨S8x8x129x4x128, .f32⟩
  | 49 => ⟨S8x8x1x4x4x128, .f32⟩
  | 50 => ⟨S8x8x4x4x128, .f32⟩
  | 51 => ⟨S8x8x4x4x129, .f32⟩
  | 52 => ⟨S_, .f32⟩
  | 53 => ⟨S8x8x4x4x129, .f32⟩
  | 54 => ⟨S8x8x4x4x129, .f32⟩
  | 55 => ⟨S_, .i32⟩
  | 56 => ⟨S129, .i32⟩
  | 57 => ⟨S129, .i32⟩
  | 58 => ⟨S_, .i32⟩
  | 59 => ⟨S129, .i32⟩
  | 60 => ⟨S129, .i32⟩
  | 61 => ⟨S129, .f32⟩
  | 62 => ⟨S_, .f32⟩
  | 63 => ⟨S129, .f32⟩
  | 64 => ⟨S129, .f32⟩
  | 65 => ⟨S129, .f32⟩
  | 66 => ⟨S_, .f32⟩
  | 67 => ⟨S129, .f32⟩
  | 68 => ⟨S129, .f32⟩
  | 69 => ⟨S_, .f32⟩
  | 70 => ⟨S129, .f32⟩
  | 71 => ⟨S129, .f32⟩
  | 72 => ⟨S129, .i32⟩
  | 73 => ⟨S_, .i32⟩
  | 74 => ⟨S129, .i32⟩
  | 75 => ⟨S129, .i32⟩
  | 76 => ⟨S_, .i32⟩
  | 77 => ⟨S129, .i32⟩
  | 78 => ⟨S129, .i1⟩
  | 79 => ⟨S_, .i32⟩
  | 80 => ⟨S129, .i32⟩
  | 81 => ⟨S129, .i32⟩
  | 82 => ⟨S129, .i32⟩
  | 83 => ⟨S_, .i32⟩
  | 84 => ⟨S129, .i32⟩
  | 85 => ⟨S129, .i1⟩
  | 86 => ⟨S_, .i32⟩
  | 87 => ⟨S129, .i32⟩
  | 88 => ⟨S129, .i32⟩
  | 89 => ⟨S129, .i32⟩
  | 90 => ⟨S129x1, .i32⟩
  | 91 => ⟨S129x16, .f32⟩
  | 92 => ⟨S16x129, .f32⟩
  | 93 => ⟨S4x4x129, .f32⟩
  | 94 => ⟨S1x8x1x1x129, .i1⟩
  | 95 => ⟨S1x1x4x4x129, .f32⟩
  | 96 => ⟨S8x8x4x4x129, .f32⟩
  | 97 => ⟨S8x8x4x4x129, .f32⟩
  | 98 => ⟨S_, .f32⟩
  | 99 => ⟨S_, .f32⟩
  | 100 => ⟨S8x8x4x4x129, .i1⟩
  | 101 => ⟨S8x8x4x4x129, .f32⟩
  | 102 => ⟨S8x8x4x4x129, .f32⟩
  | 103 => ⟨S_, .f32⟩
  | 104 => ⟨S8x8x4x4, .f32⟩
  | 105 => ⟨S8x8x4x4x1, .f32⟩
  | 106 => ⟨S8x8x4x4x129, .f32⟩
  | 107 => ⟨S8x8x4x4x129, .f32⟩
  | 108 => ⟨S8x8x4x4x129, .f32⟩
  | 109 => ⟨S_, .f32⟩
  | 110 => ⟨S8x8x4x4, .f32⟩
  | 111 => ⟨S8x8x4x4x128, .f32⟩
  | 112 => ⟨S8x8x4x4x1, .f32⟩
  | 113 => ⟨S8x8x4x4x128, .f32⟩
  | 114 => ⟨S8x8x4x4x128, .f32⟩
  | 115 => ⟨S8x8x4x4, .f32⟩
  | 116 => ⟨S8x8x4x4, .f32⟩
  | 117 => ⟨S8x8x4x4, .f32⟩
  | 118 => ⟨S129, .i32⟩
  | 119 => ⟨S_, .i32⟩
  | 120 => ⟨S129, .i32⟩
  | 121 => ⟨S129, .i32⟩
  | 122 => ⟨S8x1, .i32⟩
  | 123 => ⟨S1x129, .i32⟩
  | 124 => ⟨S8x129, .i32⟩
  | 125 => ⟨S8x129, .i32⟩
  | 126 => ⟨S8x129, .i32⟩
  | 127 => ⟨S_, .i32⟩
  | _ => ⟨S8x8x6144, .f32⟩

abbrev hbmTy0_1 (i : Nat) : BufTy := match i % 128 with
  | 0 => ⟨S8x129, .i32⟩
  | 1 => ⟨S8x129, .i1⟩
  | 2 => ⟨S_, .i32⟩
  | 3 => ⟨S8x129, .i32⟩
  | 4 => ⟨S8x129, .i32⟩
  | 5 => ⟨S_, .i32⟩
  | 6 => ⟨S8x129, .i32⟩
  | 7 => ⟨S8x129, .i1⟩
  | 8 => ⟨S_, .i32⟩
  | 9 => ⟨S8x129, .i32⟩
  | 10 => ⟨S8x129, .i32⟩
  | 11 => ⟨S8x129, .i32⟩
  | 12 => ⟨S8x129x1, .i32⟩
  | 13 => ⟨S8x8x129x4x128, .f32⟩
  | 14 => ⟨S_, .i32⟩
  | 15 => ⟨S8x129, .i32⟩
  | 16 => ⟨S8x129, .i1⟩
  | 17 => ⟨S_, .i32⟩
  | 18 => ⟨S8x129, .i32⟩
  | 19 => ⟨S8x129, .i32⟩
  | 20 => ⟨S8x129, .i32⟩
  | 21 => ⟨S8x129x1, .i32⟩
  | 22 => ⟨S8x8x129x4x128, .f32⟩
  | 23 => ⟨S8x8x1x4x4x128, .f32⟩
  | 24 => ⟨S8x8x4x4x128, .f32⟩
  | 25 => ⟨S8x8x4x4x129, .f32⟩
  | 26 => ⟨S_, .f32⟩
  | 27 => ⟨S8x8x4x4x129, .f32⟩
  | 28 => ⟨S8x8x4x4x129, .f32⟩
  | 29 => ⟨S_, .i32⟩
  | 30 => ⟨S129, .i32⟩
  | 31 => ⟨S129, .i32⟩
  | 32 => ⟨S_, .i32⟩
  | 33 => ⟨S129, .i32⟩
  | 34 => ⟨S129, .i32⟩
  | 35 => ⟨S129, .f32⟩
  | 36 => ⟨S_, .f32⟩
  | 37 => ⟨S129, .f32⟩
  | 38 => ⟨S129, .f32⟩
  | 39 => ⟨S129, .f32⟩
  | 40 => ⟨S_, .f32⟩
  | 41 => ⟨S129, .f32⟩
  | 42 => ⟨S129, .f32⟩
  | 43 => ⟨S_, .f32⟩
  | 44 => ⟨S129, .f32⟩
  | 45 => ⟨S129, .f32⟩
  | 46 => ⟨S129, .i32⟩
  | 47 => ⟨S_, .i32⟩
  | 48 => ⟨S129, .i32⟩
  | 49 => ⟨S129, .i32⟩
  | 50 => ⟨S_, .i32⟩
  | 51 => ⟨S129, .i32⟩
  | 52 => ⟨S129, .i1⟩
  | 53 => ⟨S_, .i32⟩
  | 54 => ⟨S129, .i32⟩
  | 55 => ⟨S129, .i32⟩
  | 56 => ⟨S129, .i32⟩
  | 57 => ⟨S_, .i32⟩
  | 58 => ⟨S129, .i32⟩
  | 59 => ⟨S129, .i1⟩
  | 60 => ⟨S_, .i32⟩
  | 61 => ⟨S129, .i32⟩
  | 62 => ⟨S129, .i32⟩
  | 63 => ⟨S129, .i32⟩
  | 64 => ⟨S129x1, .i32⟩
  | 65 => ⟨S129x16, .f32⟩
  | 66 => ⟨S16x129, .f32⟩
  | 67 => ⟨S4x4x129, .f32⟩
  | 68 => ⟨S1x8x1x1x129, .i1⟩
  | 69 => ⟨S1x1x4x4x129, .f32⟩
  | 70 => ⟨S8x8x4x4x129, .f32⟩
  | 71 => ⟨S8x8x4x4x129, .f32⟩
  | 72 => ⟨S_, .f32⟩
  | 73 => ⟨S_, .f32⟩
  | 74 => ⟨S8x8x4x4x129, .i1⟩
  | 75 => ⟨S8x8x4x4x129, .f32⟩
  | 76 => ⟨S8x8x4x4x129, .f32⟩
  | 77 => ⟨S_, .f32⟩
  | 78 => ⟨S8x8x4x4, .f32⟩
  | 79 => ⟨S8x8x4x4x1, .f32⟩
  | 80 => ⟨S8x8x4x4x129, .f32⟩
  | 81 => ⟨S8x8x4x4x129, .f32⟩
  | 82 => ⟨S8x8x4x4x129, .f32⟩
  | 83 => ⟨S_, .f32⟩
  | 84 => ⟨S8x8x4x4, .f32⟩
  | 85 => ⟨S8x8x4x4x128, .f32⟩
  | 86 => ⟨S8x8x4x4x1, .f32⟩
  | 87 => ⟨S8x8x4x4x128, .f32⟩
  | 88 => ⟨S8x8x4x4x128, .f32⟩
  | 89 => ⟨S8x8x4x4, .f32⟩
  | 90 => ⟨S8x8x4x4, .f32⟩
  | 91 => ⟨S8x8x4x4, .f32⟩
  | 92 => ⟨S129, .i32⟩
  | 93 => ⟨S_, .i32⟩
  | 94 => ⟨S129, .i32⟩
  | 95 => ⟨S129, .i32⟩
  | 96 => ⟨S8x1, .i32⟩
  | 97 => ⟨S1x129, .i32⟩
  | 98 => ⟨S8x129, .i32⟩
  | 99 => ⟨S8x129, .i32⟩
  | 100 => ⟨S8x129, .i32⟩
  | 101 => ⟨S_, .i32⟩
  | 102 => ⟨S8x129, .i32⟩
  | 103 => ⟨S8x129, .i1⟩
  | 104 => ⟨S_, .i32⟩
  | 105 => ⟨S8x129, .i32⟩
  | 106 => ⟨S8x129, .i32⟩
  | 107 => ⟨S_, .i32⟩
  | 108 => ⟨S8x129, .i32⟩
  | 109 => ⟨S8x129, .i1⟩
  | 110 => ⟨S_, .i32⟩
  | 111 => ⟨S8x129, .i32⟩
  | 112 => ⟨S8x129, .i32⟩
  | 113 => ⟨S8x129, .i32⟩
  | 114 => ⟨S8x129x1, .i32⟩
  | 115 => ⟨S8x8x129x4x128, .f32⟩
  | 116 => ⟨S_, .i32⟩
  | 117 => ⟨S8x129, .i32⟩
  | 118 => ⟨S8x129, .i1⟩
  | 119 => ⟨S_, .i32⟩
  | 120 => ⟨S8x129, .i32⟩
  | 121 => ⟨S8x129, .i32⟩
  | 122 => ⟨S8x129, .i32⟩
  | 123 => ⟨S8x129x1, .i32⟩
  | 124 => ⟨S8x8x129x4x128, .f32⟩
  | 125 => ⟨S8x8x1x4x4x128, .f32⟩
  | 126 => ⟨S8x8x4x4x128, .f32⟩
  | 127 => ⟨S8x8x4x4x129, .f32⟩
  | _ => ⟨S8x8x6144, .f32⟩

abbrev hbmTy0_2 (i : Nat) : BufTy := match i % 128 with
  | 0 => ⟨S_, .f32⟩
  | 1 => ⟨S8x8x4x4x129, .f32⟩
  | 2 => ⟨S8x8x4x4x129, .f32⟩
  | 3 => ⟨S_, .i32⟩
  | 4 => ⟨S129, .i32⟩
  | 5 => ⟨S129, .i32⟩
  | 6 => ⟨S_, .i32⟩
  | 7 => ⟨S129, .i32⟩
  | 8 => ⟨S129, .i32⟩
  | 9 => ⟨S129, .f32⟩
  | 10 => ⟨S_, .f32⟩
  | 11 => ⟨S129, .f32⟩
  | 12 => ⟨S129, .f32⟩
  | 13 => ⟨S129, .f32⟩
  | 14 => ⟨S_, .f32⟩
  | 15 => ⟨S129, .f32⟩
  | 16 => ⟨S129, .f32⟩
  | 17 => ⟨S_, .f32⟩
  | 18 => ⟨S129, .f32⟩
  | 19 => ⟨S129, .f32⟩
  | 20 => ⟨S129, .i32⟩
  | 21 => ⟨S_, .i32⟩
  | 22 => ⟨S129, .i32⟩
  | 23 => ⟨S129, .i32⟩
  | 24 => ⟨S_, .i32⟩
  | 25 => ⟨S129, .i32⟩
  | 26 => ⟨S129, .i1⟩
  | 27 => ⟨S_, .i32⟩
  | 28 => ⟨S129, .i32⟩
  | 29 => ⟨S129, .i32⟩
  | 30 => ⟨S129, .i32⟩
  | 31 => ⟨S_, .i32⟩
  | 32 => ⟨S129, .i32⟩
  | 33 => ⟨S129, .i1⟩
  | 34 => ⟨S_, .i32⟩
  | 35 => ⟨S129, .i32⟩
  | 36 => ⟨S129, .i32⟩
  | 37 => ⟨S129, .i32⟩
  | 38 => ⟨S129x1, .i32⟩
  | 39 => ⟨S129x16, .f32⟩
  | 40 => ⟨S16x129, .f32⟩
  | 41 => ⟨S4x4x129, .f32⟩
  | 42 => ⟨S1x8x1x1x129, .i1⟩
  | 43 => ⟨S1x1x4x4x129, .f32⟩
  | 44 => ⟨S8x8x4x4x129, .f32⟩
  | 45 => ⟨S8x8x4x4x129, .f32⟩
  | 46 => ⟨S_, .f32⟩
  | 47 => ⟨S_, .f32⟩
  | 48 => ⟨S8x8x4x4x129, .i1⟩
  | 49 => ⟨S8x8x4x4x129, .f32⟩
  | 50 => ⟨S8x8x4x4x129, .f32⟩
  | 51 => ⟨S_, .f32⟩
  | 52 => ⟨S8x8x4x4, .f32⟩
  | 53 => ⟨S8x8x4x4x1, .f32⟩
  | 54 => ⟨S8x8x4x4x129, .f32⟩
  | 55 => ⟨S8x8x4x4x129, .f32⟩
  | 56 => ⟨S8x8x4x4x129, .f32⟩
  | 57 => ⟨S_, .f32⟩
  | 58 => ⟨S8x8x4x4, .f32⟩
  | 59 => ⟨S8x8x4x4x128, .f32⟩
  | 60 => ⟨S8x8x4x4x1, .f32⟩
  | 61 => ⟨S8x8x4x4x128, .f32⟩
  | 62 => ⟨S8x8x4x4x128, .f32⟩
  | 63 => ⟨S8x8x4x4, .f32⟩
  | 64 => ⟨S8x8x4x4, .f32⟩
  | 65 => ⟨S8x8x4x4, .f32⟩
  | 66 => ⟨S1x8x8x4x4, .f32⟩
  | 67 => ⟨S1x8x8x4x4, .f32⟩
  | 68 => ⟨S1x8x8x4x4, .f32⟩
  | 69 => ⟨S3x8x8x4x4, .f32⟩
  | 70 => ⟨S_, .f32⟩
  | 71 => ⟨S8x8x4x4, .f32⟩
  | 72 => ⟨S_, .f32⟩
  | 73 => ⟨S8x8x4x4, .f32⟩
  | 74 => ⟨S8x8x4x4, .f32⟩
  | 75 => ⟨S1x8x8x4x4, .f32⟩
  | 76 => ⟨S3x8x8x4x4, .f32⟩
  | 77 => ⟨S3x8x8x4x4, .f32⟩
  | 78 => ⟨S3x8x8x4x4, .f32⟩
  | 79 => ⟨S_, .f32⟩
  | 80 => ⟨S8x8x4x4, .f32⟩
  | 81 => ⟨S1x8x8x4x4, .f32⟩
  | 82 => ⟨S3x8x8x4x4, .f32⟩
  | 83 => ⟨S3x8x8x4x4, .f32⟩
  | 84 => ⟨S1x8x8x4x4x128, .f32⟩
  | 85 => ⟨S1x8x8x4x4x128, .f32⟩
  | 86 => ⟨S1x8x8x4x4x128, .f32⟩
  | 87 => ⟨S3x8x8x4x4x128, .f32⟩
  | 88 => ⟨S8x8x4x4x128, .f32⟩
  | 89 => ⟨S8x8x2048, .f32⟩
  | 90 => ⟨S8x8x2048, .bf16⟩
  | _ => ⟨S8x8x6144, .f32⟩

abbrev hbmTy (i : Nat) : BufTy := match i / 128 with
  | 0 => hbmTy0_0 i
  | 1 => hbmTy0_1 i
  | 2 => hbmTy0_2 i
  | _ => ⟨S8x8x6144, .f32⟩

abbrev bufTy : (tb : Table) → Fin (tcTables nBuf tb) → BufTy
  | .hbm, ⟨i, _⟩ => hbmTy i
  | _, _ => ⟨S8x8x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_v57 : Ref sig .tc := ⟨.hbm, 78, rfl⟩
abbrev main_c_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_15 : Ref sig .tc := ⟨.hbm, 83, rfl⟩
abbrev main_v61 : Ref sig .tc := ⟨.hbm, 84, rfl⟩
abbrev main_v62 : Ref sig .tc := ⟨.hbm, 85, rfl⟩
abbrev main_c_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_17 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_19 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_20 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_21 : Ref sig .tc := ⟨.hbm, 127, rfl⟩
abbrev main_v96 : Ref sig .tc := ⟨.hbm, 128, rfl⟩
abbrev main_v97 : Ref sig .tc := ⟨.hbm, 129, rfl⟩
abbrev main_c_22 : Ref sig .tc := ⟨.hbm, 130, rfl⟩
abbrev main_v98 : Ref sig .tc := ⟨.hbm, 131, rfl⟩
abbrev main_v99 : Ref sig .tc := ⟨.hbm, 132, rfl⟩
abbrev main_c_23 : Ref sig .tc := ⟨.hbm, 133, rfl⟩
abbrev main_v100 : Ref sig .tc := ⟨.hbm, 134, rfl⟩
abbrev main_v101 : Ref sig .tc := ⟨.hbm, 135, rfl⟩
abbrev main_c_24 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_25 : Ref sig .tc := ⟨.hbm, 142, rfl⟩
abbrev main_v107 : Ref sig .tc := ⟨.hbm, 143, rfl⟩
abbrev main_v108 : Ref sig .tc := ⟨.hbm, 144, rfl⟩
abbrev main_c_26 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_27 : Ref sig .tc := ⟨.hbm, 154, rfl⟩
abbrev main_v117 : Ref sig .tc := ⟨.hbm, 155, rfl⟩
abbrev main_v118 : Ref sig .tc := ⟨.hbm, 156, rfl⟩
abbrev main_c_28 : Ref sig .tc := ⟨.hbm, 157, rfl⟩
abbrev main_v119 : Ref sig .tc := ⟨.hbm, 158, rfl⟩
abbrev main_v120 : Ref sig .tc := ⟨.hbm, 159, rfl⟩
abbrev main_c_29 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_30 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_31 : Ref sig .tc := ⟨.hbm, 168, rfl⟩
abbrev main_v127 : Ref sig .tc := ⟨.hbm, 169, rfl⟩
abbrev main_v128 : Ref sig .tc := ⟨.hbm, 170, rfl⟩
abbrev main_cst_32 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_33 : Ref sig .tc := ⟨.hbm, 175, rfl⟩
abbrev main_v132 : Ref sig .tc := ⟨.hbm, 176, rfl⟩
abbrev main_v133 : Ref sig .tc := ⟨.hbm, 177, rfl⟩
abbrev main_c_34 : Ref sig .tc := ⟨.hbm, 178, rfl⟩
abbrev main_v134 : Ref sig .tc := ⟨.hbm, 179, rfl⟩
abbrev main_v135 : Ref sig .tc := ⟨.hbm, 180, rfl⟩
abbrev main_c_35 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_c_36 : Ref sig .tc := ⟨.hbm, 185, rfl⟩
abbrev main_v139 : Ref sig .tc := ⟨.hbm, 186, rfl⟩
abbrev main_v140 : Ref sig .tc := ⟨.hbm, 187, rfl⟩
abbrev main_c_37 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_38 : Ref sig .tc := ⟨.hbm, 200, rfl⟩
abbrev main_call3_v0 : Ref sig .tc := ⟨.hbm, 201, rfl⟩
abbrev main_call3_v1 : Ref sig .tc := ⟨.hbm, 202, rfl⟩
abbrev main_call3_v2 : Ref sig .tc := ⟨.hbm, 203, rfl⟩
abbrev main_v152 : Ref sig .tc := ⟨.hbm, 204, rfl⟩
abbrev main_cst_39 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_cst_40 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_c_41 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_c_42 : Ref sig .tc := ⟨.hbm, 229, rfl⟩
abbrev main_v174 : Ref sig .tc := ⟨.hbm, 230, rfl⟩
abbrev main_v175 : Ref sig .tc := ⟨.hbm, 231, rfl⟩
abbrev main_c_43 : Ref sig .tc := ⟨.hbm, 232, rfl⟩
abbrev main_v176 : Ref sig .tc := ⟨.hbm, 233, rfl⟩
abbrev main_v177 : Ref sig .tc := ⟨.hbm, 234, rfl⟩
abbrev main_c_44 : Ref sig .tc := ⟨.hbm, 235, rfl⟩
abbrev main_v178 : Ref sig .tc := ⟨.hbm, 236, rfl⟩
abbrev main_v179 : Ref sig .tc := ⟨.hbm, 237, rfl⟩
abbrev main_c_45 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_c_46 : Ref sig .tc := ⟨.hbm, 244, rfl⟩
abbrev main_v185 : Ref sig .tc := ⟨.hbm, 245, rfl⟩
abbrev main_v186 : Ref sig .tc := ⟨.hbm, 246, rfl⟩
abbrev main_c_47 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_cst_48 : Ref sig .tc := ⟨.hbm, 256, rfl⟩
abbrev main_v195 : Ref sig .tc := ⟨.hbm, 257, rfl⟩
abbrev main_v196 : Ref sig .tc := ⟨.hbm, 258, rfl⟩
abbrev main_c_49 : Ref sig .tc := ⟨.hbm, 259, rfl⟩
abbrev main_v197 : Ref sig .tc := ⟨.hbm, 260, rfl⟩
abbrev main_v198 : Ref sig .tc := ⟨.hbm, 261, rfl⟩
abbrev main_c_50 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_cst_51 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_cst_52 : Ref sig .tc := ⟨.hbm, 270, rfl⟩
abbrev main_v205 : Ref sig .tc := ⟨.hbm, 271, rfl⟩
abbrev main_v206 : Ref sig .tc := ⟨.hbm, 272, rfl⟩
abbrev main_cst_53 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_c_54 : Ref sig .tc := ⟨.hbm, 277, rfl⟩
abbrev main_v210 : Ref sig .tc := ⟨.hbm, 278, rfl⟩
abbrev main_v211 : Ref sig .tc := ⟨.hbm, 279, rfl⟩
abbrev main_c_55 : Ref sig .tc := ⟨.hbm, 280, rfl⟩
abbrev main_v212 : Ref sig .tc := ⟨.hbm, 281, rfl⟩
abbrev main_v213 : Ref sig .tc := ⟨.hbm, 282, rfl⟩
abbrev main_c_56 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_c_57 : Ref sig .tc := ⟨.hbm, 287, rfl⟩
abbrev main_v217 : Ref sig .tc := ⟨.hbm, 288, rfl⟩
abbrev main_v218 : Ref sig .tc := ⟨.hbm, 289, rfl⟩
abbrev main_c_58 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_cst_59 : Ref sig .tc := ⟨.hbm, 302, rfl⟩
abbrev main_call5_v0 : Ref sig .tc := ⟨.hbm, 303, rfl⟩
abbrev main_call5_v1 : Ref sig .tc := ⟨.hbm, 304, rfl⟩
abbrev main_call5_v2 : Ref sig .tc := ⟨.hbm, 305, rfl⟩
abbrev main_v230 : Ref sig .tc := ⟨.hbm, 306, rfl⟩
abbrev main_cst_60 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_cst_61 : Ref sig .tc := ⟨.hbm, 313, rfl⟩
abbrev main_v236 : Ref sig .tc := ⟨.hbm, 314, rfl⟩
abbrev main_v237 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_cst_62 : Ref sig .tc := ⟨.hbm, 326, rfl⟩
abbrev main_v248 : Ref sig .tc := ⟨.hbm, 327, rfl⟩
abbrev main_cst_63 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_cst_64 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x2048x11008 : Shape := ⟨3, ![4, 2048, 11008]⟩
abbrev S4x3x5504 : Shape := ⟨3, ![4, 3, 5504]⟩
abbrev S4x5504 : Shape := ⟨2, ![4, 5504]⟩
abbrev S4x2048x5504 : Shape := ⟨3, ![4, 2048, 5504]⟩
abbrev S_ : Shape := ⟨0, ![]⟩
abbrev S4x2048x5632 : Shape := ⟨3, ![4, 2048, 5632]⟩
abbrev S4x3x5632 : Shape := ⟨3, ![4, 3, 5632]⟩
abbrev S4x5632 : Shape := ⟨2, ![4, 5632]⟩
abbrev S4x1x5632 : Shape := ⟨3, ![4, 1, 5632]⟩
abbrev S8192x2048 : Shape := ⟨2, ![8192, 2048]⟩
abbrev S8192x5632 : Shape := ⟨2, ![8192, 5632]⟩
abbrev S8x2x5632 : Shape := ⟨3, ![8, 2, 5632]⟩
abbrev S1024x2048 : Shape := ⟨2, ![1024, 2048]⟩
abbrev S16x2048 : Shape := ⟨2, ![16, 2048]⟩
abbrev S1x2048x512 : Shape := ⟨3, ![1, 2048, 512]⟩
abbrev S1x3x512 : Shape := ⟨3, ![1, 3, 512]⟩
abbrev S1x1x512 : Shape := ⟨3, ![1, 1, 512]⟩
abbrev S1024x512 : Shape := ⟨2, ![1024, 512]⟩
abbrev S1x2x512 : Shape := ⟨3, ![1, 2, 512]⟩
abbrev S1040x2048 : Shape := ⟨2, ![1040, 2048]⟩
abbrev S2048x512 : Shape := ⟨2, ![2048, 512]⟩
abbrev S1040x512 : Shape := ⟨2, ![1040, 512]⟩
abbrev S3x512 : Shape := ⟨2, ![3, 512]⟩
abbrev S1x512 : Shape := ⟨2, ![1, 512]⟩
abbrev S2x512 : Shape := ⟨2, ![2, 512]⟩

abbrev nBuf : Space → Nat
  | .hbm => 25
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S4x2048x11008, .f32⟩
  | .hbm, ⟨2, _⟩ => ⟨S4x3x5504, .f32⟩
  | .hbm, ⟨3, _⟩ => ⟨S4x5504, .f32⟩
  | .hbm, ⟨4, _⟩ => ⟨S4x2048x5504, .f32⟩
  | .hbm, ⟨5, _⟩ => ⟨S_, .i32⟩
  | .hbm, ⟨6, _⟩ => ⟨S_, .f32⟩
  | .hbm, ⟨7, _⟩ => ⟨S4x2048x5632, .f32⟩
  | .hbm, ⟨8, _⟩ => ⟨S4x2048x5632, .bf16⟩
  | .hbm, ⟨9, _⟩ => ⟨S4x2048x5504, .f32⟩
  | .hbm, ⟨10, _⟩ => ⟨S_, .i32⟩
  | .hbm, ⟨11, _⟩ => ⟨S_, .f32⟩
  | .hbm, ⟨12, _⟩ => ⟨S4x2048x5632, .f32⟩
  | .hbm, ⟨13, _⟩ => ⟨S4x2048x5632, .bf16⟩
  | .hbm, ⟨14, _⟩ => ⟨S_, .i32⟩
  | .hbm, ⟨15, _⟩ => ⟨S_, .f32⟩
  | .hbm, ⟨16, _⟩ => ⟨S4x3x5632, .f32⟩
  | .hbm, ⟨17, _⟩ => ⟨S_, .i32⟩
  | .hbm, ⟨18, _⟩ => ⟨S_, .f32⟩
  | .hbm, ⟨19, _⟩ => ⟨S4x5632, .f32⟩
  | .hbm, ⟨20, _⟩ => ⟨S4x1x5632, .f32⟩
  | .hbm, ⟨21, _⟩ => ⟨S8192x2048, .f32⟩
  | .hbm, ⟨22, _⟩ => ⟨S8192x2048, .bf16⟩
  | .hbm, ⟨23, _⟩ => ⟨S8192x5632, .bf16⟩
  | .hbm, ⟨24, _⟩ => ⟨S8x2x5632, .f32⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x3x512, .f32⟩
  | .local _ .vmem, ⟨9, _⟩ => ⟨S1x3x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .bf16⟩
  | .local _ .vmem, ⟨13, _⟩ => ⟨S1024x512, .bf16⟩
  | .local _ .vmem, ⟨14, _⟩ => ⟨S1x2x512, .f32⟩
  | .local _ .vmem, ⟨15, _⟩ => ⟨S1x2x512, .f32⟩
  | .local _ .vmem, ⟨16, _⟩ => ⟨S1040x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_c_2 : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x2048x2048 : Shape := ⟨3, ![4, 2048, 2048]⟩
abbrev S4x2048x11008 : Shape := ⟨3, ![4, 2048, 11008]⟩
abbrev S4x3x5504 : Shape := ⟨3, ![4, 3, 5504]⟩
abbrev S4x5504 : Shape := ⟨2, ![4, 5504]⟩
abbrev S1x2048x11008 : Shape := ⟨3, ![1, 2048, 11008]⟩
abbrev S2048x11008 : Shape := ⟨2, ![2048, 11008]⟩
abbrev S1x3x5504 : Shape := ⟨3, ![1, 3, 5504]⟩
abbrev S3x5504 : Shape := ⟨2, ![3, 5504]⟩
abbrev S1x5504 : Shape := ⟨2, ![1, 5504]⟩
abbrev S5504 : Shape := ⟨1, ![5504]⟩
abbrev S_ : Shape := ⟨0, ![]⟩
abbrev S4x2x5504 : Shape := ⟨3, ![4, 2, 5504]⟩
abbrev S4x2048x5504 : Shape := ⟨3, ![4, 2048, 5504]⟩
abbrev S4x2050x5504 : Shape := ⟨3, ![4, 2050, 5504]⟩
abbrev S1x1x5504 : Shape := ⟨3, ![1, 1, 5504]⟩
abbrev S8192x5504 : Shape := ⟨2, ![8192, 5504]⟩
abbrev S8x1024x5504 : Shape := ⟨3, ![8, 1024, 5504]⟩
abbrev S8x2x5504 : Shape := ⟨3, ![8, 2, 5504]⟩
abbrev S8192x5632 : Shape := ⟨2, ![8192, 5632]⟩
abbrev S8x2x5632 : Shape := ⟨3, ![8, 2, 5632]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x11008, .f32⟩
  | .hbm, ⟨2, _⟩ => ⟨S4x3x5504, .f32⟩
  | .hbm, ⟨3, _⟩ => ⟨S4x5504, .f32⟩
  | .hbm, ⟨4, _⟩ => ⟨S1x2048x11008, .f32⟩
  | .hbm, ⟨5, _⟩ => ⟨S2048x11008, .f32⟩
  | .hbm, ⟨6, _⟩ => ⟨S1x3x5504, .f32⟩
  | .hbm, ⟨7, _⟩ => ⟨S3x5504, .f32⟩
  | .hbm, ⟨8, _⟩ => ⟨S1x5504, .f32⟩
  | .hbm, ⟨9, _⟩ => ⟨S5504, .f32⟩
  | .hbm, ⟨10, _⟩ => ⟨S_, .f32⟩
  | .hbm, ⟨11, _⟩ => ⟨S4x2x5504, .f32⟩
  | .hbm, ⟨12, _⟩ => ⟨S4x2048x11008, .f32⟩
  | .hbm, ⟨13, _⟩ => ⟨S4x2048x5504, .f32⟩
  | .hbm, ⟨14, _⟩ => ⟨S4x2048x5504, .f32⟩
  | .hbm, ⟨15, _⟩ => ⟨S4x2050x5504, .f32⟩
  | .hbm, ⟨16, _⟩ => ⟨S4x2048x5504, .f32⟩
  | .hbm, ⟨17, _⟩ => ⟨S1x5504, .f32⟩
  | .hbm, ⟨18, _⟩ => ⟨S5504, .f32⟩
  | .hbm, ⟨19, _⟩ => ⟨S1x1x5504, .f32⟩
  | .hbm, ⟨20, _⟩ => ⟨S4x2048x5504, .f32⟩
  | .hbm, ⟨21, _⟩ => ⟨S4x2048x5504, .f32⟩
  | .hbm, ⟨22, _⟩ => ⟨S_, .f32⟩
  | .hbm, ⟨23, _⟩ => ⟨S4x2048x5504, .f32⟩
  | .hbm, ⟨24, _⟩ => ⟨S4x2048x5504, .f32⟩
  | .hbm, ⟨25, _⟩ => ⟨S4x2048x5504, .f32⟩
  | .hbm, ⟨26, _⟩ => ⟨S1x5504, .f32⟩
  | .hbm, ⟨27, _⟩ => ⟨S5504, .f32⟩
  | .hbm, ⟨28, _⟩ => ⟨S1x1x5504, .f32⟩
  | .hbm, ⟨29, _⟩ => ⟨S4x2048x5504, .f32⟩
  | .hbm, ⟨30, _⟩ => ⟨S4x2048x5504, .f32⟩
  | .hbm, ⟨31, _⟩ => ⟨S4x2048x5504, .f32⟩
  | .hbm, ⟨32, _⟩ => ⟨S4x2048x5504, .f32⟩
  | .hbm, ⟨33, _⟩ => ⟨S1x5504, .f32⟩
  | .hbm, ⟨34, _⟩ => ⟨S5504, .f32⟩
  | .hbm, ⟨35, _⟩ => ⟨S1x1x5504, .f32⟩
  | .hbm, ⟨36, _⟩ => ⟨S4x2048x5504, .f32⟩
  | .hbm, ⟨37, _⟩ => ⟨S4x2048x5504, .f32⟩
  | .hbm, ⟨38, _⟩ => ⟨S4x2048x5504, .f32⟩
  | .hbm, ⟨39, _⟩ => ⟨S1x1x5504, .f32⟩
  | .hbm, ⟨40, _⟩ => ⟨S4x2048x5504, .f32⟩
  | .hbm, ⟨41, _⟩ => ⟨S4x2048x5504, .f32⟩
  | .hbm, ⟨42, _⟩ => ⟨S4x2048x5504, .f32⟩
  | .hbm, ⟨43, _⟩ => ⟨S4x2048x5504, .f32⟩
  | .hbm, ⟨44, _⟩ => ⟨S_, .f32⟩
  | .hbm, ⟨45, _⟩ => ⟨S4x2048x5504, .f32⟩
  | .hbm, ⟨46, _⟩ => ⟨S4x2048x5504, .f32⟩
  | .hbm, ⟨47, _⟩ => ⟨S_, .f32⟩
  | .hbm, ⟨48, _⟩ => ⟨S4x2048x5504, .f32⟩
  | .hbm, ⟨49, _⟩ => ⟨S4x2048x5504, .f32⟩
  | .hbm, ⟨50, _⟩ => ⟨S4x2048x5504, .f32⟩
  | .hbm, ⟨51, _⟩ => ⟨S4x2048x5504, .f32⟩
  | .hbm, ⟨52, _⟩ => ⟨S8192x5504, .f32⟩
  | .hbm, ⟨53, _⟩ => ⟨S8x1024x5504, .f32⟩
  | .hbm, ⟨54, _⟩ => ⟨S8x2x5504, .f32⟩
  | .hbm, ⟨55, _⟩ => ⟨S_, .i32⟩
  | .hbm, ⟨56, _⟩ => ⟨S_, .f32⟩
  | .hbm, ⟨57, _⟩ => ⟨S8192x5632, .f32⟩
  | .hbm, ⟨58, _⟩ => ⟨S8192x5632, .bf16⟩
  | .hbm, ⟨59, _⟩ => ⟨S_, .i32⟩
  | .hbm, ⟨60, _⟩ => ⟨S_, .f32⟩
  | .hbm, ⟨61, _⟩ => ⟨S8x2x5632, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call1_v0 : Ref sig .tc := ⟨.hbm, 56, rfl⟩
abbrev main_v41 : Ref sig .tc := ⟨.hbm, 57, rfl⟩
abbrev main_v42 : Ref sig .tc := ⟨.hbm, 58, rfl⟩
abbrev main_c_1 : Ref sig .tc := ⟨.hbm, 59, rfl⟩
abbrev main_call2_v0 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel3.lean ====
abbrev S8192x5632 : Shape := ⟨2, ![8192, 5632]⟩
abbrev S4x5504x2048 : Shape := ⟨3, ![4, 5504, 2048]⟩
abbrev S8192x2048 : Shape := ⟨2, ![8192, 2048]⟩
abbrev S4x2x2048 : Shape := ⟨3, ![4, 2, 2048]⟩
abbrev S_ : Shape := ⟨0, ![]⟩
abbrev S4x5632x2048 : Shape := ⟨3, ![4, 5632, 2048]⟩
abbrev S1x1x2048 : Shape := ⟨3, ![1, 1, 2048]⟩
abbrev S2048 : Shape := ⟨1, ![2048]⟩
abbrev S1x2048 : Shape := ⟨2, ![1, 2048]⟩
abbrev S512x2816 : Shape := ⟨2, ![512, 2816]⟩
abbrev S1x2816x2048 : Shape := ⟨3, ![1, 2816, 2048]⟩
abbrev S512x2048 : Shape := ⟨2, ![512, 2048]⟩
abbrev S2816x2048 : Shape := ⟨2, ![2816, 2048]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S4x5504x2048, .f32⟩
  | .hbm, ⟨2, _⟩ => ⟨S8192x2048, .f32⟩
  | .hbm, ⟨3, _⟩ => ⟨S4x2x2048, .f32⟩
  | .hbm, ⟨4, _⟩ => ⟨S4x2x2048, .f32⟩
  | .hbm, ⟨5, _⟩ => ⟨S_, .i32⟩
  | .hbm, ⟨6, _⟩ => ⟨S_, .f32⟩
  | .hbm, ⟨7, _⟩ => ⟨S4x5632x2048, .f32⟩
  | .hbm, ⟨8, _⟩ => ⟨S4x5632x2048, .bf16⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S8192x2048, .f32⟩
  | .hbm, ⟨16, _⟩ => ⟨S8192x2048, .bf16⟩
  | .local _ .vmem, ⟨0, _⟩ => ⟨S512x2816, .bf16⟩
  | .local _ .vmem, ⟨1, _⟩ => ⟨S512x2816, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel3Ideal.lean ====
abbrev S8192x5632 : Shape := ⟨2, ![8192, 5632]⟩
abbrev S4x5504x2048 : Shape := ⟨3, ![4, 5504, 2048]⟩
abbrev S8192x2048 : Shape := ⟨2, ![8192, 2048]⟩
abbrev S4x2x2048 : Shape := ⟨3, ![4, 2, 2048]⟩
abbrev S_ : Shape := ⟨0, ![]⟩
abbrev S4x5632x2048 : Shape := ⟨3, ![4, 5632, 2048]⟩
abbrev S1x1x2048 : Shape := ⟨3, ![1, 1, 2048]⟩
abbrev S2048 : Shape := ⟨1, ![2048]⟩
abbrev S1x2048 : Shape := ⟨2, ![1, 2048]⟩
abbrev S512x2816 : Shape := ⟨2, ![512, 2816]⟩
abbrev S1x2816x2048 : Shape := ⟨3, ![1, 2816, 2048]⟩
abbrev S512x2048 : Shape := ⟨2, ![512, 2048]⟩
abbrev S2816x2048 : Shape := ⟨2, ![2816, 2048]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S4x5504x2048, .f32⟩
  | .hbm, ⟨2, _⟩ => ⟨S8192x2048, .f32⟩
  | .hbm, ⟨3, _⟩ => ⟨S4x2x2048, .f32⟩
  | .hbm, ⟨4, _⟩ => ⟨S4x2x2048, .f32⟩
  | .hbm, ⟨5, _⟩ => ⟨S_, .i32⟩
  | .hbm, ⟨6, _⟩ => ⟨S_, .f32⟩
  | .hbm, ⟨7, _⟩ => ⟨S4x5632x2048, .f32⟩
  | .hbm, ⟨8, _⟩ => ⟨S4x5632x2048, .bf16⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S8192x2048, .f32⟩
  | .hbm, ⟨16, _⟩ => ⟨S8192x2048, .bf16⟩
  | .local _ .vmem, ⟨0, _⟩ => ⟨S512x2816, .bf16⟩
  | .local _ .vmem, ⟨1, _⟩ => ⟨S512x2816, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S8192x5632 : Shape := ⟨2, ![8192, 5632]⟩
abbrev S4x5504x2048 : Shape := ⟨3, ![4, 5504, 2048]⟩
abbrev S8192x2048 : Shape := ⟨2, ![8192, 2048]⟩
abbrev S4x2x2048 : Shape := ⟨3, ![4, 2, 2048]⟩
abbrev S8192x5504 : Shape := ⟨2, ![8192, 5504]⟩
abbrev S1x5504x2048 : Shape := ⟨3, ![1, 5504, 2048]⟩
abbrev S5504x2048 : Shape := ⟨2, ![5504, 2048]⟩
abbrev S_ : Shape := ⟨0, ![]⟩
abbrev S1x1x2048 : Shape := ⟨3, ![1, 1, 2048]⟩
abbrev S2048 : Shape := ⟨1, ![2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x5504x2048, .f32⟩
  | .hbm, ⟨2, _⟩ => ⟨S8192x2048, .f32⟩
  | .hbm, ⟨3, _⟩ => ⟨S4x2x2048, .f32⟩
  | .hbm, ⟨4, _⟩ => ⟨S4x2x2048, .f32⟩
  | .hbm, ⟨5, _⟩ => ⟨S8192x5504, .bf16⟩
  | .hbm, ⟨6, _⟩ => ⟨S8192x5504, .f32⟩
  | .hbm, ⟨7, _⟩ => ⟨S1x5504x2048, .f32⟩
  | .hbm, ⟨8, _⟩ => ⟨S5504x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S1x1x2048, .f32⟩
  | .hbm, ⟨15, _⟩ => ⟨S2048, .f32⟩
  | .hbm, ⟨16, _⟩ => ⟨S1x1x2048, .f32⟩
  | .hbm, ⟨17, _⟩ => ⟨S2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S1x2048, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel4.lean ====
abbrev S8192x2048 : Shape := ⟨2, ![8192, 2048]⟩
abbrev S2x2048x2048 : Shape := ⟨3, ![2, 2048, 2048]⟩
abbrev S4x2x2048 : Shape := ⟨3, ![4, 2, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x2x2048, .f32⟩
  | .hbm, ⟨4, _⟩ => ⟨S4x2x2048, .f32⟩
  | .hbm, ⟨5, _⟩ => ⟨S2x2048x2048, .bf16⟩
  | .hbm, ⟨6, _⟩ => ⟨S1x1x2048, .f32⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel4Ideal.lean ====
abbrev S8192x2048 : Shape := ⟨2, ![8192, 2048]⟩
abbrev S2x2048x2048 : Shape := ⟨3, ![2, 2048, 2048]⟩
abbrev S4x2x2048 : Shape := ⟨3, ![4, 2, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x2x2048, .f32⟩
  | .hbm, ⟨4, _⟩ => ⟨S4x2x2048, .f32⟩
  | .hbm, ⟨5, _⟩ => ⟨S2x2048x2048, .bf16⟩
  | .hbm, ⟨6, _⟩ => ⟨S1x1x2048, .f32⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8192x2048 : Shape := ⟨2, ![8192, 2048]⟩
abbrev S2x2048x2048 : Shape := ⟨3, ![2, 2048, 2048]⟩
abbrev S4x2x2048 : Shape := ⟨3, ![4, 2, 2048]⟩
abbrev S1x2048x2048 : Shape := ⟨3, ![1, 2048, 2048]⟩
abbrev S2048x2048 : Shape := ⟨2, ![2048, 2048]⟩
abbrev S_ : Shape := ⟨0, ![]⟩
abbrev S1x1x2048 : Shape := ⟨3, ![1, 1, 2048]⟩
abbrev S2048 : Shape := ⟨1, ![2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x2x2048, .f32⟩
  | .hbm, ⟨4, _⟩ => ⟨S4x2x2048, .f32⟩
  | .hbm, ⟨5, _⟩ => ⟨S8192x2048, .f32⟩
  | .hbm, ⟨6, _⟩ => ⟨S1x2048x2048, .f32⟩
  | .hbm, ⟨7, _⟩ => ⟨S2048x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S4x2048x2048 : Shape := ⟨3, ![4, 2048, 2048]⟩
abbrev S2x2048x4176 : Shape := ⟨3, ![2, 2048, 4176]⟩
abbrev S_ : Shape := ⟨0, ![]⟩
abbrev S2x2048x4608 : Shape := ⟨3, ![2, 2048, 4608]⟩
abbrev S8192x2048 : Shape := ⟨2, ![8192, 2048]⟩
abbrev S8192x4608 : Shape := ⟨2, ![8192, 4608]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x4176, .f32⟩
  | .hbm, ⟨2, _⟩ => ⟨S_, .i32⟩
  | .hbm, ⟨3, _⟩ => ⟨S_, .f32⟩
  | .hbm, ⟨4, _⟩ => ⟨S2x2048x4608, .f32⟩
  | .hbm, ⟨5, _⟩ => ⟨S2x2048x4608, .bf16⟩
  | .hbm, ⟨6, _⟩ => ⟨S8192x2048, .f32⟩
  | .hbm, ⟨7, _⟩ => ⟨S8192x2048, .bf16⟩
  | .hbm, ⟨8, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel5Ideal.lean ====
abbrev S4x2048x2048 : Shape := ⟨3, ![4, 2048, 2048]⟩
abbrev S2x2048x4176 : Shape := ⟨3, ![2, 2048, 4176]⟩
abbrev S_ : Shape := ⟨0, ![]⟩
abbrev S2x2048x4608 : Shape := ⟨3, ![2, 2048, 4608]⟩
abbrev S8192x2048 : Shape := ⟨2, ![8192, 2048]⟩
abbrev S8192x4608 : Shape := ⟨2, ![8192, 4608]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x4176, .f32⟩
  | .hbm, ⟨2, _⟩ => ⟨S_, .i32⟩
  | .hbm, ⟨3, _⟩ => ⟨S_, .f32⟩
  | .hbm, ⟨4, _⟩ => ⟨S2x2048x4608, .f32⟩
  | .hbm, ⟨5, _⟩ => ⟨S2x2048x4608, .bf16⟩
  | .hbm, ⟨6, _⟩ => ⟨S8192x2048, .f32⟩
  | .hbm, ⟨7, _⟩ => ⟨S8192x2048, .bf16⟩
  | .hbm, ⟨8, _⟩ => ⟨S8192x4608, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4x2048x2048 : Shape := ⟨3, ![4, 2048, 2048]⟩
abbrev S2x2048x4176 : Shape := ⟨3, ![2, 2048, 4176]⟩
abbrev S1x2048x4176 : Shape := ⟨3, ![1, 2048, 4176]⟩
abbrev S2048x4176 : Shape := ⟨2, ![2048, 4176]⟩
abbrev S4x2048x4176 : Shape := ⟨3, ![4, 2048, 4176]⟩
abbrev S8192x4176 : Shape := ⟨2, ![8192, 4176]⟩
abbrev S_ : Shape := ⟨0, ![]⟩
abbrev S8192x4608 : Shape := ⟨2, ![8192, 4608]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x4176, .f32⟩
  | .hbm, ⟨2, _⟩ => ⟨S1x2048x4176, .f32⟩
  | .hbm, ⟨3, _⟩ => ⟨S2048x4176, .f32⟩
  | .hbm, ⟨4, _⟩ => ⟨S4x2048x4176, .f32⟩
  | .hbm, ⟨5, _⟩ => ⟨S8192x4176, .f32⟩
  | .hbm, ⟨6, _⟩ => ⟨S_, .i32⟩
  | .hbm, ⟨7, _⟩ => ⟨S_, .f32⟩
  | .hbm, ⟨8, _⟩ => ⟨S8192x4608, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S4x2048x2048 : Shape := ⟨3, ![4, 2048, 2048]⟩
abbrev S2x2048x6144 : Shape := ⟨3, ![2, 2048, 6144]⟩
abbrev S8192x2048 : Shape := ⟨2, ![8192, 2048]⟩
abbrev S8192x6144 : Shape := ⟨2, ![8192, 6144]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x6144, .f32⟩
  | .hbm, ⟨2, _⟩ => ⟨S8192x2048, .f32⟩
  | .hbm, ⟨3, _⟩ => ⟨S8192x2048, .bf16⟩
  | .hbm, ⟨4, _⟩ => ⟨S2x2048x6144, .bf16⟩
  | .hbm, ⟨5, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel6Ideal.lean ====
abbrev S4x2048x2048 : Shape := ⟨3, ![4, 2048, 2048]⟩
abbrev S2x2048x6144 : Shape := ⟨3, ![2, 2048, 6144]⟩
abbrev S8192x2048 : Shape := ⟨2, ![8192, 2048]⟩
abbrev S8192x6144 : Shape := ⟨2, ![8192, 6144]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x6144, .f32⟩
  | .hbm, ⟨2, _⟩ => ⟨S8192x2048, .f32⟩
  | .hbm, ⟨3, _⟩ => ⟨S8192x2048, .bf16⟩
  | .hbm, ⟨4, _⟩ => ⟨S2x2048x6144, .bf16⟩
  | .hbm, ⟨5, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4x2048x2048 : Shape := ⟨3, ![4, 2048, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S4x2048x6144 : Shape := ⟨3, ![4, 2048, 6144]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x6144, .f32⟩
  | .hbm, ⟨2, _⟩ => ⟨S1x2048x6144, .f32⟩
  | .hbm, ⟨3, _⟩ => ⟨S2048x6144, .f32⟩
  | .hbm, ⟨4, _⟩ => ⟨S4x2048x6144, .f32⟩
  | .hbm, ⟨5, _⟩ => ⟨S8192x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4x2048x2048 : Shape := ⟨3, ![4, 2048, 2048]⟩
abbrev S2048x1024 : Shape := ⟨2, ![2048, 1024]⟩
abbrev S8192x2048 : Shape := ⟨2, ![8192, 2048]⟩
abbrev S1x2048x1024 : Shape := ⟨3, ![1, 2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2048x1024, .f32⟩
  | .hbm, ⟨2, _⟩ => ⟨S8192x2048, .f32⟩
  | .hbm, ⟨3, _⟩ => ⟨S8192x2048, .bf16⟩
  | .hbm, ⟨4, _⟩ => ⟨S2048x1024, .bf16⟩
  | .hbm, ⟨5, _⟩ => ⟨S1x2048x1024, .bf16⟩
  | .hbm, ⟨6, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel7Ideal.lean ====
abbrev S4x2048x2048 : Shape := ⟨3, ![4, 2048, 2048]⟩
abbrev S2048x1024 : Shape := ⟨2, ![2048, 1024]⟩
abbrev S8192x2048 : Shape := ⟨2, ![8192, 2048]⟩
abbrev S1x2048x1024 : Shape := ⟨3, ![1, 2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2048x1024, .f32⟩
  | .hbm, ⟨2, _⟩ => ⟨S8192x2048, .f32⟩
  | .hbm, ⟨3, _⟩ => ⟨S8192x2048, .bf16⟩
  | .hbm, ⟨4, _⟩ => ⟨S2048x1024, .bf16⟩
  | .hbm, ⟨5, _⟩ => ⟨S1x2048x1024, .bf16⟩
  | .hbm, ⟨6, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4x2048x2048 : Shape := ⟨3, ![4, 2048, 2048]⟩
abbrev S2048x1024 : Shape := ⟨2, ![2048, 1024]⟩
abbrev S4x2048x1024 : Shape := ⟨3, ![4, 2048, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x1024, .f32⟩
  | .hbm, ⟨2, _⟩ => ⟨S4x2048x1024, .f32⟩
  | .hbm, ⟨3, _⟩ => ⟨S8192x1024, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8x8x2048 : Shape := ⟨3, ![8, 8, 2048]⟩
abbrev S2x2048x4176 : Shape := ⟨3, ![2, 2048, 4176]⟩
abbrev S_ : Shape := ⟨0, ![]⟩
abbrev S2x2048x4608 : Shape := ⟨3, ![2, 2048, 4608]⟩
abbrev S64x2048 : Shape := ⟨2, ![64, 2048]⟩
abbrev S64x4608 : Shape := ⟨2, ![64, 4608]⟩
abbrev S1x2048x1536 : Shape := ⟨3, ![1, 2048, 1536]⟩
abbrev S64x1536 : Shape := ⟨2, ![64, 1536]⟩
abbrev S2048x1536 : Shape := ⟨2, ![2048, 1536]⟩

abbrev nBuf : Space → Nat
  | .hbm => 9
  | .vmem => 5
  | .smem => 0
  | _ => 0

abbrev bufTy : (tb : Table) → Fin (tcTables nBuf tb) → BufTy
  | .hbm, ⟨0, _⟩ => ⟨S8x8x2048, .f32⟩
  | .hbm, ⟨1, _⟩ => ⟨S2x2048x4176, .f32⟩
  | .hbm, ⟨2, _⟩ => ⟨S_, .i32⟩
  | .hbm, ⟨3, _⟩ => ⟨S_, .f32⟩
  | .hbm, ⟨4, _⟩ => ⟨S2x2048x4608, .f32⟩
  | .hbm, ⟨5, _⟩ => ⟨S2x2048x4608, .bf16⟩
  | .hbm, ⟨6, _⟩ => ⟨S64x2048, .f32⟩
  | .hbm, ⟨7, _⟩ => ⟨S64x2048, .bf16⟩
  | .hbm, ⟨8, _⟩ => ⟨S64x4608, .f32⟩
  | .local _ .vmem, ⟨0, _⟩ => ⟨S64x2048, .bf16⟩
  | .local _ .vmem, ⟨1, _⟩ => ⟨S1x2048x1536, .bf16⟩
  | .local _ .vmem, ⟨2, _⟩ => ⟨S1x2048x1536, .bf16⟩
  | .local _ .vmem, ⟨3, _⟩ => ⟨S64x1536, .f32⟩
  | .local _ .vmem, ⟨4, _⟩ => ⟨S64x1536, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8x8x2048 : Shape := ⟨3, ![8, 8, 2048]⟩
abbrev S2x2048x4176 : Shape := ⟨3, ![2, 2048, 4176]⟩
abbrev S1x2048x4176 : Shape := ⟨3, ![1, 2048, 4176]⟩
abbrev S2048x4176 : Shape := ⟨2, ![2048, 4176]⟩
abbrev S8x8x4176 : Shape := ⟨3, ![8, 8, 4176]⟩
abbrev S64x4176 : Shape := ⟨2, ![64, 4176]⟩
abbrev S_ : Shape := ⟨0, ![]⟩
abbrev S64x4608 : Shape := ⟨2, ![64, 4608]⟩

abbrev nBuf : Space → Nat
  | .hbm => 9
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S2x2048x4176, .f32⟩
  | .hbm, ⟨2, _⟩ => ⟨S1x2048x4176, .f32⟩
  | .hbm, ⟨3, _⟩ => ⟨S2048x4176, .f32⟩
  | .hbm, ⟨4, _⟩ => ⟨S8x8x4176, .f32⟩
  | .hbm, ⟨5, _⟩ => ⟨S64x4176, .f32⟩
  | .hbm, ⟨6, _⟩ => ⟨S_, .i32⟩
  | .hbm, ⟨7, _⟩ => ⟨S_, .f32⟩
  | .hbm, ⟨8, _⟩ => ⟨S64x4608, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel9.lean ====
abbrev S8x8x2048 : Shape := ⟨3, ![8, 8, 2048]⟩
abbrev S2048x1024 : Shape := ⟨2, ![2048, 1024]⟩
abbrev S64x2048 : Shape := ⟨2, ![64, 2048]⟩
abbrev S1x2048x1024 : Shape := ⟨3, ![1, 2048, 1024]⟩
abbrev S64x1024 : Shape := ⟨2, ![64, 1024]⟩

abbrev nBuf : Space → Nat
  | .hbm => 7
  | .vmem => 3
  | .smem => 0
  | _ => 0

abbrev bufTy : (tb : Table) → Fin (tcTables nBuf tb) → BufTy
  | .hbm, ⟨0, _⟩ => ⟨S8x8x2048, .f32⟩
  | .hbm, ⟨1, _⟩ => ⟨S2048x1024, .f32⟩
  | .hbm, ⟨2, _⟩ => ⟨S64x2048, .f32⟩
  | .hbm, ⟨3, _⟩ => ⟨S64x2048, .bf16⟩
  | .hbm, ⟨4, _⟩ => ⟨S2048x1024, .bf16⟩
  | .hbm, ⟨5, _⟩ => ⟨S1x2048x1024, .bf16⟩
  | .hbm, ⟨6, _⟩ => ⟨S64x1024, .f32⟩
  | .local _ .vmem, ⟨0, _⟩ => ⟨S64x2048, .bf16⟩
  | .local _ .vmem, ⟨1, _⟩ => ⟨S1x2048x1024, .bf16⟩
  | .local _ .vmem, ⟨2, _⟩ => ⟨S64x1024, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference9Ideal.lean ====
abbrev S8x8x2048 : Shape := ⟨3, ![8, 8, 2048]⟩
abbrev S2048x1024 : Shape := ⟨2, ![2048, 1024]⟩
abbrev S8x8x1024 : Shape := ⟨3, ![8, 8, 1024]⟩
abbrev S64x1024 : Shape := ⟨2, ![64, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S2048x1024, .f32⟩
  | .hbm, ⟨2, _⟩ => ⟨S8x8x1024, .f32⟩
  | .hbm, ⟨3, _⟩ => ⟨S64x1024, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S64x5632 : Shape := ⟨2, ![64, 5632]⟩
abbrev S4x5504x2048 : Shape := ⟨3, ![4, 5504, 2048]⟩
abbrev S64x2048 : Shape := ⟨2, ![64, 2048]⟩
abbrev S4x2x2048 : Shape := ⟨3, ![4, 2, 2048]⟩
abbrev S_ : Shape := ⟨0, ![]⟩
abbrev S4x5632x2048 : Shape := ⟨3, ![4, 5632, 2048]⟩
abbrev S1x1x2048 : Shape := ⟨3, ![1, 1, 2048]⟩
abbrev S2048 : Shape := ⟨1, ![2048]⟩
abbrev S1x2048 : Shape := ⟨2, ![1, 2048]⟩
abbrev S64x2816 : Shape := ⟨2, ![64, 2816]⟩
abbrev S1x2816x2048 : Shape := ⟨3, ![1, 2816, 2048]⟩
abbrev S2816x2048 : Shape := ⟨2, ![2816, 2048]⟩
abbrev S64 : Shape := ⟨1, ![64]⟩
abbrev S64x1 : Shape := ⟨2, ![64, 1]⟩

abbrev nBuf : Space → Nat
  | .hbm => 17
  | .vmem => 9
  | .smem => 0
  | _ => 0

abbrev bufTy : (tb : Table) → Fin (tcTables nBuf tb) → BufTy
  | .hbm, ⟨0, _⟩ => ⟨S64x5632, .bf16⟩
  | .hbm, ⟨1, _⟩ => ⟨S4x5504x2048, .f32⟩
  | .hbm, ⟨2, _⟩ => ⟨S64x2048, .f32⟩
  | .hbm, ⟨3, _⟩ => ⟨S4x2x2048, .f32⟩
  | .hbm, ⟨4, _⟩ => ⟨S4x2x2048, .f32⟩
  | .hbm, ⟨5, _⟩ => ⟨S_, .i32⟩
  | .hbm, ⟨6, _⟩ => ⟨S_, .f32⟩
  | .hbm, ⟨7, _⟩ => ⟨S4x5632x2048, .f32⟩
  | .hbm, ⟨8, _⟩ => ⟨S4x5632x2048, .bf16⟩
  | .hbm, ⟨9, _⟩ => ⟨S1x1x2048, .f32⟩
  | .hbm, ⟨10, _⟩ => ⟨S2048, .f32⟩
  | .hbm, ⟨11, _⟩ => ⟨S1x1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S64x2048, .f32⟩
  | .hbm, ⟨16, _⟩ => ⟨S64x2048, .bf16⟩
  | .local _ .vmem, ⟨0, _⟩ => ⟨S64x2816, .bf16⟩
  | .local _ .vmem, ⟨1, _⟩ => ⟨S64x2816, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S64x2048, .f32⟩
  | .local _ .vmem, ⟨5, _⟩ => ⟨S1x2048, .f32⟩
  | .local _ .vmem, ⟨6, _⟩ => ⟨S1x2048, .f32⟩
  | .local _ .vmem, ⟨7, _⟩ => ⟨S64x2048, .f32⟩
  | .local _ .vmem, ⟨8, _⟩ => ⟨S64x2048, .bf16⟩
  | _, _ => ⟨S64x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S64x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference10Ideal.lean ====
abbrev S64x5632 : Shape := ⟨2, ![64, 5632]⟩
abbrev S4x5504x2048 : Shape := ⟨3, ![4, 5504, 2048]⟩
abbrev S64x2048 : Shape := ⟨2, ![64, 2048]⟩
abbrev S4x2x2048 : Shape := ⟨3, ![4, 2, 2048]⟩
abbrev S64x5504 : Shape := ⟨2, ![64, 5504]⟩
abbrev S1x5504x2048 : Shape := ⟨3, ![1, 5504, 2048]⟩
abbrev S5504x2048 : Shape := ⟨2, ![5504, 2048]⟩
abbrev S_ : Shape := ⟨0, ![]⟩
abbrev S1x1x2048 : Shape := ⟨3, ![1, 1, 2048]⟩
abbrev S2048 : Shape := ⟨1, ![2048]⟩
abbrev S64 : Shape := ⟨1, ![64]⟩
abbrev S64x1 : Shape := ⟨2, ![64, 1]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S64x5632, .bf16⟩
  | .hbm, ⟨1, _⟩ => ⟨S4x5504x2048, .f32⟩
  | .hbm, ⟨2, _⟩ => ⟨S64x2048, .f32⟩
  | .hbm, ⟨3, _⟩ => ⟨S4x2x2048, .f32⟩
  | .hbm, ⟨4, _⟩ => ⟨S4x2x2048, .f32⟩
  | .hbm, ⟨5, _⟩ => ⟨S64x5504, .bf16⟩
  | .hbm, ⟨6, _⟩ => ⟨S64x5504, .f32⟩
  | .hbm, ⟨7, _⟩ => ⟨S1x5504x2048, .f32⟩
  | .hbm, ⟨8, _⟩ => ⟨S5504x2048, .f32⟩
  | .hbm, ⟨9, _⟩ => ⟨S64x2048, .f32⟩
  | .hbm, ⟨10, _⟩ => ⟨S_, .f32⟩
  | .hbm, ⟨11, _⟩ => ⟨S64x2048, .f32⟩
  | .hbm, ⟨12, _⟩ => ⟨S64x2048, .f32⟩
  | .hbm, ⟨13, _⟩ => ⟨S64x2048, .f32⟩
  | .hbm, ⟨14, _⟩ => ⟨S1x1x2048, .f32⟩
  | .hbm, ⟨15, _⟩ => ⟨S2048, .f32⟩
  | .hbm, ⟨16, _⟩ => ⟨S1x1x2048, .f32⟩
  | .hbm, ⟨17, _⟩ => ⟨S2048, .f32⟩
  | .hbm, ⟨18, _⟩ => ⟨S_, .f32⟩
  | .hbm, ⟨19, _⟩ => ⟨S64, .f32⟩
  | .hbm, ⟨20, _⟩ => ⟨S64x1, .f32⟩
  | .hbm, ⟨21, _⟩ => ⟨S_, .f32⟩
  | .hbm, ⟨22, _⟩ => ⟨S64x1, .f32⟩
  | .hbm, ⟨23, _⟩ => ⟨S64x1, .f32⟩
  | .hbm, ⟨24, _⟩ => ⟨S64x2048, .f32⟩
  | .hbm, ⟨25, _⟩ => ⟨S64x2048, .f32⟩
  | .hbm, ⟨26, _⟩ => ⟨S64x2048, .f32⟩
  | .hbm, ⟨27, _⟩ => ⟨S_, .f32⟩
  | .hbm, ⟨28, _⟩ => ⟨S64, .f32⟩
  | .hbm, ⟨29, _⟩ => ⟨S64x1, .f32⟩
  | .hbm, ⟨30, _⟩ => ⟨S_, .f32⟩
  | .hbm, ⟨31, _⟩ => ⟨S64x1, .f32⟩
  | .hbm, ⟨32, _⟩ => ⟨S64x1, .f32⟩
  | .hbm, ⟨33, _⟩ => ⟨S64x2048, .f32⟩
  | .hbm, ⟨34, _⟩ => ⟨S64x2048, .f32⟩
  | .hbm, ⟨35, _⟩ => ⟨S_, .f32⟩
  | .hbm, ⟨36, _⟩ => ⟨S64x1, .f32⟩
  | .hbm, ⟨37, _⟩ => ⟨S64x1, .f32⟩
  | .hbm, ⟨38, _⟩ => ⟨S64x1, .f32⟩
  | .hbm, ⟨39, _⟩ => ⟨S64x2048, .f32⟩
  | .hbm, ⟨40, _⟩ => ⟨S64x2048, .f32⟩
  | .hbm, ⟨41, _⟩ => ⟨S1x2048, .f32⟩
  | .hbm, ⟨42, _⟩ => ⟨S64x2048, .f32⟩
  | .hbm, ⟨43, _⟩ => ⟨S64x2048, .f32⟩
  | .hbm, ⟨44, _⟩ => ⟨S1x2048, .f32⟩
  | .hbm, ⟨45, _⟩ => ⟨S64x2048, .f32⟩
  | .hbm, ⟨46, _⟩ => ⟨S64x2048, .f32⟩
  | .hbm, ⟨47, _⟩ => ⟨S64x2048, .bf16⟩
  | _, _ => ⟨S64x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel11.lean ====
abbrev S8x8x2048 : Shape := ⟨3, ![8, 8, 2048]⟩
abbrev S4x2048x11008 : Shape := ⟨3, ![4, 2048, 11008]⟩
abbrev S4x2048x5504 : Shape := ⟨3, ![4, 2048, 5504]⟩
abbrev S_ : Shape := ⟨0, ![]⟩
abbrev S4x2048x5632 : Shape := ⟨3, ![4, 2048, 5632]⟩
abbrev S64x2048 : Shape := ⟨2, ![64, 2048]⟩
abbrev S64x5632 : Shape := ⟨2, ![64, 5632]⟩
abbrev S1x2048x512 : Shape := ⟨3, ![1, 2048, 512]⟩
abbrev S64x512 : Shape := ⟨2, ![64, 512]⟩
abbrev S2048x512 : Shape := ⟨2, ![2048, 512]⟩

abbrev nBuf : Space → Nat
  | .hbm => 10
  | .vmem => 5
  | .smem => 0
  | _ => 0

abbrev bufTy : (tb : Table) → Fin (tcTables nBuf tb) → BufTy
  | .hbm, ⟨0, _⟩ => ⟨S8x8x2048, .f32⟩
  | .hbm, ⟨1, _⟩ => ⟨S4x2048x11008, .f32⟩
  | .hbm, ⟨2, _⟩ => ⟨S4x2048x5504, .f32⟩
  | .hbm, ⟨3, _⟩ => ⟨S_, .i32⟩
  | .hbm, ⟨4, _⟩ => ⟨S_, .f32⟩
  | .hbm, ⟨5, _⟩ => ⟨S4x2048x5632, .f32⟩
  | .hbm, ⟨6, _⟩ => ⟨S4x2048x5632, .bf16⟩
  | .hbm, ⟨7, _⟩ => ⟨S64x2048, .f32⟩
  | .hbm, ⟨8, _⟩ => ⟨S64x2048, .bf16⟩
  | .hbm, ⟨9, _⟩ => ⟨S64x5632, .f32⟩
  | .local _ .vmem, ⟨0, _⟩ => ⟨S64x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S64x512, .f32⟩
  | .local _ .vmem, ⟨4, _⟩ => ⟨S64x512, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8x8x2048 : Shape := ⟨3, ![8, 8, 2048]⟩
abbrev S4x2048x11008 : Shape := ⟨3, ![4, 2048, 11008]⟩
abbrev S1x2048x11008 : Shape := ⟨3, ![1, 2048, 11008]⟩
abbrev S2048x11008 : Shape := ⟨2, ![2048, 11008]⟩
abbrev S8x8x11008 : Shape := ⟨3, ![8, 8, 11008]⟩
abbrev S8x8x5504 : Shape := ⟨3, ![8, 8, 5504]⟩
abbrev S64x5504 : Shape := ⟨2, ![64, 5504]⟩
abbrev S_ : Shape := ⟨0, ![]⟩
abbrev S64x5632 : Shape := ⟨2, ![64, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S4x2048x11008, .f32⟩
  | .hbm, ⟨2, _⟩ => ⟨S1x2048x11008, .f32⟩
  | .hbm, ⟨3, _⟩ => ⟨S2048x11008, .f32⟩
  | .hbm, ⟨4, _⟩ => ⟨S8x8x11008, .f32⟩
  | .hbm, ⟨5, _⟩ => ⟨S8x8x5504, .f32⟩
  | .hbm, ⟨6, _⟩ => ⟨S8x8x5504, .f32⟩
  | .hbm, ⟨7, _⟩ => ⟨S64x5504, .f32⟩
  | .hbm, ⟨8, _⟩ => ⟨S_, .i32⟩
  | .hbm, ⟨9, _⟩ => ⟨S_, .f32⟩
  | .hbm, ⟨10, _⟩ => ⟨S64x5632, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S4x2048x2048 : Shape := ⟨3, ![4, 2048, 2048]⟩
abbrev S2x2048x4176 : Shape := ⟨3, ![2, 2048, 4176]⟩
abbrev S2x64 : Shape := ⟨2, ![2, 64]⟩
abbrev S_ : Shape := ⟨0, ![]⟩
abbrev S2x2048x4608 : Shape := ⟨3, ![2, 2048, 4608]⟩
abbrev S8192x2048 : Shape := ⟨2, ![8192, 2048]⟩
abbrev S8192x4608 : Shape := ⟨2, ![8192, 4608]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩
abbrev S4x2048x4608 : Shape := ⟨3, ![4, 2048, 4608]⟩
abbrev S4x2048x512 : Shape := ⟨3, ![4, 2048, 512]⟩
abbrev S4x2048x4x128 : Shape := ⟨4, ![4, 2048, 4, 128]⟩
abbrev S4x2048x64 : Shape := ⟨3, ![4, 2048, 64]⟩
abbrev S1x64 : Shape := ⟨2, ![1, 64]⟩
abbrev S64 : Shape := ⟨1, ![64]⟩
abbrev S4x2048 : Shape := ⟨2, ![4, 2048]⟩
abbrev S4x2048x1 : Shape := ⟨3, ![4, 2048, 1]⟩
abbrev S1x1x64 : Shape := ⟨3, ![1, 1, 64]⟩

abbrev nBuf : Space → Nat
  | .hbm => 50
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x4176, .f32⟩
  | .hbm, ⟨2, _⟩ => ⟨S2x64, .f32⟩
  | .hbm, ⟨3, _⟩ => ⟨S2x64, .f32⟩
  | .hbm, ⟨4, _⟩ => ⟨S_, .i32⟩
  | .hbm, ⟨5, _⟩ => ⟨S_, .f32⟩
  | .hbm, ⟨6, _⟩ => ⟨S2x2048x4608, .f32⟩
  | .hbm, ⟨7, _⟩ => ⟨S2x2048x4608, .bf16⟩
  | .hbm, ⟨8, _⟩ => ⟨S8192x2048, .f32⟩
  | .hbm, ⟨9, _⟩ => ⟨S8192x2048, .bf16⟩
  | .hbm, ⟨10, _⟩ => ⟨S8192x4608, .f32⟩
  | .hbm, ⟨11, _⟩ => ⟨S4x2048x4608, .f32⟩
  | .hbm, ⟨12, _⟩ => ⟨S4x2048x512, .f32⟩
  | .hbm, ⟨13, _⟩ => ⟨S4x2048x4x128, .f32⟩
  | .hbm, ⟨14, _⟩ => ⟨S4x2048x512, .f32⟩
  | .hbm, ⟨15, _⟩ => ⟨S4x2048x4x128, .f32⟩
  | .hbm, ⟨16, _⟩ => ⟨S4x2048x64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x64, .f32⟩
  | .hbm, ⟨28, _⟩ => ⟨S4x2048x64, .f32⟩
  | .hbm, ⟨29, _⟩ => ⟨S4x2048x64, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x64, .f32⟩
  | .hbm, ⟨37, _⟩ => ⟨S4x2048x64, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x64, .f32⟩
  | .hbm, ⟨43, _⟩ => ⟨S4x2048x64, .f32⟩
  | .hbm, ⟨44, _⟩ => ⟨S1x1x64, .f32⟩
  | .hbm, ⟨45, _⟩ => ⟨S4x2048x64, .f32⟩
  | .hbm, ⟨46, _⟩ => ⟨S4x2048x64, .f32⟩
  | .hbm, ⟨47, _⟩ => ⟨S1x1x64, .f32⟩
  | .hbm, ⟨48, _⟩ => ⟨S4x2048x64, .f32⟩
  | .hbm, ⟨49, _⟩ => ⟨S4x2048x64, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel12Ideal.lean ====
abbrev S4x2048x2048 : Shape := ⟨3, ![4, 2048, 2048]⟩
abbrev S2x2048x4176 : Shape := ⟨3, ![2, 2048, 4176]⟩
abbrev S2x64 : Shape := ⟨2, ![2, 64]⟩
abbrev S_ : Shape := ⟨0, ![]⟩
abbrev S2x2048x4608 : Shape := ⟨3, ![2, 2048, 4608]⟩
abbrev S8192x2048 : Shape := ⟨2, ![8192, 2048]⟩
abbrev S8192x4608 : Shape := ⟨2, ![8192, 4608]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩
abbrev S4x2048x4608 : Shape := ⟨3, ![4, 2048, 4608]⟩
abbrev S4x2048x512 : Shape := ⟨3, ![4, 2048, 512]⟩
abbrev S4x2048x4x128 : Shape := ⟨4, ![4, 2048, 4, 128]⟩
abbrev S4x2048x64 : Shape := ⟨3, ![4, 2048, 64]⟩
abbrev S1x64 : Shape := ⟨2, ![1, 64]⟩
abbrev S64 : Shape := ⟨1, ![64]⟩
abbrev S4x2048 : Shape := ⟨2, ![4, 2048]⟩
abbrev S4x2048x1 : Shape := ⟨3, ![4, 2048, 1]⟩
abbrev S1x1x64 : Shape := ⟨3, ![1, 1, 64]⟩

abbrev nBuf : Space → Nat
  | .hbm => 50
  | .vmem => 6
  | .smem => 0
  | _ => 0

abbrev bufTy : (tb : Table) → Fin (tcTables nBuf tb) → BufTy
  | .hbm, ⟨0, _⟩ => ⟨S4x2048x2048, .f32⟩
  | .hbm, ⟨1, _⟩ => ⟨S2x2048x4176, .f32⟩
  | .hbm, ⟨2, _⟩ => ⟨S2x64, .f32⟩
  | .hbm, ⟨3, _⟩ => ⟨S2x64, .f32⟩
  | .hbm, ⟨4, _⟩ => ⟨S_, .i32⟩
  | .hbm, ⟨5, _⟩ => ⟨S_, .f32⟩
  | .hbm, ⟨6, _⟩ => ⟨S2x2048x4608, .f32⟩
  | .hbm, ⟨7, _⟩ => ⟨S2x2048x4608, .bf16⟩
  | .hbm, ⟨8, _⟩ => ⟨S8192x2048, .f32⟩
  | .hbm, ⟨9, _⟩ => ⟨S8192x2048, .bf16⟩
  | .hbm, ⟨10, _⟩ => ⟨S8192x4608, .f32⟩
  | .hbm, ⟨11, _⟩ => ⟨S4x2048x4608, .f32⟩
  | .hbm, ⟨12, _⟩ => ⟨S4x2048x512, .f32⟩
  | .hbm, ⟨13, _⟩ => ⟨S4x2048x4x128, .f32⟩
  | .hbm, ⟨14, _⟩ => ⟨S4x2048x512, .f32⟩
  | .hbm, ⟨15, _⟩ => ⟨S4x2048x4x128, .f32⟩
  | .hbm, ⟨16, _⟩ => ⟨S4x2048x64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x64, .f32⟩
  | .hbm, ⟨28, _⟩ => ⟨S4x2048x64, .f32⟩
  | .hbm, ⟨29, _⟩ => ⟨S4x2048x64, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x64, .f32⟩
  | .hbm, ⟨37, _⟩ => ⟨S4x2048x64, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x64, .f32⟩
  | .hbm, ⟨43, _⟩ => ⟨S4x2048x64, .f32⟩
  | .hbm, ⟨44, _⟩ => ⟨S1x1x64, .f32⟩
  | .hbm, ⟨45, _⟩ => ⟨S4x2048x64, .f32⟩
  | .hbm, ⟨46, _⟩ => ⟨S4x2048x64, .f32⟩
  | .hbm, ⟨47, _⟩ => ⟨S1x1x64, .f32⟩
  | .hbm, ⟨48, _⟩ => ⟨S4x2048x64, .f32⟩
  | .hbm, ⟨49, _⟩ => ⟨S4x2048x64, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4x2048x2048 : Shape := ⟨3, ![4, 2048, 2048]⟩
abbrev S2x2048x4176 : Shape := ⟨3, ![2, 2048, 4176]⟩
abbrev S2x64 : Shape := ⟨2, ![2, 64]⟩
abbrev S1x2048x4176 : Shape := ⟨3, ![1, 2048, 4176]⟩
abbrev S2048x4176 : Shape := ⟨2, ![2048, 4176]⟩
abbrev S4x2048x4176 : Shape := ⟨3, ![4, 2048, 4176]⟩
abbrev S4x2048x512 : Shape := ⟨3, ![4, 2048, 512]⟩
abbrev S4x2048x1024 : Shape := ⟨3, ![4, 2048, 1024]⟩
abbrev S4x2048x64 : Shape := ⟨3, ![4, 2048, 64]⟩
abbrev S4x2048x16 : Shape := ⟨3, ![4, 2048, 16]⟩
abbrev S4x2048x4x128 : Shape := ⟨4, ![4, 2048, 4, 128]⟩
abbrev S1x64 : Shape := ⟨2, ![1, 64]⟩
abbrev S64 : Shape := ⟨1, ![64]⟩
abbrev S_ : Shape := ⟨0, ![]⟩
abbrev S4x2048 : Shape := ⟨2, ![4, 2048]⟩
abbrev S4x2048x1 : Shape := ⟨3, ![4, 2048, 1]⟩
abbrev S1x1x64 : Shape := ⟨3, ![1, 1, 64]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2x2048x4176, .f32⟩
  | .hbm, ⟨2, _⟩ => ⟨S2x64, .f32⟩
  | .hbm, ⟨3, _⟩ => ⟨S2x64, .f32⟩
  | .hbm, ⟨4, _⟩ => ⟨S1x2048x4176, .f32⟩
  | .hbm, ⟨5, _⟩ => ⟨S2048x4176, .f32⟩
  | .hbm, ⟨6, _⟩ => ⟨S4x2048x4176, .f32⟩
  | .hbm, ⟨7, _⟩ => ⟨S4x2048x2048, .f32⟩
  | .hbm, ⟨8, _⟩ => ⟨S4x2048x512, .f32⟩
  | .hbm, ⟨9, _⟩ => ⟨S4x2048x512, .f32⟩
  | .hbm, ⟨10, _⟩ => ⟨S4x2048x1024, .f32⟩
  | .hbm, ⟨11, _⟩ => ⟨S4x2048x64, .f32⟩
  | .hbm, ⟨12, _⟩ => ⟨S4x2048x16, .f32⟩
  | .hbm, ⟨13, _⟩ => ⟨S4x2048x4x128, .f32⟩
  | .hbm, ⟨14, _⟩ => ⟨S4x2048x4x128, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x64, .f32⟩
  | .hbm, ⟨26, _⟩ => ⟨S4x2048x64, .f32⟩
  | .hbm, ⟨27, _⟩ => ⟨S4x2048x64, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x64, .f32⟩
  | .hbm, ⟨35, _⟩ => ⟨S4x2048x64, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x64, .f32⟩
  | .hbm, ⟨41, _⟩ => ⟨S4x2048x64, .f32⟩
  | .hbm, ⟨42, _⟩ => ⟨S1x1x64, .f32⟩
  | .hbm, ⟨43, _⟩ => ⟨S4x2048x64, .f32⟩
  | .hbm, ⟨44, _⟩ => ⟨S4x2048x64, .f32⟩
  | .hbm, ⟨45, _⟩ => ⟨S1x1x64, .f32⟩
  | .hbm, ⟨46, _⟩ => ⟨S4x2048x64, .f32⟩
  | .hbm, ⟨47, _⟩ => ⟨S4x2048x64, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel13.lean ====
abbrev S8x8x2048 : Shape := ⟨3, ![8, 8, 2048]⟩
abbrev S2x2048x4176 : Shape := ⟨3, ![2, 2048, 4176]⟩
abbrev S2x64 : Shape := ⟨2, ![2, 64]⟩
abbrev S_ : Shape := ⟨0, ![]⟩
abbrev S2x2048x4608 : Shape := ⟨3, ![2, 2048, 4608]⟩
abbrev S64x2048 : Shape := ⟨2, ![64, 2048]⟩
abbrev S64x4608 : Shape := ⟨2, ![64, 4608]⟩
abbrev S1x2048x1536 : Shape := ⟨3, ![1, 2048, 1536]⟩
abbrev S64x1536 : Shape := ⟨2, ![64, 1536]⟩
abbrev S2048x1536 : Shape := ⟨2, ![2048, 1536]⟩
abbrev S8x8x4608 : Shape := ⟨3, ![8, 8, 4608]⟩
abbrev S8x8x512 : Shape := ⟨3, ![8, 8, 512]⟩
abbrev S8x8x4x128 : Shape := ⟨4, ![8, 8, 4, 128]⟩
abbrev S8x8x64 : Shape := ⟨3, ![8, 8, 64]⟩
abbrev S1x64 : Shape := ⟨2, ![1, 64]⟩
abbrev S64 : Shape := ⟨1, ![64]⟩
abbrev S8x8 : Shape := ⟨2, ![8, 8]⟩
abbrev S8x8x1 : Shape := ⟨3, ![8, 8, 1]⟩
abbrev S1x1x64 : Shape := ⟨3, ![1, 1, 64]⟩

abbrev nBuf : Space → Nat
  | .hbm => 50
  | .vmem => 5
  | .smem => 0
  | _ => 0

abbrev bufTy : (tb : Table) → Fin (tcTables nBuf tb) → BufTy
  | .hbm, ⟨0, _⟩ => ⟨S8x8x2048, .f32⟩
  | .hbm, ⟨1, _⟩ => ⟨S2x2048x4176, .f32⟩
  | .hbm, ⟨2, _⟩ => ⟨S2x64, .f32⟩
  | .hbm, ⟨3, _⟩ => ⟨S2x64, .f32⟩
  | .hbm, ⟨4, _⟩ => ⟨S_, .i32⟩
  | .hbm, ⟨5, _⟩ => ⟨S_, .f32⟩
  | .hbm, ⟨6, _⟩ => ⟨S2x2048x4608, .f32⟩
  | .hbm, ⟨7, _⟩ => ⟨S2x2048x4608, .bf16⟩
  | .hbm, ⟨8, _⟩ => ⟨S64x2048, .f32⟩
  | .hbm, ⟨9, _⟩ => ⟨S64x2048, .bf16⟩
  | .hbm, ⟨10, _⟩ => ⟨S64x4608, .f32⟩
  | .hbm, ⟨11, _⟩ => ⟨S8x8x4608, .f32⟩
  | .hbm, ⟨12, _⟩ => ⟨S8x8x512, .f32⟩
  | .hbm, ⟨13, _⟩ => ⟨S8x8x4x128, .f32⟩
  | .hbm, ⟨14, _⟩ => ⟨S8x8x512, .f32⟩
  | .hbm, ⟨15, _⟩ => ⟨S8x8x4x128, .f32⟩
  | .hbm, ⟨16, _⟩ => ⟨S8x8x64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S_, .f32⟩
  | .hbm, ⟨22, _⟩ => ⟨S8x8, .f32⟩
  | .hbm, ⟨23, _⟩ => ⟨S8x8x1, .f32⟩
  | .hbm, ⟨24, _⟩ => ⟨S_, .f32⟩
  | .hbm, ⟨25, _⟩ => ⟨S8x8x1, .f32⟩
  | .hbm, ⟨26, _⟩ => ⟨S8x8x1, .f32⟩
  | .hbm, ⟨27, _⟩ => ⟨S8x8x64, .f32⟩
  | .hbm, ⟨28, _⟩ => ⟨S8x8x64, .f32⟩
  | .hbm, ⟨29, _⟩ => ⟨S8x8x64, .f32⟩
  | .hbm, ⟨30, _⟩ => ⟨S_, .f32⟩
  | .hbm, ⟨31, _⟩ => ⟨S8x8, .f32⟩
  | .hbm, ⟨32, _⟩ => ⟨S8x8x1, .f32⟩
  | .hbm, ⟨33, _⟩ => ⟨S_, .f32⟩
  | .hbm, ⟨34, _⟩ => ⟨S8x8x1, .f32⟩
  | .hbm, ⟨35, _⟩ => ⟨S8x8x1, .f32⟩
  | .hbm, ⟨36, _⟩ => ⟨S8x8x64, .f32⟩
  | .hbm, ⟨37, _⟩ => ⟨S8x8x64, .f32⟩
  | .hbm, ⟨38, _⟩ => ⟨S_, .f32⟩
  | .hbm, ⟨39, _⟩ => ⟨S8x8x1, .f32⟩
  | .hbm, ⟨40, _⟩ => ⟨S8x8x1, .f32⟩
  | .hbm, ⟨41, _⟩ => ⟨S8x8x1, .f32⟩
  | .hbm, ⟨42, _⟩ => ⟨S8x8x64, .f32⟩
  | .hbm, ⟨43, _⟩ => ⟨S8x8x64, .f32⟩
  | .hbm, ⟨44, _⟩ => ⟨S1x1x64, .f32⟩
  | .hbm, ⟨45, _⟩ => ⟨S8x8x64, .f32⟩
  | .hbm, ⟨46, _⟩ => ⟨S8x8x64, .f32⟩
  | .hbm, ⟨47, _⟩ => ⟨S1x1x64, .f32⟩
  | .hbm, ⟨48, _⟩ => ⟨S8x8x64, .f32⟩
  | .hbm, ⟨49, _⟩ => ⟨S8x8x64, .f32⟩
  | .local _ .vmem, ⟨0, _⟩ => ⟨S64x2048, .bf16⟩
  | .local _ .vmem, ⟨1, _⟩ => ⟨S1x2048x1536, .bf16⟩
  | .local _ .vmem, ⟨2, _⟩ => ⟨S1x2048x1536, .bf16⟩
  | .local _ .vmem, ⟨3, _⟩ => ⟨S64x1536, .f32⟩
  | .local _ .vmem, ⟨4, _⟩ => ⟨S64x1536, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8x8x2048 : Shape := ⟨3, ![8, 8, 2048]⟩
abbrev S2x2048x4176 : Shape := ⟨3, ![2, 2048, 4176]⟩
abbrev S2x64 : Shape := ⟨2, ![2, 64]⟩
abbrev S1x2048x4176 : Shape := ⟨3, ![1, 2048, 4176]⟩
abbrev S2048x4176 : Shape := ⟨2, ![2048, 4176]⟩
abbrev S8x8x4176 : Shape := ⟨3, ![8, 8, 4176]⟩
abbrev S8x8x512 : Shape := ⟨3, ![8, 8, 512]⟩
abbrev S8x8x1024 : Shape := ⟨3, ![8, 8, 1024]⟩
abbrev S8x8x64 : Shape := ⟨3, ![8, 8, 64]⟩
abbrev S8x8x16 : Shape := ⟨3, ![8, 8, 16]⟩
abbrev S8x8x4x128 : Shape := ⟨4, ![8, 8, 4, 128]⟩
abbrev S1x64 : Shape := ⟨2, ![1, 64]⟩
abbrev S64 : Shape := ⟨1, ![64]⟩
abbrev S_ : Shape := ⟨0, ![]⟩
abbrev S8x8 : Shape := ⟨2, ![8, 8]⟩
abbrev S8x8x1 : Shape := ⟨3, ![8, 8, 1]⟩
abbrev S1x1x64 : Shape := ⟨3, ![1, 1, 64]⟩

abbrev nBuf : Space → Nat
  | .hbm => 48
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S2x2048x4176, .f32⟩
  | .hbm, ⟨2, _⟩ => ⟨S2x64, .f32⟩
  | .hbm, ⟨3, _⟩ => ⟨S2x64, .f32⟩
  | .hbm, ⟨4, _⟩ => ⟨S1x2048x4176, .f32⟩
  | .hbm, ⟨5, _⟩ => ⟨S2048x4176, .f32⟩
  | .hbm, ⟨6, _⟩ => ⟨S8x8x4176, .f32⟩
  | .hbm, ⟨7, _⟩ => ⟨S8x8x2048, .f32⟩
  | .hbm, ⟨8, _⟩ => ⟨S8x8x512, .f32⟩
  | .hbm, ⟨9, _⟩ => ⟨S8x8x512, .f32⟩
  | .hbm, ⟨10, _⟩ => ⟨S8x8x1024, .f32⟩
  | .hbm, ⟨11, _⟩ => ⟨S8x8x64, .f32⟩
  | .hbm, ⟨12, _⟩ => ⟨S8x8x16, .f32⟩
  | .hbm, ⟨13, _⟩ => ⟨S8x8x4x128, .f32⟩
  | .hbm, ⟨14, _⟩ => ⟨S8x8x4x128, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S_, .f32⟩
  | .hbm, ⟨20, _⟩ => ⟨S8x8, .f32⟩
  | .hbm, ⟨21, _⟩ => ⟨S8x8x1, .f32⟩
  | .hbm, ⟨22, _⟩ => ⟨S_, .f32⟩
  | .hbm, ⟨23, _⟩ => ⟨S8x8x1, .f32⟩
  | .hbm, ⟨24, _⟩ => ⟨S8x8x1, .f32⟩
  | .hbm, ⟨25, _⟩ => ⟨S8x8x64, .f32⟩
  | .hbm, ⟨26, _⟩ => ⟨S8x8x64, .f32⟩
  | .hbm, ⟨27, _⟩ => ⟨S8x8x64, .f32⟩
  | .hbm, ⟨28, _⟩ => ⟨S_, .f32⟩
  | .hbm, ⟨29, _⟩ => ⟨S8x8, .f32⟩
  | .hbm, ⟨30, _⟩ => ⟨S8x8x1, .f32⟩
  | .hbm, ⟨31, _⟩ => ⟨S_, .f32⟩
  | .hbm, ⟨32, _⟩ => ⟨S8x8x1, .f32⟩
  | .hbm, ⟨33, _⟩ => ⟨S8x8x1, .f32⟩
  | .hbm, ⟨34, _⟩ => ⟨S8x8x64, .f32⟩
  | .hbm, ⟨35, _⟩ => ⟨S8x8x64, .f32⟩
  | .hbm, ⟨36, _⟩ => ⟨S_, .f32⟩
  | .hbm, ⟨37, _⟩ => ⟨S8x8x1, .f32⟩
  | .hbm, ⟨38, _⟩ => ⟨S8x8x1, .f32⟩
  | .hbm, ⟨39, _⟩ => ⟨S8x8x1, .f32⟩
  | .hbm, ⟨40, _⟩ => ⟨S8x8x64, .f32⟩
  | .hbm, ⟨41, _⟩ => ⟨S8x8x64, .f32⟩
  | .hbm, ⟨42, _⟩ => ⟨S1x1x64, .f32⟩
  | .hbm, ⟨43, _⟩ => ⟨S8x8x64, .f32⟩
  | .hbm, ⟨44, _⟩ => ⟨S8x8x64, .f32⟩
  | .hbm, ⟨45, _⟩ => ⟨S1x1x64, .f32⟩
  | .hbm, ⟨46, _⟩ => ⟨S8x8x64, .f32⟩
  | .hbm, ⟨47, _⟩ => ⟨S8x8x64, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Kernel14.lean ====
abbrev S8x8x2048 : Shape := ⟨3, ![8, 8, 2048]⟩
abbrev S4x8x2x5504 : Shape := ⟨4, ![4, 8, 2, 5504]⟩
abbrev S4x2048x11008 : Shape := ⟨3, ![4, 2048, 11008]⟩
abbrev S4x3x5504 : Shape := ⟨3, ![4, 3, 5504]⟩
abbrev S4x5504 : Shape := ⟨2, ![4, 5504]⟩
abbrev S4x2048x5504 : Shape := ⟨3, ![4, 2048, 5504]⟩
abbrev S_ : Shape := ⟨0, ![]⟩
abbrev S4x2048x5632 : Shape := ⟨3, ![4, 2048, 5632]⟩
abbrev S4x3x5632 : Shape := ⟨3, ![4, 3, 5632]⟩
abbrev S4x5632 : Shape := ⟨2, ![4, 5632]⟩
abbrev S4x1x5632 : Shape := ⟨3, ![4, 1, 5632]⟩
abbrev S64x2048 : Shape := ⟨2, ![64, 2048]⟩
abbrev S1x8x2x5504 : Shape := ⟨4, ![1, 8, 2, 5504]⟩
abbrev S8x2x5504 : Shape := ⟨3, ![8, 2, 5504]⟩
abbrev S8x2x5632 : Shape := ⟨3, ![8, 2, 5632]⟩
abbrev S1x3x5632 : Shape := ⟨3, ![1, 3, 5632]⟩
abbrev S3x5632 : Shape := ⟨2, ![3, 5632]⟩
abbrev S1x1x5632 : Shape := ⟨3, ![1, 1, 5632]⟩
abbrev S1x5632 : Shape := ⟨2, ![1, 5632]⟩
abbrev S64x5632 : Shape := ⟨2, ![64, 5632]⟩
abbrev S1x2048x512 : Shape := ⟨3, ![1, 2048, 512]⟩
abbrev S64x512 : Shape := ⟨2, ![64, 512]⟩
abbrev S2048x512 : Shape := ⟨2, ![2048, 512]⟩
abbrev S8x8x5632 : Shape := ⟨3, ![8, 8, 5632]⟩
abbrev S8x10x5632 : Shape := ⟨3, ![8, 10, 5632]⟩
abbrev S5632 : Shape := ⟨1, ![5632]⟩

abbrev nBuf : Space → Nat
  | .hbm => 78
  | .vmem => 10
  | .smem => 0
  | _ => 0

abbrev bufTy : (tb : Table) → Fin (tcTables nBuf tb) → BufTy
  | .hbm, ⟨0, _⟩ => ⟨S8x8x2048, .f32⟩
  | .hbm, ⟨1, _⟩ => ⟨S4x8x2x5504, .f32⟩
  | .hbm, ⟨2, _⟩ => ⟨S4x2048x11008, .f32⟩
  | .hbm, ⟨3, _⟩ => ⟨S4x3x5504, .f32⟩
  | .hbm, ⟨4, _⟩ => ⟨S4x5504, .f32⟩
  | .hbm, ⟨5, _⟩ => ⟨S4x2048x5504, .f32⟩
  | .hbm, ⟨6, _⟩ => ⟨S_, .i32⟩
  | .hbm, ⟨7, _⟩ => ⟨S_, .f32⟩
  | .hbm, ⟨8, _⟩ => ⟨S4x2048x5632, .f32⟩
  | .hbm, ⟨9, _⟩ => ⟨S4x2048x5632, .bf16⟩
  | .hbm, ⟨10, _⟩ => ⟨S4x2048x5504, .f32⟩
  | .hbm, ⟨11, _⟩ => ⟨S_, .i32⟩
  | .hbm, ⟨12, _⟩ => ⟨S_, .f32⟩
  | .hbm, ⟨13, _⟩ => ⟨S4x2048x5632, .f32⟩
  | .hbm, ⟨14, _⟩ => ⟨S4x2048x5632, .bf16⟩
  | .hbm, ⟨15, _⟩ => ⟨S_, .i32⟩
  | .hbm, ⟨16, _⟩ => ⟨S_, .f32⟩
  | .hbm, ⟨17, _⟩ => ⟨S4x3x5632, .f32⟩
  | .hbm, ⟨18, _⟩ => ⟨S_, .i32⟩
  | .hbm, ⟨19, _⟩ => ⟨S_, .f32⟩
  | .hbm, ⟨20, _⟩ => ⟨S4x5632, .f32⟩
  | .hbm, ⟨21, _⟩ => ⟨S4x1x5632, .f32⟩
  | .hbm, ⟨22, _⟩ => ⟨S64x2048, .f32⟩
  | .hbm, ⟨23, _⟩ => ⟨S64x2048, .bf16⟩
  | .hbm, ⟨24, _⟩ => ⟨S1x8x2x5504, .f32⟩
  | .hbm, ⟨25, _⟩ => ⟨S8x2x5504, .f32⟩
  | .hbm, ⟨26, _⟩ => ⟨S_, .i32⟩
  | .hbm, ⟨27, _⟩ => ⟨S_, .f32⟩
  | .hbm, ⟨28, _⟩ => ⟨S8x2x5632, .f32⟩
  | .hbm, ⟨29, _⟩ => ⟨S1x3x5632, .f32⟩
  | .hbm, ⟨30, _⟩ => ⟨S3x5632, .f32⟩
  | .hbm, ⟨31, _⟩ => ⟨S1x1x5632, .f32⟩
  | .hbm, ⟨32, _⟩ => ⟨S1x5632, .f32⟩
  | .hbm, ⟨33, _⟩ => ⟨S64x5632, .f32⟩
  | .hbm, ⟨34, _⟩ => ⟨S8x8x5632, .f32⟩
  | .hbm, ⟨35, _⟩ => ⟨S64x5632, .f32⟩
  | .hbm, ⟨36, _⟩ => ⟨S8x8x5632, .f32⟩
  | .hbm, ⟨37, _⟩ => ⟨S8x10x5632, .f32⟩
  | .hbm, ⟨38, _⟩ => ⟨S8x8x5632, .f32⟩
  | .hbm, ⟨39, _⟩ => ⟨S1x5632, .f32⟩
  | .hbm, ⟨40, _⟩ => ⟨S5632, .f32⟩
  | .hbm, ⟨41, _⟩ => ⟨S1x1x5632, .f32⟩
  | .hbm, ⟨42, _⟩ => ⟨S8x8x5632, .f32⟩
  | .hbm, ⟨43, _⟩ => ⟨S8x8x5632, .f32⟩
  | .hbm, ⟨44, _⟩ => ⟨S_, .f32⟩
  | .hbm, ⟨45, _⟩ => ⟨S8x8x5632, .f32⟩
  | .hbm, ⟨46, _⟩ => ⟨S8x8x5632, .f32⟩
  | .hbm, ⟨47, _⟩ => ⟨S8x8x5632, .f32⟩
  | .hbm, ⟨48, _⟩ => ⟨S1x5632, .f32⟩
  | .hbm, ⟨49, _⟩ => ⟨S5632, .f32⟩
  | .hbm, ⟨50, _⟩ => ⟨S1x1x5632, .f32⟩
  | .hbm, ⟨51, _⟩ => ⟨S8x8x5632, .f32⟩
  | .hbm, ⟨52, _⟩ => ⟨S8x8x5632, .f32⟩
  | .hbm, ⟨53, _⟩ => ⟨S8x8x5632, .f32⟩
  | .hbm, ⟨54, _⟩ => ⟨S8x8x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S8x8x5632, .f32⟩
  | .hbm, ⟨59, _⟩ => ⟨S8x8x5632, .f32⟩
  | .hbm, ⟨60, _⟩ => ⟨S8x8x5632, .f32⟩
  | .hbm, ⟨61, _⟩ => ⟨S1x1x5632, .f32⟩
  | .hbm, ⟨62, _⟩ => ⟨S8x8x5632, .f32⟩
  | .hbm, ⟨63, _⟩ => ⟨S8x8x5632, .f32⟩
  | .hbm, ⟨64, _⟩ => ⟨S8x8x5632, .f32⟩
  | .hbm, ⟨65, _⟩ => ⟨S8x8x5632, .f32⟩
  | .hbm, ⟨66, _⟩ => ⟨S_, .f32⟩
  | .hbm, ⟨67, _⟩ => ⟨S8x8x5632, .f32⟩
  | .hbm, ⟨68, _⟩ => ⟨S8x8x5632, .f32⟩
  | .hbm, ⟨69, _⟩ => ⟨S_, .f32⟩
  | .hbm, ⟨70, _⟩ => ⟨S8x8x5632, .f32⟩
  | .hbm, ⟨71, _⟩ => ⟨S8x8x5632, .f32⟩
  | .hbm, ⟨72, _⟩ => ⟨S8x8x5632, .f32⟩
  | .hbm, ⟨73, _⟩ => ⟨S8x8x5632, .f32⟩
  | .hbm, ⟨74, _⟩ => ⟨S8x8x5632, .bf16⟩
  | .hbm, ⟨75, _⟩ => ⟨S64x5632, .bf16⟩
  | .hbm, ⟨76, _⟩ => ⟨S8x2x5632, .f32⟩
  | .hbm, ⟨77, _⟩ => ⟨S8x2x5504, .f32⟩
  | .local _ .vmem, ⟨0, _⟩ => ⟨S64x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S64x512, .f32⟩
  | .local _ .vmem, ⟨4, _⟩ => ⟨S64x512, .f32⟩
  | .local _ .vmem, ⟨5, _⟩ => ⟨S64x2048, .bf16⟩
  | .local _ .vmem, ⟨6, _⟩ => ⟨S1x2048x512, .bf16⟩
  | .local _ .vmem, ⟨7, _⟩ => ⟨S1x2048x512, .bf16⟩
  | .local _ .vmem, ⟨8, _⟩ => ⟨S64x512, .f32⟩
  | .local _ .vmem, ⟨9, _⟩ => ⟨S64x512, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_c_2 : Ref sig .tc := ⟨.hbm, 18, rfl⟩
abbrev main_call3_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_call4_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call5_v0 : Ref sig .tc := ⟨.hbm, 64, rfl⟩
abbrev main_call5_v1 : Ref sig .tc := ⟨.hbm, 65, rfl⟩
abbrev main_call5_cst : Ref sig .tc := ⟨.hbm, 66, rfl⟩
abbrev main_call5_v2 : Ref sig .tc := ⟨.hbm, 67, rfl⟩
abbrev main_call5_v3 : Ref sig .tc := ⟨.hbm, 68, rfl⟩
abbrev main_call5_cst_0 : Ref sig .tc := ⟨.hbm, 69, rfl⟩
abbrev main_call5_v4 : Ref sig .tc := ⟨.hbm, 70, rfl⟩
abbrev main_call5_v5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S64x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference14Ideal.lean ====
abbrev S8x8x2048 : Shape := ⟨3, ![8, 8, 2048]⟩
abbrev S4x8x2x5504 : Shape := ⟨4, ![4, 8, 2, 5504]⟩
abbrev S4x2048x11008 : Shape := ⟨3, ![4, 2048, 11008]⟩
abbrev S4x3x5504 : Shape := ⟨3, ![4, 3, 5504]⟩
abbrev S4x5504 : Shape := ⟨2, ![4, 5504]⟩
abbrev S1x2048x11008 : Shape := ⟨3, ![1, 2048, 11008]⟩
abbrev S2048x11008 : Shape := ⟨2, ![2048, 11008]⟩
abbrev S8x8x11008 : Shape := ⟨3, ![8, 8, 11008]⟩
abbrev S8x8x5504 : Shape := ⟨3, ![8, 8, 5504]⟩
abbrev S1x8x2x5504 : Shape := ⟨4, ![1, 8, 2, 5504]⟩
abbrev S8x2x5504 : Shape := ⟨3, ![8, 2, 5504]⟩
abbrev S8x10x5504 : Shape := ⟨3, ![8, 10, 5504]⟩
abbrev S1x5504 : Shape := ⟨2, ![1, 5504]⟩
abbrev S5504 : Shape := ⟨1, ![5504]⟩
abbrev S1x3x5504 : Shape := ⟨3, ![1, 3, 5504]⟩
abbrev S3x5504 : Shape := ⟨2, ![3, 5504]⟩
abbrev S1x1x5504 : Shape := ⟨3, ![1, 1, 5504]⟩
abbrev S_ : Shape := ⟨0, ![]⟩
abbrev S64x5504 : Shape := ⟨2, ![64, 5504]⟩
abbrev S64x5632 : Shape := ⟨2, ![64, 5632]⟩

abbrev nBuf : Space → Nat
  | .hbm => 63
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S4x8x2x5504, .f32⟩
  | .hbm, ⟨2, _⟩ => ⟨S4x2048x11008, .f32⟩
  | .hbm, ⟨3, _⟩ => ⟨S4x3x5504, .f32⟩
  | .hbm, ⟨4, _⟩ => ⟨S4x5504, .f32⟩
  | .hbm, ⟨5, _⟩ => ⟨S1x2048x11008, .f32⟩
  | .hbm, ⟨6, _⟩ => ⟨S2048x11008, .f32⟩
  | .hbm, ⟨7, _⟩ => ⟨S8x8x11008, .f32⟩
  | .hbm, ⟨8, _⟩ => ⟨S8x8x5504, .f32⟩
  | .hbm, ⟨9, _⟩ => ⟨S8x8x5504, .f32⟩
  | .hbm, ⟨10, _⟩ => ⟨S1x8x2x5504, .f32⟩
  | .hbm, ⟨11, _⟩ => ⟨S8x2x5504, .f32⟩
  | .hbm, ⟨12, _⟩ => ⟨S8x10x5504, .f32⟩
  | .hbm, ⟨13, _⟩ => ⟨S1x5504, .f32⟩
  | .hbm, ⟨14, _⟩ => ⟨S5504, .f32⟩
  | .hbm, ⟨15, _⟩ => ⟨S8x8x5504, .f32⟩
  | .hbm, ⟨16, _⟩ => ⟨S1x3x5504, .f32⟩
  | .hbm, ⟨17, _⟩ => ⟨S3x5504, .f32⟩
  | .hbm, ⟨18, _⟩ => ⟨S1x5504, .f32⟩
  | .hbm, ⟨19, _⟩ => ⟨S5504, .f32⟩
  | .hbm, ⟨20, _⟩ => ⟨S1x1x5504, .f32⟩
  | .hbm, ⟨21, _⟩ => ⟨S8x8x5504, .f32⟩
  | .hbm, ⟨22, _⟩ => ⟨S8x8x5504, .f32⟩
  | .hbm, ⟨23, _⟩ => ⟨S_, .f32⟩
  | .hbm, ⟨24, _⟩ => ⟨S8x8x5504, .f32⟩
  | .hbm, ⟨25, _⟩ => ⟨S8x8x5504, .f32⟩
  | .hbm, ⟨26, _⟩ => ⟨S8x8x5504, .f32⟩
  | .hbm, ⟨27, _⟩ => ⟨S1x3x5504, .f32⟩
  | .hbm, ⟨28, _⟩ => ⟨S3x5504, .f32⟩
  | .hbm, ⟨29, _⟩ => ⟨S1x5504, .f32⟩
  | .hbm, ⟨30, _⟩ => ⟨S5504, .f32⟩
  | .hbm, ⟨31, _⟩ => ⟨S1x1x5504, .f32⟩
  | .hbm, ⟨32, _⟩ => ⟨S8x8x5504, .f32⟩
  | .hbm, ⟨33, _⟩ => ⟨S8x8x5504, .f32⟩
  | .hbm, ⟨34, _⟩ => ⟨S8x8x5504, .f32⟩
  | .hbm, ⟨35, _⟩ => ⟨S8x8x5504, .f32⟩
  | .hbm, ⟨36, _⟩ => ⟨S1x3x5504, .f32⟩
  | .hbm, ⟨37, _⟩ => ⟨S3x5504, .f32⟩
  | .hbm, ⟨38, _⟩ => ⟨S1x5504, .f32⟩
  | .hbm, ⟨39, _⟩ => ⟨S5504, .f32⟩
  | .hbm, ⟨40, _⟩ => ⟨S1x1x5504, .f32⟩
  | .hbm, ⟨41, _⟩ => ⟨S8x8x5504, .f32⟩
  | .hbm, ⟨42, _⟩ => ⟨S8x8x5504, .f32⟩
  | .hbm, ⟨43, _⟩ => ⟨S8x8x5504, .f32⟩
  | .hbm, ⟨44, _⟩ => ⟨S1x1x5504, .f32⟩
  | .hbm, ⟨45, _⟩ => ⟨S8x8x5504, .f32⟩
  | .hbm, ⟨46, _⟩ => ⟨S8x8x5504, .f32⟩
  | .hbm, ⟨47, _⟩ => ⟨S8x8x5504, .f32⟩
  | .hbm, ⟨48, _⟩ => ⟨S8x8x5504, .f32⟩
  | .hbm, ⟨49, _⟩ => ⟨S_, .f32⟩
  | .hbm, ⟨50, _⟩ => ⟨S8x8x5504, .f32⟩
  | .hbm, ⟨51, _⟩ => ⟨S8x8x5504, .f32⟩
  | .hbm, ⟨52, _⟩ => ⟨S_, .f32⟩
  | .hbm, ⟨53, _⟩ => ⟨S8x8x5504, .f32⟩
  | .hbm, ⟨54, _⟩ => ⟨S8x8x5504, .f32⟩
  | .hbm, ⟨55, _⟩ => ⟨S8x8x5504, .f32⟩
  | .hbm, ⟨56, _⟩ => ⟨S8x8x5504, .f32⟩
  | .hbm, ⟨57, _⟩ => ⟨S64x5504, .f32⟩
  | .hbm, ⟨58, _⟩ => ⟨S_, .i32⟩
  | .hbm, ⟨59, _⟩ => ⟨S_, .f32⟩
  | .hbm, ⟨60, _⟩ => ⟨S64x5632, .f32⟩
  | .hbm, ⟨61, _⟩ => ⟨S64x5632, .bf16⟩
  | .hbm, ⟨62, _⟩ => ⟨S8x2x5504, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call1_v0 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel15.lean ====
abbrev S8x8x2048 : Shape := ⟨3, ![8, 8, 2048]⟩
abbrev S2x2048x6144 : Shape := ⟨3, ![2, 2048, 6144]⟩
abbrev S64x2048 : Shape := ⟨2, ![64, 2048]⟩
abbrev S64x6144 : Shape := ⟨2, ![64, 6144]⟩
abbrev S1x2048x1536 : Shape := ⟨3, ![1, 2048, 1536]⟩
abbrev S64x1536 : Shape := ⟨2, ![64, 1536]⟩
abbrev S2048x1536 : Shape := ⟨2, ![2048, 1536]⟩

abbrev nBuf : Space → Nat
  | .hbm => 6
  | .vmem => 5
  | .smem => 0
  | _ => 0

abbrev bufTy : (tb : Table) → Fin (tcTables nBuf tb) → BufTy
  | .hbm, ⟨0, _⟩ => ⟨S8x8x2048, .f32⟩
  | .hbm, ⟨1, _⟩ => ⟨S2x2048x6144, .f32⟩
  | .hbm, ⟨2, _⟩ => ⟨S64x2048, .f32⟩
  | .hbm, ⟨3, _⟩ => ⟨S64x2048, .bf16⟩
  | .hbm, ⟨4, _⟩ => ⟨S2x2048x6144, .bf16⟩
  | .hbm, ⟨5, _⟩ => ⟨S64x6144, .f32⟩
  | .local _ .vmem, ⟨0, _⟩ => ⟨S64x2048, .bf16⟩
  | .local _ .vmem, ⟨1, _⟩ => ⟨S1x2048x1536, .bf16⟩
  | .local _ .vmem, ⟨2, _⟩ => ⟨S1x2048x1536, .bf16⟩
  | .local _ .vmem, ⟨3, _⟩ => ⟨S64x1536, .f32⟩
  | .local _ .vmem, ⟨4, _⟩ => ⟨S64x1536, .f32⟩
  | _, _ => ⟨S8x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8x8x2048 : Shape := ⟨3, ![8, 8, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S8x8x6144 : Shape := ⟨3, ![8, 8, 6144]⟩
abbrev S64x6144 : Shape := ⟨2, ![64, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8x8x2048, .f32⟩
  | .hbm, ⟨1, _⟩ => ⟨S2x2048x6144, .f32⟩
  | .hbm, ⟨2, _⟩ => ⟨S1x2048x6144, .f32⟩
  | .hbm, ⟨3, _⟩ => ⟨S2048x6144, .f32⟩
  | .hbm, ⟨4, _⟩ => ⟨S8x8x6144, .f32⟩
  | .hbm, ⟨5, _⟩ => ⟨S64x6144, .f32⟩
  | _, _ => ⟨S8x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S64x2048 : Shape := ⟨2, ![64, 2048]⟩
abbrev S2x2048x2048 : Shape := ⟨3, ![2, 2048, 2048]⟩
abbrev S4x2x2048 : Shape := ⟨3, ![4, 2, 2048]⟩
abbrev S1x1x2048 : Shape := ⟨3, ![1, 1, 2048]⟩
abbrev S2048 : Shape := ⟨1, ![2048]⟩
abbrev S1x2048 : Shape := ⟨2, ![1, 2048]⟩
abbrev S1x2048x2048 : Shape := ⟨3, ![1, 2048, 2048]⟩
abbrev S2048x2048 : Shape := ⟨2, ![2048, 2048]⟩
abbrev S64 : Shape := ⟨1, ![64]⟩
abbrev S64x1 : Shape := ⟨2, ![64, 1]⟩

abbrev nBuf : Space → Nat
  | .hbm => 14
  | .vmem => 7
  | .smem => 0
  | _ => 0

abbrev bufTy : (tb : Table) → Fin (tcTables nBuf tb) → BufTy
  | .hbm, ⟨0, _⟩ => ⟨S64x2048, .bf16⟩
  | .hbm, ⟨1, _⟩ => ⟨S2x2048x2048, .f32⟩
  | .hbm, ⟨2, _⟩ => ⟨S64x2048, .f32⟩
  | .hbm, ⟨3, _⟩ => ⟨S4x2x2048, .f32⟩
  | .hbm, ⟨4, _⟩ => ⟨S4x2x2048, .f32⟩
  | .hbm, ⟨5, _⟩ => ⟨S2x2048x2048, .bf16⟩
  | .hbm, ⟨6, _⟩ => ⟨S1x1x2048, .f32⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S64x2048, .f32⟩
  | .hbm, ⟨13, _⟩ => ⟨S64x2048, .bf16⟩
  | .local _ .vmem, ⟨0, _⟩ => ⟨S64x2048, .bf16⟩
  | .local _ .vmem, ⟨1, _⟩ => ⟨S1x2048x2048, .bf16⟩
  | .local _ .vmem, ⟨2, _⟩ => ⟨S64x2048, .f32⟩
  | .local _ .vmem, ⟨3, _⟩ => ⟨S1x2048, .f32⟩
  | .local _ .vmem, ⟨4, _⟩ => ⟨S1x2048, .f32⟩
  | .local _ .vmem, ⟨5, _⟩ => ⟨S64x2048, .f32⟩
  | .local _ .vmem, ⟨6, _⟩ => ⟨S64x2048, .bf16⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S64x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference16Ideal.lean ====
abbrev S64x2048 : Shape := ⟨2, ![64, 2048]⟩
abbrev S2x2048x2048 : Shape := ⟨3, ![2, 2048, 2048]⟩
abbrev S4x2x2048 : Shape := ⟨3, ![4, 2, 2048]⟩
abbrev S1x2048x2048 : Shape := ⟨3, ![1, 2048, 2048]⟩
abbrev S2048x2048 : Shape := ⟨2, ![2048, 2048]⟩
abbrev S_ : Shape := ⟨0, ![]⟩
abbrev S1x1x2048 : Shape := ⟨3, ![1, 1, 2048]⟩
abbrev S2048 : Shape := ⟨1, ![2048]⟩
abbrev S64 : Shape := ⟨1, ![64]⟩
abbrev S64x1 : Shape := ⟨2, ![64, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S2x2048x2048, .f32⟩
  | .hbm, ⟨2, _⟩ => ⟨S64x2048, .f32⟩
  | .hbm, ⟨3, _⟩ => ⟨S4x2x2048, .f32⟩
  | .hbm, ⟨4, _⟩ => ⟨S4x2x2048, .f32⟩
  | .hbm, ⟨5, _⟩ => ⟨S64x2048, .f32⟩
  | .hbm, ⟨6, _⟩ => ⟨S1x2048x2048, .f32⟩
  | .hbm, ⟨7, _⟩ => ⟨S2048x2048, .f32⟩
  | .hbm, ⟨8, _⟩ => ⟨S64x2048, .f32⟩
  | .hbm, ⟨9, _⟩ => ⟨S_, .f32⟩
  | .hbm, ⟨10, _⟩ => ⟨S64x2048, .f32⟩
  | .hbm, ⟨11, _⟩ => ⟨S64x2048, .f32⟩
  | .hbm, ⟨12, _⟩ => ⟨S64x2048, .f32⟩
  | .hbm, ⟨13, _⟩ => ⟨S1x1x2048, .f32⟩
  | .hbm, ⟨14, _⟩ => ⟨S2048, .f32⟩
  | .hbm, ⟨15, _⟩ => ⟨S1x1x2048, .f32⟩
  | .hbm, ⟨16, _⟩ => ⟨S2048, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S_, .f32⟩
  | .hbm, ⟨21, _⟩ => ⟨S64x1, .f32⟩
  | .hbm, ⟨22, _⟩ => ⟨S64x1, .f32⟩
  | .hbm, ⟨23, _⟩ => ⟨S64x2048, .f32⟩
  | .hbm, ⟨24, _⟩ => ⟨S64x2048, .f32⟩
  | .hbm, ⟨25, _⟩ => ⟨S64x2048, .f32⟩
  | .hbm, ⟨26, _⟩ => ⟨S_, .f32⟩
  | .hbm, ⟨27, _⟩ => ⟨S64, .f32⟩
  | .hbm, ⟨28, _⟩ => ⟨S64x1, .f32⟩
  | .hbm, ⟨29, _⟩ => ⟨S_, .f32⟩
  | .hbm, ⟨30, _⟩ => ⟨S64x1, .f32⟩
  | .hbm, ⟨31, _⟩ => ⟨S64x1, .f32⟩
  | .hbm, ⟨32, _⟩ => ⟨S64x2048, .f32⟩
  | .hbm, ⟨33, _⟩ => ⟨S64x2048, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S64x1, .f32⟩
  | .hbm, ⟨38, _⟩ => ⟨S64x2048, .f32⟩
  | .hbm, ⟨39, _⟩ => ⟨S64x2048, .f32⟩
  | .hbm, ⟨40, _⟩ => ⟨S1x2048, .f32⟩
  | .hbm, ⟨41, _⟩ => ⟨S64x2048, .f32⟩
  | .hbm, ⟨42, _⟩ => ⟨S64x2048, .f32⟩
  | .hbm, ⟨43, _⟩ => ⟨S1x2048, .f32⟩
  | .hbm, ⟨44, _⟩ => ⟨S64x2048, .f32⟩
  | .hbm, ⟨45, _⟩ => ⟨S64x2048, .f32⟩
  | .hbm, ⟨46, _⟩ => ⟨S64x2048, .bf16⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.QueryProj.lean ====
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.Kernel6Ideal.Query

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The product of the layer's rows and its query weights, as the reference writes it. -/
abbrev REF (X : FVec Ideal S4x2048x2048 .f32) (W : FVec Ideal S2x2048x6144 .f32) : FVec Ideal S8192x6144 .f32 :=
  Cert.Reference6Ideal.Read.val_main_v3 (F := Ideal) X W

/-- The rows the call reads are the layer's rows, row by row. -/
theorem entry_rows (c : Dev nD) (i : S8192x2048.Idx) :
    (V m c main_v1 : FVec Ideal S8192x2048 .bf16) i
      = (m ((c : Thread nD τ).loc main_arg0) : FVec Ideal S4x2048x2048 .f32)
          (ix3 ⟨(i 0).val / 2048, by have := (i 0).isLt; change (i 0).val < 8192 at this; omega⟩
            ⟨(i 0).val % 2048, by omega⟩ (i 1)) := by
  entry_read
  pointwise

/-- The weights the call reads are the layer's. -/
theorem entry_weights (c : Dev nD) (i : S2x2048x6144.Idx) :
    (V m c main_v2 : FVec Ideal S2x2048x6144 .bf16) i
      = (m ((c : Thread nD τ).loc main_arg1) : FVec Ideal S2x2048x6144 .f32) i := by
  entry_read
  pointwise

theorem idx : ∀ t : Fin cfg0.N, win0_0.index t = ![t.val / 4, 0] ∧ win0_1.index t = ![0, 0, t.val % 4]
    ∧ win0_2.index t = ![t.val / 4, t.val % 4] :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  rw [REF, Cert.Reference6Ideal.Read.val_main_v3_apply, Cert.Reference6Ideal.Read.val_main_v2_apply]
  simp only [Cert.Reference6Ideal.Read.val_main_v1_apply, Cert.Reference6Ideal.Read.val_main_v0_apply]
  pointwise [k0_pay1]
  refine Finset.sum_congr rfl fun k _ => ?_
  congr 1
  · blk_simp [iblk]
    refine (entry_rows m c _).trans ?_
    blk_ext [idx t]
  · blk_simp [iblk]
    refine (entry_weights m c _).trans ?_
    blk_ext [idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel6Ideal.Query

end
-- ==== Proof.SharedKv.lean ====
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.Kernel7Ideal.SharedKv

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The product of the layer's rows and the shared key and value weights, as the reference writes it. -/
abbrev REF (X : FVec Ideal S4x2048x2048 .f32) (W : FVec Ideal S2048x1024 .f32) : FVec Ideal S8192x1024 .f32 :=
  Cert.Reference7Ideal.Read.val_main_v1 (F := Ideal) X W

/-- The rows the call reads are the layer's rows, row by row. -/
theorem entry_rows (c : Dev nD) (i : S8192x2048.Idx) :
    (V m c main_v1 : FVec Ideal S8192x2048 .bf16) i
      = (m ((c : Thread nD τ).loc main_arg0) : FVec Ideal S4x2048x2048 .f32)
          (ix3 ⟨(i 0).val / 2048, by have := (i 0).isLt; change (i 0).val < 8192 at this; omega⟩
            ⟨(i 0).val % 2048, by omega⟩ (i 1)) := by
  entry_read
  pointwise

/-- The weights the call reads are the layer's. -/
theorem entry_weights (c : Dev nD) (i : S1x2048x1024.Idx) :
    (V m c main_v3 : FVec Ideal S1x2048x1024 .bf16) i
      = (m ((c : Thread nD τ).loc main_arg1) : FVec Ideal S2048x1024 .f32) (ix2 (i 1) (i 2)) := by
  entry_read
  pointwise

theorem idx : ∀ t : Fin cfg0.N, win0_0.index t = ![t.val, 0] ∧ win0_1.index t = ![0, 0, 0]
    ∧ win0_2.index t = ![t.val, 0] :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  rw [REF, Cert.Reference7Ideal.Read.val_main_v1_apply, Cert.Reference7Ideal.Read.val_main_v0_apply]
  pointwise [k0_pay1]
  refine Finset.sum_congr rfl fun k _ => ?_
  congr 1
  · blk_simp [iblk]
    refine (entry_rows m c _).trans ?_
    blk_ext [idx t]
  · blk_simp [iblk]
    refine (entry_weights m c _).trans ?_
    blk_ext [idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel7Ideal.SharedKv

end
-- ==== Proof.InProj.lean ====
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Kernel5Ideal.InProj

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The product of the layer's rows and its projection weights, with zero columns up to the block width, as the reference writes it. -/
abbrev REF (X : FVec Ideal S4x2048x2048 .f32) (W : FVec Ideal S2x2048x4176 .f32) : FVec Ideal S8192x4608 .f32 :=
  Cert.Reference5Ideal.Read.val_main_v4 (F := Ideal) X W

theorem sitofp_zero32 : (FloatOps.sitofp FTy.f32 (0#32) : Ideal .f32) = 0 := by
  show ((((0#32 : BitVec 32).toInt : ℤ) : ℝ) : EReal) = 0
  simp

/-- Zero columns after the weights' own, read at an index. -/
theorem pad_at (Y : FVec Ideal S2x2048x4176 .f32) (i : S2x2048x4608.Idx) :
    pad S2x2048x4608 ![0, 0, 0] ![0, 0, 432] ![0, 0, 0] Y
      (sitofp .f32 (constantI S_ 32 0#32) : FVec Ideal S_ .f32) pads_S2x2048x4176_S2x2048x4608_000_000_04320 h_S_ i
      = if h : (i 2).val < 4176 then Y (ix3 (i 0) (i 1) ⟨(i 2).val, h⟩) else (0 : EReal) := by
  pointwise
  rw [show (FloatOps.sitofp FTy.f32 0#32 : Ideal .f32) = 0 from sitofp_zero32]

/-- The rows the call reads are the layer's rows, row by row. -/
theorem entry_rows (c : Dev nD) (i : S8192x2048.Idx) :
    (V m c main_v3 : FVec Ideal S8192x2048 .bf16) i
      = (m ((c : Thread nD τ).loc main_arg0) : FVec Ideal S4x2048x2048 .f32)
          (ix3 ⟨(i 0).val / 2048, by have := (i 0).isLt; change (i 0).val < 8192 at this; omega⟩
            ⟨(i 0).val % 2048, by omega⟩ (i 1)) := by
  unfold V
  simp only [hostOps0, hostOps0_1, hostOps0_2, List.flatten_cons, List.flatten_nil, List.append_nil, List.cons_append, List.nil_append]
  entry_read
  pointwise

/-- The weights the call reads are the layer's. -/
theorem entry_weights (c : Dev nD) (i : S2x2048x4608.Idx) :
    (V m c main_v1 : FVec Ideal S2x2048x4608 .bf16) i
      = if h : (i 2).val < 4176 then (m ((c : Thread nD τ).loc main_arg1) : FVec Ideal S2x2048x4176 .f32) (ix3 (i 0) (i 1) ⟨(i 2).val, h⟩) else (0 : EReal) := by
  unfold V
  simp only [hostOps0, hostOps0_1, hostOps0_2, List.flatten_cons, List.flatten_nil, List.append_nil, List.cons_append, List.nil_append]
  entry_read
  exact pad_at _ i

/-- The reference's array at an index: the product inside the weights' columns, zero beyond. -/
theorem ref_apply (X : FVec Ideal S4x2048x2048 .f32) (W : FVec Ideal S2x2048x4176 .f32) (i : S8192x4608.Idx) :
    REF X W i = if h : (i 1).val < 4176 then Cert.Reference5Ideal.Read.val_main_v3 (F := Ideal) X W (ix2 (i 0) ⟨(i 1).val, h⟩) else 0 := by
  unfold REF Cert.Reference5Ideal.Read.val_main_v4
  generalize Cert.Reference5Ideal.Read.val_main_v3 (F := Ideal) X W = y
  pointwise [Cert.Reference5Ideal.Read.val_main_call0_v0_apply, Cert.Reference5Ideal.Read.val_main_c_apply]
  rw [show (FloatOps.sitofp FTy.f32 0#32 : Ideal .f32) = 0 from sitofp_zero32]

theorem idx : ∀ t : Fin cfg0.N, win0_0.index t = ![t.val / 3, 0] ∧ win0_1.index t = ![0, 0, t.val % 3]
    ∧ win0_2.index t = ![t.val / 3, t.val % 3] :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  rw [ref_apply]
  pointwise [k0_pay1]
  have e2 : ((((cfg0.win 2).blk t).view.emb y) 1).val = t.val % 3 * 1536 + (y 1).val := by blk_simp [idx t]
  by_cases h : ((((cfg0.win 2).blk t).view.emb y) 1).val < 4176
  · rw [dif_pos h, Cert.Reference5Ideal.Read.val_main_v3_apply, Cert.Reference5Ideal.Read.val_main_v2_apply]
    simp only [Cert.Reference5Ideal.Read.val_main_v1_apply, Cert.Reference5Ideal.Read.val_main_v0_apply]
    refine Finset.sum_congr rfl fun k _ => ?_
    congr 1
    · blk_simp [iblk]
      refine (entry_rows m c _).trans ?_
      blk_ext [idx t]
    · blk_simp [iblk]
      refine (entry_weights m c _).trans ?_
      rw [dif_pos (by blk_simp [idx t]; omega)]
      blk_ext [idx t]
  · rw [dif_neg h]
    refine Finset.sum_eq_zero fun k _ => ?_
    have z : (iblk m c 1 t : FVec Ideal S1x2048x1536 .bf16) (ix3 0 k (y 1)) = (0 : EReal) := by
      blk_simp [iblk]
      refine (entry_weights m c _).trans ?_
      rw [dif_neg (by blk_simp [idx t]; omega)]
    exact (congrArg _ z).trans (mul_zero _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel5Ideal.InProj

end
-- ==== Proof.LayerNorm.lean ====
module

public import Idealize.ShloMosaic.Lib.Pipeline.ValueKit

@[expose] public section

noncomputable section

namespace Cert.LayerNorm

open Idealize.ShloMosaic

/-- The mean of a row of 2048 elements. -/
def mean (row : Fin 2048 → EReal) : EReal :=
  Ideal.div (∑ x, row x) (Ideal.ofBits FTy.f32 1157627904#32)

/-- One element of the layer norm of a row: less its mean, over the root of its variance, scaled and shifted. -/
def normed (row : Fin 2048 → EReal) (g b : EReal) (j : Fin 2048) : EReal :=
  (row j - mean row) * Ideal.rsqrt (mean (fun x => (row x - mean row) * (row x - mean row)) + Ideal.ofBits FTy.f32 925353388#32) * g + b

/-- The two halves of a sum over 5632 columns are the sum over the 5504 columns that are not padding. -/
theorem halves (f : ℕ → EReal) (h : ∀ n, 5504 ≤ n → f n = 0) :
    ∑ x : Fin 2816, f x.val + ∑ x : Fin 2816, f (2816 + x.val) = ∑ k : Fin 5504, f k.val := by
  rw [Fin.sum_univ_eq_sum_range f 2816, Fin.sum_univ_eq_sum_range (fun x => f (2816 + x)) 2816, ← Finset.sum_range_add,
    Fin.sum_univ_eq_sum_range f 5504]
  rw [show 2816 + 2816 = 5504 + 128 from rfl, Finset.sum_range_add]
  rw [Finset.sum_eq_zero (s := Finset.range 128) fun x _ => h _ (by omega), add_zero]

end Cert.LayerNorm

end
-- ==== Proof.DownProj.lean ====
module

public import proofs.«01_k».proof.Proof.Gen.Kernel3Ideal.Value
public import proofs.«01_k».proof.Proof.Gen.Reference3Ideal.Read
public import proofs.«01_k».proof.Proof.LayerNorm

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Idealize.ShloMosaic.Pipeline (Dat)
open Cert.Reference3Ideal.Read Cert.LayerNorm

variable (m : (ℓ : Loc nD τ sig) → Buf (Elt Ideal) ℓ)

/-- The residual row before its layer norm, as the reference writes it. -/
abbrev SUM (A : FVec Ideal S8192x5632 .bf16) (W : FVec Ideal S4x5504x2048 .f32) (X : FVec Ideal S8192x2048 .f32) : FVec Ideal S8192x2048 .f32 :=
  val_main_v7 (F := Ideal) A W X

/-- The layer's output, as the reference writes it. -/
abbrev REF (A : FVec Ideal S8192x5632 .bf16) (W : FVec Ideal S4x5504x2048 .f32) (X : FVec Ideal S8192x2048 .f32)
    (g b : FVec Ideal S4x2x2048 .f32) : FVec Ideal S8192x2048 .f32 := val_main_v35 (F := Ideal) A W X g b

/-- The reference's output is the layer norm of its residual row. -/
theorem ref_norm (A : FVec Ideal S8192x5632 .bf16) (W : FVec Ideal S4x5504x2048 .f32) (X : FVec Ideal S8192x2048 .f32)
    (g b : FVec Ideal S4x2x2048 .f32) (r : Fin 8192) (j : Fin 2048) :
    REF A W X g b (ix2 r j) = normed (fun x => SUM A W X (ix2 r x)) (g (ix3 0 1 j)) (b (ix3 0 1 j)) j := by
  unfold REF SUM
  unfold val_main_v35 val_main_v32 val_main_v29 val_main_v24 val_main_v34 val_main_v31 val_main_v30 val_main_v33 val_main_v28
    val_main_v27 val_main_v26 val_main_v22 val_main_v20 val_main_v19 val_main_v18 val_main_v17 val_main_v16 val_main_v23 val_main_v15
    val_main_v13 val_main_v12 val_main_v14 val_main_v21 val_main_v25 val_main_cst_0 val_main_cst_1 val_main_cst_2 val_main_cst_3 val_main_cst_4
    val_main_v9 val_main_v11 val_main_v8 val_main_v10
  generalize val_main_v7 (F := Ideal) A W X = y
  pointwise
  rfl

/-- What the last step of a row block leaves is the layer norm of the residual row over the accumulated product. -/
theorem pay_norm (X A : FVec Ideal S512x2048 .f32) (g b : FVec Ideal S1x2048 .f32) (r : Fin 512) (j : Fin 2048) :
    k0_pay3 (F := Ideal) X A g b (ix2 r j)
      = normed (fun x => Ideal.ofBits FTy.f32 1071072509#32 * X (ix2 r x) + A (ix2 r x)) (g (ix2 0 j)) (b (ix2 0 j)) j := by
  pointwise [k0_pay3]
  rfl

theorem first (c : Dev nD) (t : Fin cfg0.N) (h : t.val % 2 = 0) :
    (outsAt0 m c t.val t.isLt).1 = k0_pay1 (iblk m c 0 t) (iblk m c 1 t) := by
  rw [outsAt0_A m c t h (by omega) (by omega)]
  frame_out

theorem last_f32 (c : Dev nD) (t : Fin cfg0.N) (h : t.val % 2 = 1) :
    (outsAt0 m c t.val t.isLt).1 = k0_pay3 (iblk m c 2 t) (k0_pay2 (iblk m c 0 t) (iblk m c 1 t)
      (outsAt0 m c (t.val - 1) (by have := t.isLt; omega)).1) (iblk m c 3 t) (iblk m c 4 t) := by
  rw [outsAt0_B m c t (by omega) h h]
  frame_out

theorem last_bf16 (c : Dev nD) (t : Fin cfg0.N) (h : t.val % 2 = 1) :
    (outsAt0 m c t.val t.isLt).2 = truncf .bf16 (k0_pay3 (iblk m c 2 t) (k0_pay2 (iblk m c 0 t) (iblk m c 1 t)
      (outsAt0 m c (t.val - 1) (by have := t.isLt; omega)).1) (iblk m c 3 t) (iblk m c 4 t)) bitsLt_bf16_f32 := by
  rw [outsAt0_B m c t (by omega) h h]
  frame_out
  rfl

theorem sitofp_zero32 : (FloatOps.sitofp FTy.f32 (0#32) : Ideal .f32) = 0 := by
  show ((((0#32 : BitVec 32).toInt : ℤ) : ℝ) : EReal) = 0
  simp

/-- Zero rows after the weights' own, read at an index. -/
theorem pad_at (Y : FVec Ideal S4x5504x2048 .f32) (i : S4x5632x2048.Idx) :
    pad S4x5632x2048 ![0, 0, 0] ![0, 128, 0] ![0, 0, 0] Y
      (sitofp .f32 (constantI S_ 32 0#32) : FVec Ideal S_ .f32) pads_S4x5504x2048_S4x5632x2048_000_01280_000 h_S_ i
      = if h : (i 1).val < 5504 then Y (ix3 (i 0) ⟨(i 1).val, h⟩ (i 2)) else (0 : EReal) := by
  pointwise
  rw [show (FloatOps.sitofp FTy.f32 0#32 : Ideal .f32) = 0 from sitofp_zero32]

theorem entry_weights (c : Dev nD) (i : S4x5632x2048.Idx) :
    (V m c main_v1 : FVec Ideal S4x5632x2048 .bf16) i
      = if h : (i 1).val < 5504 then (m ((c : Thread nD τ).loc main_arg1) : FVec Ideal S4x5504x2048 .f32) (ix3 (i 0) ⟨(i 1).val, h⟩ (i 2)) else (0 : EReal) := by
  unfold V
  simp only [hostOps0, hostOps0_1, hostOps0_2, List.flatten_cons, List.flatten_nil, List.append_nil, List.cons_append, List.nil_append]
  entry_read
  exact pad_at _ i

theorem entry_scale (c : Dev nD) (i : S1x2048.Idx) :
    (V m c main_v6 : FVec Ideal S1x2048 .f32) i = (m ((c : Thread nD τ).loc main_arg3) : FVec Ideal S4x2x2048 .f32) (ix3 0 1 (i 1)) := by
  unfold V
  simp only [hostOps0, hostOps0_1, hostOps0_2, List.flatten_cons, List.flatten_nil, List.append_nil, List.cons_append, List.nil_append]
  entry_read
  pointwise

theorem entry_shift (c : Dev nD) (i : S1x2048.Idx) :
    (V m c main_v7 : FVec Ideal S1x2048 .f32) i = (m ((c : Thread nD τ).loc main_arg4) : FVec Ideal S4x2x2048 .f32) (ix3 0 1 (i 1)) := by
  unfold V
  simp only [hostOps0, hostOps0_1, hostOps0_2, List.flatten_cons, List.flatten_nil, List.append_nil, List.cons_append, List.nil_append]
  entry_read
  pointwise

theorem entry_act (c : Dev nD) : (V m c main_arg0) = m ((c : Thread nD τ).loc main_arg0) := by
  unfold V
  simp only [hostOps0, hostOps0_1, hostOps0_2, List.flatten_cons, List.flatten_nil, List.append_nil, List.cons_append, List.nil_append]
  entry_read
  rfl

theorem entry_x (c : Dev nD) : (V m c main_arg2) = m ((c : Thread nD τ).loc main_arg2) := by
  unfold V
  simp only [hostOps0, hostOps0_1, hostOps0_2, List.flatten_cons, List.flatten_nil, List.append_nil, List.cons_append, List.nil_append]
  entry_read
  rfl

theorem idx : ∀ t : Fin cfg0.N, win0_0.index t = ![t.val / 2, t.val % 2] ∧ win0_1.index t = ![0, t.val % 2, 0]
    ∧ win0_2.index t = ![t.val / 2, 0] ∧ win0_3.index t = ![0, 0] ∧ win0_4.index t = ![0, 0]
    ∧ win0_5.index t = ![t.val / 2, 0] ∧ win0_6.index t = ![t.val / 2, 0] :=
  (by decide +kernel : ∀ t : Fin grid0.N, _)

/-- The row of the arrays that row `r` of the block of point `t` is. -/
def rowAt (t : Fin cfg0.N) (r : Fin 512) : Fin 8192 :=
  ⟨t.val / 2 * 512 + r.val, by have : t.val < 32 := t.isLt; have := r.isLt; omega⟩

/-- The term of column `n` in the product of a row and a column; zero in the padding. -/
def term (A : FVec Ideal S8192x5632 .bf16) (W : FVec Ideal S4x5504x2048 .f32) (r : Fin 8192) (j : Fin 2048) (n : ℕ) : EReal :=
  if h : n < 5504 then A (ix2 r ⟨n, by omega⟩) * W (ix3 0 ⟨n, h⟩ j) else 0

/-- A step's product is the sum of the terms of its columns. -/
theorem part (c : Dev nD) (t : Fin cfg0.N) (r : Fin 512) (j : Fin 2048) : k0_pay1 (iblk m c 0 t) (iblk m c 1 t) (ix2 r j)
    = ∑ x : Fin 2816, term (m ((c : Thread nD τ).loc main_arg0)) (m ((c : Thread nD τ).loc main_arg1)) (rowAt t r) j (t.val % 2 * 2816 + x.val) := by
  pointwise [k0_pay1]
  refine Finset.sum_congr rfl fun k _ => ?_
  unfold term
  by_cases h : t.val % 2 * 2816 + k.val < 5504
  · rw [dif_pos h]
    congr 1
    · blk_simp [iblk]
      refine (congrFun (entry_act m c) _).trans ?_
      blk_ext [idx t, rowAt]
    · blk_simp [iblk]
      refine (entry_weights m c _).trans ?_
      rw [dif_pos (by blk_simp [idx t]; omega)]
      blk_ext [idx t]
  · rw [dif_neg h]
    have z : (iblk m c 1 t : FVec Ideal S1x2816x2048 .bf16) (ix3 0 k j) = (0 : EReal) := by
      blk_simp [iblk]
      refine (entry_weights m c _).trans ?_
      rw [dif_neg (by blk_simp [idx t]; omega)]
    exact (congrArg _ z).trans (mul_zero _)

/-- The accumulated product of a row block is the reference's product. -/
theorem acc (c : Dev nD) (t : Fin cfg0.N) (h : t.val % 2 = 1) (r : Fin 512) (j : Fin 2048) :
    k0_pay2 (iblk m c 0 t) (iblk m c 1 t) (outsAt0 m c (t.val - 1) (by have := t.isLt; omega)).1 (ix2 r j)
      = val_main_v4 (F := Ideal) (m ((c : Thread nD τ).loc main_arg0)) (m ((c : Thread nD τ).loc main_arg1)) (ix2 (rowAt t r) j) := by
  have e := first m c ⟨t.val - 1, by have := t.isLt; omega⟩ (by show (t.val - 1) % 2 = 0; omega)
  rw [show (outsAt0 m c (t.val - 1) (by have := t.isLt; omega)).1 = _ from e]
  have p : k0_pay2 (F := Ideal) (iblk m c 0 t) (iblk m c 1 t) (k0_pay1 (iblk m c 0 ⟨t.val - 1, by have := t.isLt; omega⟩) (iblk m c 1 ⟨t.val - 1, by have := t.isLt; omega⟩)) (ix2 r j)
      = (k0_pay1 (F := Ideal) (iblk m c 0 ⟨t.val - 1, by have := t.isLt; omega⟩) (iblk m c 1 ⟨t.val - 1, by have := t.isLt; omega⟩) (ix2 r j) : EReal)
        + k0_pay1 (F := Ideal) (iblk m c 0 t) (iblk m c 1 t) (ix2 r j) := by
    pointwise [k0_pay2]
  rw [p, part, part]
  have er : rowAt ⟨t.val - 1, by have := t.isLt; omega⟩ r = rowAt t r := Fin.ext (by simp only [rowAt]; omega)
  rw [er, val_main_v4_apply]
  have e0 : (t.val - 1) % 2 * 2816 = 0 := by omega
  simp only [e0, h, Nat.zero_add, Nat.one_mul]
  refine (halves _ fun n hn => dif_neg (by omega)).trans (Finset.sum_congr rfl fun k _ => ?_)
  unfold term
  rw [dif_pos k.isLt]
  simp only [val_main_v3_apply, val_main_v2_apply, val_main_v1_apply, val_main_v0_apply]
  congr 1
  · blk_ext
  · blk_ext

/-- What the last step of a row block leaves in an element is the reference's. -/
theorem point (c : Dev nD) (t : Fin cfg0.N) (h : t.val % 2 = 1) (r : Fin 512) (j : Fin 2048) :
    k0_pay3 (iblk m c 2 t) (k0_pay2 (iblk m c 0 t) (iblk m c 1 t)
      (outsAt0 m c (t.val - 1) (by have := t.isLt; omega)).1) (iblk m c 3 t) (iblk m c 4 t) (ix2 r j)
    = REF (m ((c : Thread nD τ).loc main_arg0)) (m ((c : Thread nD τ).loc main_arg1)) (m ((c : Thread nD τ).loc main_arg2))
      (m ((c : Thread nD τ).loc main_arg3)) (m ((c : Thread nD τ).loc main_arg4)) (ix2 (rowAt t r) j) := by
  rw [ref_norm, pay_norm]
  congr 1
  · funext x
    rw [acc m c t h r x]
    unfold SUM
    rw [val_main_v7_apply, val_main_v6_apply, val_main_v5_apply, val_main_cst_apply]
    refine congrArg₂ (· + ·) (congrArg₂ (· * ·) rfl ?_) rfl
    blk_simp [iblk]
    refine (congrFun (entry_x m c) _).trans ?_
    blk_ext [idx t, rowAt]
  · blk_simp [iblk]
    refine (entry_scale m c _).trans ?_
    blk_ext [idx t]
  · blk_simp [iblk]
    refine (entry_shift m c _).trans ?_
    blk_ext [idx t]

theorem final_f32 (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t ht y => ?_
  have h : t.val % 2 = 1 := (flush0_5 t).mp ht
  blk_simp
  rw [after0_5, last_f32 m c t h]
  refine (congrArg _ (by blk_ext)).trans ((point m c t h (y 0) (y 1)).trans ?_)
  blk_ext [idx t, rowAt]

theorem final_bf16 (c : Dev nD) : (dats m 0 c).arrAt 6 (cfgs 0).N
    = (val_main_v36 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) : FVec Ideal S8192x2048 .bf16) := by
  refine (dats m 0 c).arrAt_eq_of_covers 6 _ (by decide +kernel) fun t ht y => ?_
  have h : t.val % 2 = 1 := (flush0_6 t).mp ht
  blk_simp
  rw [after0_6, last_bf16 m c t h]
  refine (congrArg _ (by blk_ext)).trans ((point m c t h (y 0) (y 1)).trans ?_)
  blk_ext [idx t, rowAt]

end Cert.Kernel3Ideal.Down

end
-- ==== Proof.MixerOut.lean ====
module

public import proofs.«01_k».proof.Proof.Gen.Kernel4Ideal.Value
public import proofs.«01_k».proof.Proof.Gen.Reference4Ideal.Read
public import proofs.«01_k».proof.Proof.LayerNorm

@[expose] public section

set_option maxRecDepth 16384

noncomputable section

namespace Cert.Kernel4Ideal.Mixer

open Cert.Kernel4Ideal Cert.Kernel4Ideal.Gen Idealize.ShloMosaic Idealize.ShloMosaic.TcCoe Idealize.SL.Sem
open Idealize.ShloMosaic.Pipeline (Dat)
open Cert.Reference4Ideal.Read Cert.LayerNorm

variable (m : (ℓ : Loc nD τ sig) → Buf (Elt Ideal) ℓ)

/-- The residual row before its layer norm, as the reference writes it. -/
abbrev SUM (A : FVec Ideal S8192x2048 .bf16) (W : FVec Ideal S2x2048x2048 .f32) (X : FVec Ideal S8192x2048 .f32) : FVec Ideal S8192x2048 .f32 :=
  val_main_v6 (F := Ideal) A W X

/-- The layer's output, as the reference writes it. -/
abbrev REF (A : FVec Ideal S8192x2048 .bf16) (W : FVec Ideal S2x2048x2048 .f32) (X : FVec Ideal S8192x2048 .f32)
    (g b : FVec Ideal S4x2x2048 .f32) : FVec Ideal S8192x2048 .f32 := val_main_v34 (F := Ideal) A W X g b

/-- The reference's output is the layer norm of its residual row. -/
theorem ref_norm (A : FVec Ideal S8192x2048 .bf16) (W : FVec Ideal S2x2048x2048 .f32) (X : FVec Ideal S8192x2048 .f32)
    (g b : FVec Ideal S4x2x2048 .f32) (r : Fin 8192) (j : Fin 2048) :
    REF A W X g b (ix2 r j) = normed (fun x => SUM A W X (ix2 r x)) (g (ix3 0 0 j)) (b (ix3 0 0 j)) j := by
  unfold REF SUM
  unfold val_main_v34 val_main_v31 val_main_v28 val_main_v23 val_main_v33 val_main_v30 val_main_v29 val_main_v32 val_main_v27
    val_main_v26 val_main_v25 val_main_v21 val_main_v19 val_main_v18 val_main_v17 val_main_v16 val_main_v15 val_main_v22 val_main_v14
    val_main_v12 val_main_v11 val_main_v13 val_main_v20 val_main_v24 val_main_cst_0 val_main_cst_1 val_main_cst_2 val_main_cst_3 val_main_cst_4
    val_main_v8 val_main_v10 val_main_v7 val_main_v9
  generalize val_main_v6 (F := Ideal) A W X = y
  pointwise
  rfl

/-- What the last step of a row block leaves is the layer norm of the residual row over the accumulated product. -/
theorem pay_norm (X A : FVec Ideal S512x2048 .f32) (g b : FVec Ideal S1x2048 .f32) (r : Fin 512) (j : Fin 2048) :
    k0_pay3 (F := Ideal) X A g b (ix2 r j)
      = normed (fun x => Ideal.ofBits FTy.f32 1071072509#32 * X (ix2 r x) + A (ix2 r x)) (g (ix2 0 j)) (b (ix2 0 j)) j := by
  pointwise [k0_pay3]
  rfl

/-- The weights the call reads are the layer's. -/
theorem entry_weights (c : Dev nD) (i : S2x2048x2048.Idx) :
    (V m c main_v0 : FVec Ideal S2x2048x2048 .bf16) i = (m ((c : Thread nD τ).loc main_arg1) : FVec Ideal S2x2048x2048 .f32) i := by
  entry_read
  rfl

theorem entry_scale (c : Dev nD) (i : S1x2048.Idx) :
    (V m c main_v5 : FVec Ideal S1x2048 .f32) i = (m ((c : Thread nD τ).loc main_arg3) : FVec Ideal S4x2x2048 .f32) (ix3 0 0 (i 1)) := by
  entry_read
  pointwise

theorem entry_shift (c : Dev nD) (i : S1x2048.Idx) :
    (V m c main_v6 : FVec Ideal S1x2048 .f32) i = (m ((c : Thread nD τ).loc main_arg4) : FVec Ideal S4x2x2048 .f32) (ix3 0 0 (i 1)) := by
  entry_read
  pointwise

theorem entry_heads (c : Dev nD) : (V m c main_arg0) = m ((c : Thread nD τ).loc main_arg0) := by
  entry_read
  rfl

theorem entry_x (c : Dev nD) : (V m c main_arg2) = m ((c : Thread nD τ).loc main_arg2) := by
  entry_read
  rfl

theorem idx : ∀ t : Fin cfg0.N, win0_0.index t = ![t.val, 0] ∧ win0_1.index t = ![0, 0, 0]
    ∧ win0_2.index t = ![t.val, 0] ∧ win0_3.index t = ![0, 0] ∧ win0_4.index t = ![0, 0]
    ∧ win0_5.index t = ![t.val, 0] ∧ win0_6.index t = ![t.val, 0] :=
  (by decide +kernel : ∀ t : Fin grid0.N, _)

/-- The row of the arrays that row `r` of the block of point `t` is. -/
def rowAt (t : Fin cfg0.N) (r : Fin 512) : Fin 8192 :=
  ⟨t.val * 512 + r.val, by have : t.val < 16 := t.isLt; have := r.isLt; omega⟩

/-- The product of a row block is the reference's product. -/
theorem prod (c : Dev nD) (t : Fin cfg0.N) (r : Fin 512) (j : Fin 2048) :
    k0_pay1 (iblk m c 0 t) (iblk m c 1 t) (ix2 r j)
      = val_main_v3 (F := Ideal) (m ((c : Thread nD τ).loc main_arg0)) (m ((c : Thread nD τ).loc main_arg1)) (ix2 (rowAt t r) j) := by
  pointwise [k0_pay1]
  rw [val_main_v3_apply]
  simp only [val_main_v2_apply, val_main_v1_apply, val_main_v0_apply]
  refine Finset.sum_congr rfl fun k _ => ?_
  congr 1
  · blk_simp [iblk]
    refine (congrFun (entry_heads m c) _).trans ?_
    blk_ext [idx t, rowAt]
  · blk_simp [iblk]
    refine (entry_weights m c _).trans ?_
    blk_ext [idx t]

/-- What a row block's step leaves in an element is the reference's. -/
theorem point (c : Dev nD) (t : Fin cfg0.N) (r : Fin 512) (j : Fin 2048) :
    k0_pay3 (iblk m c 2 t) (k0_pay1 (iblk m c 0 t) (iblk m c 1 t)) (iblk m c 3 t) (iblk m c 4 t) (ix2 r j)
    = REF (m ((c : Thread nD τ).loc main_arg0)) (m ((c : Thread nD τ).loc main_arg1)) (m ((c : Thread nD τ).loc main_arg2))
      (m ((c : Thread nD τ).loc main_arg3)) (m ((c : Thread nD τ).loc main_arg4)) (ix2 (rowAt t r) j) := by
  rw [ref_norm, pay_norm]
  congr 1
  · funext x
    rw [prod m c t r x]
    unfold SUM
    rw [val_main_v6_apply, val_main_v5_apply, val_main_v4_apply, val_main_cst_apply]
    refine congrArg₂ (· + ·) (congrArg₂ (· * ·) rfl ?_) rfl
    blk_simp [iblk]
    refine (congrFun (entry_x m c) _).trans ?_
    blk_ext [idx t, rowAt]
  · blk_simp [iblk]
    refine (entry_scale m c _).trans ?_
    blk_ext [idx t]
  · blk_simp [iblk]
    refine (entry_shift m c _).trans ?_
    blk_ext [idx t]

theorem out_f32 (c : Dev nD) (t : Fin cfg0.N) :
    (outsAt0 m c t).1 = k0_pay3 (iblk m c 2 t) (k0_pay1 (iblk m c 0 t) (iblk m c 1 t)) (iblk m c 3 t) (iblk m c 4 t) := by
  frame_out

theorem out_bf16 (c : Dev nD) (t : Fin cfg0.N) :
    (outsAt0 m c t).2 = truncf .bf16 (k0_pay3 (iblk m c 2 t) (k0_pay1 (iblk m c 0 t) (iblk m c 1 t)) (iblk m c 3 t) (iblk m c 4 t)) bitsLt_bf16_f32 := by
  frame_out
  rfl

theorem final_f32 (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t ht y => ?_
  blk_simp
  rw [after0_5, out_f32]
  refine (congrArg _ (by blk_ext)).trans ((point m c t (y 0) (y 1)).trans ?_)
  blk_ext [idx t, rowAt]

theorem final_bf16 (c : Dev nD) : (dats m 0 c).arrAt 6 (cfgs 0).N
    = (val_main_v35 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) : FVec Ideal S8192x2048 .bf16) := by
  refine (dats m 0 c).arrAt_eq_of_covers 6 _ (by decide +kernel) fun t ht y => ?_
  blk_simp
  rw [after0_6, out_bf16]
  refine (congrArg _ (by blk_ext)).trans ((point m c t (y 0) (y 1)).trans ?_)
  blk_ext [idx t, rowAt]

end Cert.Kernel4Ideal.Mixer

end
-- ==== Proof.FfnUp.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pipeline.ReadBack

@[expose] public section

set_option maxRecDepth 16384

noncomputable section

namespace Cert.Kernel2Ideal.FfnUp

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-- The rows the gate's product reads at a row block: sixteen rows before the block's own (zero at the first block of a sequence),
    then the block's own, as the first column step stores them. -/
def ext (c : Dev nD) (t : Fin cfg0.N) : Vec Ideal S1040x2048 .bf16 :=
  View.canon (Val := Elt Ideal) (s := S1040x2048) (e := .bf16) [⟨Rect.unit ![16, 0] ![1024, 2048] inb_S1040x2048_S1024x2048_16_0, k0_pay3 (iblk m c 0 t)⟩,
    ⟨Rect.unit ![0, 0] ![16, 2048] inb_S1040x2048_S16x2048_0_0, k0_pay2 (grid0.coords t) (iblk m c 1 t)⟩]

theorem scr_A (c : Dev nD) (t : Fin cfg0.N) (h : t.val % 11 = 0) : (outsAt0 m c t.val t.isLt).2.2 = ext m c t := by
  rw [outsAt0_A m c t h]
  frame_out

theorem scr_B (c : Dev nD) (t : Fin cfg0.N) (h : ¬ t.val % 11 = 0) :
    (outsAt0 m c t.val t.isLt).2.2 = (outsAt0 m c (t.val - 1) (by have := t.isLt; omega)).2.2 := by
  rw [outsAt0_B m c t h]
  rfl

/-- The first column step of a point's row block. -/
def start (t : Fin cfg0.N) : Fin cfg0.N := ⟨t.val / 11 * 11, by have := t.isLt; omega⟩

/-- Every column step of a row block finds the rows its first step stored. -/
theorem scr (c : Dev nD) : ∀ (n : ℕ) (hn : n < cfg0.N), (outsAt0 m c n hn).2.2 = ext m c (start ⟨n, hn⟩) := by
  intro n
  induction n with
  | zero =>
    intro hn
    rw [show start ⟨0, hn⟩ = ⟨0, hn⟩ from Fin.ext (by simp only [start])]
    exact scr_A m c ⟨0, hn⟩ (Nat.zero_mod _)
  | succ n ih =>
    intro hn
    by_cases h : (n + 1) % 11 = 0
    · rw [show start ⟨n + 1, hn⟩ = ⟨n + 1, hn⟩ from Fin.ext (by simp only [start]; omega)]
      exact scr_A m c ⟨n + 1, hn⟩ h
    · refine (scr_B m c ⟨n + 1, hn⟩ h).trans ((ih (by omega)).trans ?_)
      congr 1
      exact Fin.ext (by simp only [start]; omega)

theorem read_ext (c : Dev nD) (t : Fin cfg0.N) : (View.whole cc0_scratch0).readCov
        [⟨Rect.unit ![16, 0] ![1024, 2048] inb_S1040x2048_S1024x2048_16_0, k0_pay3 (iblk m c 0 t)⟩,
          ⟨Rect.unit ![0, 0] ![16, 2048] inb_S1040x2048_S16x2048_0_0, k0_pay2 (grid0.coords t) (iblk m c 1 t)⟩]
        (Rect.unit ![0, 0] ![1040, 2048] inb_S1040x2048_S1040x2048_0_0).toLoadRect = ext m c t := by
  rw [View.readCov_eq_canon']
  funext j
  unfold ext
  congr 1
  funext a
  refine Fin.ext ?_
  fin_cases a <;> simp [Rect.toLoadRect, LoadRect.idx, Rect.unit]

theorem out_act (c : Dev nD) (t : Fin cfg0.N) :
    (outsAt0 m c t.val t.isLt).1 = k0_pay5 (ext m c (start t)) (iblk m c 2 t) (iblk m c 0 t) (iblk m c 3 t) (iblk m c 4 t) (iblk m c 5 t) := by
  by_cases h : t.val % 11 = 0
  · rw [show start t = t from Fin.ext (by simp only [start]; omega), outsAt0_A m c t h]
    have r := read_ext m c t
    generalize ext m c t = E at r ⊢
    frame_out
    rw [r]
  · have r := scr m c (t.val - 1) (by have := t.isLt; omega)
    rw [show start ⟨t.val - 1, by have := t.isLt; omega⟩ = start t from Fin.ext (by simp only [start]; omega)] at r
    rw [outsAt0_B m c t h, r]
    generalize ext m c (start t) = E
    frame_out
    rw [read_unread_whole]

theorem out_state (c : Dev nD) (t : Fin cfg0.N) :
    (outsAt0 m c t.val t.isLt).2.1 = k0_pay1 (k0_pay4 (ext m c (start t)) (iblk m c 2 t)) := by
  by_cases h : t.val % 11 = 0
  · rw [show start t = t from Fin.ext (by simp only [start]; omega), outsAt0_A m c t h]
    have r := read_ext m c t
    generalize ext m c t = E at r ⊢
    frame_out
    rw [r]
  · have r := scr m c (t.val - 1) (by have := t.isLt; omega)
    rw [show start ⟨t.val - 1, by have := t.isLt; omega⟩ = start t from Fin.ext (by simp only [start]; omega)] at r
    rw [outsAt0_B m c t h, r]
    generalize ext m c (start t) = E
    frame_out
    rw [read_unread_whole]

theorem idx : ∀ t : Fin cfg0.N, win0_0.index t = ![t.val / 11, 0] ∧ win0_1.index t = ![t.val / 11 * 64 - 1, 0]
    ∧ win0_2.index t = ![0, 0, t.val % 11] ∧ win0_3.index t = ![0, 0, t.val % 11] ∧ win0_4.index t = ![0, 0, t.val % 11]
    ∧ win0_5.index t = ![0, 0, t.val % 11] ∧ win0_6.index t = ![t.val / 11, t.val % 11] ∧ win0_7.index t = ![t.val / 11, 0, t.val % 11] :=
  (by decide +kernel : ∀ t : Fin grid0.N, _)

/-- One activation: the gate's causal convolution of width three through `silu`, times the up projection. -/
def glu (x0 x1 x2 w0 w1 w2 b up : EReal) : EReal :=
  (b + (x0 * w0 + x1 * w1 + x2 * w2)) * Ideal.logistic (b + (x0 * w0 + x1 * w1 + x2 * w2)) * up

/-- An element of the up projection's product of two blocks. -/
def upSum (x : FVec Ideal S1024x2048 .bf16) (wu : FVec Ideal S1x2048x512 .bf16) (r : Fin 1024) (f : Fin 512) : EReal :=
  ∑ k : Fin 2048, x (ix2 r k) * wu (ix3 0 k f)

theorem ref_act (X : FVec Ideal S4x2048x2048 .f32) (W : FVec Ideal S4x2048x11008 .f32) (cw : FVec Ideal S4x3x5504 .f32) (cb : FVec Ideal S4x5504 .f32)
    (b : Fin 4) (s : Fin 2048) (f : Fin 5504) :
    val_main_v37 (F := Ideal) X W cw cb (ix3 b s f)
      = glu (val_main_v10 (F := Ideal) X W (ix3 b ⟨s.val, by omega⟩ f)) (val_main_v10 (F := Ideal) X W (ix3 b ⟨1 + s.val, by omega⟩ f))
          (val_main_v10 (F := Ideal) X W (ix3 b ⟨2 + s.val, by omega⟩ f)) (cw (ix3 0 0 f)) (cw (ix3 0 1 f)) (cw (ix3 0 2 f)) (cb (ix2 0 f))
          (val_main_v9 (F := Ideal) X W (ix3 b s f)) := by
  unfold val_main_v37 val_main_v36 val_main_call0_v5 val_main_call0_v3 val_main_call0_v1 val_main_call0_v0 val_main_v35 val_main_v32 val_main_v25 val_main_v18
    val_main_v31 val_main_v30 val_main_v29 val_main_v28 val_main_v27 val_main_v26 val_main_v24 val_main_v23 val_main_v22 val_main_v21 val_main_v20 val_main_v19
    val_main_v17 val_main_v16 val_main_v15 val_main_v14 val_main_v13 val_main_v12 val_main_v11 val_main_v34 val_main_v33 val_main_v5 val_main_v4 val_main_v3 val_main_v2
    val_main_cst_0 val_main_call0_v4 val_main_call0_v2 val_main_call0_cst val_main_call0_cst_0
  generalize val_main_v10 (F := Ideal) X W = y
  generalize val_main_v9 (F := Ideal) X W = z
  pointwise
  rfl

theorem pay_act (E : FVec Ideal S1040x2048 .bf16) (wg : FVec Ideal S1x2048x512 .bf16) (x : FVec Ideal S1024x2048 .bf16) (wu : FVec Ideal S1x2048x512 .bf16)
   (cw : FVec Ideal S1x3x512 .f32) (cb : FVec Ideal S1x1x512 .f32) (r : Fin 1024) (f : Fin 512) :
    k0_pay5 (F := Ideal) E wg x wu cw cb (ix2 r f)
      = glu (k0_pay4 (F := Ideal) E wg (ix2 ⟨14 + r.val, by omega⟩ f)) (k0_pay4 (F := Ideal) E wg (ix2 ⟨15 + r.val, by omega⟩ f))
          (k0_pay4 (F := Ideal) E wg (ix2 ⟨16 + r.val, by omega⟩ f)) (cw (ix3 0 0 f)) (cw (ix3 0 1 f)) (cw (ix3 0 2 f)) (cb (ix3 0 0 f))
          (upSum x wu r f) := by
  unfold k0_pay5
  generalize k0_pay4 (F := Ideal) E wg = g
  pointwise
  rfl

theorem pay_gate (E : FVec Ideal S1040x2048 .bf16) (wg : FVec Ideal S1x2048x512 .bf16) (q : Fin 1040) (f : Fin 512) :
    k0_pay4 (F := Ideal) E wg (ix2 q f) = ∑ k : Fin 2048, E (ix2 q k) * wg (ix3 0 k f) := by
  pointwise [k0_pay4]

theorem pay_state (g : FVec Ideal S1040x512 .f32) (e : Fin 2) (f : Fin 512) :
    k0_pay1 (F := Ideal) g (ix3 0 e f) = g (ix2 ⟨1038 + e.val, by omega⟩ f) := by
  pointwise [k0_pay1]

/-- The reference's gate with two zero rows before it. -/
theorem ref_gate (X : FVec Ideal S4x2048x2048 .f32) (W : FVec Ideal S4x2048x11008 .f32) (b : Fin 4) (s : Fin 2050) (f : Fin 5504) :
    val_main_v10 (F := Ideal) X W (ix3 b s f)
      = if h : s.val < 2 then (0 : EReal) else ∑ k : Fin 2048, X (ix3 b ⟨s.val - 2, by omega⟩ k) * W (ix3 0 k ⟨f.val, by omega⟩) := by
  unfold val_main_v10 val_main_v8 val_main_v7 val_main_v6 val_main_v1 val_main_v0 val_main_cst
  pointwise

theorem ref_up (X : FVec Ideal S4x2048x2048 .f32) (W : FVec Ideal S4x2048x11008 .f32) (b : Fin 4) (s : Fin 2048) (f : Fin 5504) :
    val_main_v9 (F := Ideal) X W (ix3 b s f) = ∑ k : Fin 2048, X (ix3 b s k) * W (ix3 0 k ⟨5504 + f.val, by omega⟩) := by
  unfold val_main_v9 val_main_v7 val_main_v1 val_main_v0
  pointwise

theorem sitofp_zero32 : (FloatOps.sitofp FTy.f32 (0#32) : Ideal .f32) = 0 := by
  show ((((0#32 : BitVec 32).toInt : ℤ) : ℝ) : EReal) = 0
  simp

/-- The reference's activations at an index: zero in the padding. -/
theorem ref_out (X : FVec Ideal S4x2048x2048 .f32) (W : FVec Ideal S4x2048x11008 .f32) (cw : FVec Ideal S4x3x5504 .f32) (cb : FVec Ideal S4x5504 .f32)
    (r : Fin 8192) (f : Fin 5632) :
    val_main_v42 (F := Ideal) X W cw cb (ix2 r f)
      = if h : f.val < 5504 then val_main_v37 (F := Ideal) X W cw cb (ix3 ⟨r.val / 2048, by omega⟩ ⟨r.val % 2048, by omega⟩ ⟨f.val, h⟩) else (0 : EReal) := by
  unfold val_main_v42 val_main_v41 val_main_v38
  generalize val_main_v37 (F := Ideal) X W cw cb = y
  pointwise [val_main_call1_v0_apply, val_main_c_apply]
  rw [show (FloatOps.sitofp FTy.f32 0#32 : Ideal .f32) = 0 from sitofp_zero32]

/-- The reference's state rows at an index: the last two gate rows of a block, zero in the padding. -/
theorem ref_state (X : FVec Ideal S4x2048x2048 .f32) (W : FVec Ideal S4x2048x11008 .f32) (g : Fin 8) (e : Fin 2) (f : Fin 5632) :
    val_main_v43 (F := Ideal) X W (ix3 g e f)
      = if h : f.val < 5504 then ∑ k : Fin 2048, X (ix3 ⟨g.val / 2, by omega⟩ ⟨g.val % 2 * 1024 + 1022 + e.val, by omega⟩ k) * W (ix3 0 k ⟨f.val, by omega⟩) else (0 : EReal) := by
  unfold val_main_v43 val_main_v40 val_main_v39 val_main_v8 val_main_v7 val_main_v1 val_main_v0
  pointwise [val_main_call2_v0_apply, val_main_c_1_apply]
  rw [show (FloatOps.sitofp FTy.f32 0#32 : Ideal .f32) = 0 from sitofp_zero32]
  simp only [Nat.add_assoc]

theorem pad_gate (Y : FVec Ideal S4x2048x11008 .f32) (i : S4x2048x5632.Idx) :
    pad S4x2048x5632 ![0, 0, 0] ![0, 0, 128] ![0, 0, 0] (extractStridedSlice S4x2048x5504 ![0, 0, 0] Y slices_S4x2048x11008_S4x2048x5504_0_0_0)
      (sitofp .f32 (constantI S_ 32 0#32) : FVec Ideal S_ .f32) pads_S4x2048x5504_S4x2048x5632_000_000_01280 h_S_ i
      = if h : (i 2).val < 5504 then Y (ix3 (i 0) (i 1) ⟨(i 2).val, by omega⟩) else (0 : EReal) := by
  pointwise
  rw [show (FloatOps.sitofp FTy.f32 0#32 : Ideal .f32) = 0 from sitofp_zero32]

theorem pad_up (Y : FVec Ideal S4x2048x11008 .f32) (i : S4x2048x5632.Idx) :
    pad S4x2048x5632 ![0, 0, 0] ![0, 0, 128] ![0, 0, 0] (extractStridedSlice S4x2048x5504 ![0, 0, 5504] Y slices_S4x2048x11008_S4x2048x5504_0_0_5504)
      (sitofp .f32 (constantI S_ 32 0#32) : FVec Ideal S_ .f32) pads_S4x2048x5504_S4x2048x5632_000_000_01280 h_S_ i
      = if h : (i 2).val < 5504 then Y (ix3 (i 0) (i 1) ⟨5504 + (i 2).val, by omega⟩) else (0 : EReal) := by
  pointwise
  rw [show (FloatOps.sitofp FTy.f32 0#32 : Ideal .f32) = 0 from sitofp_zero32]

theorem pad_conv (Y : FVec Ideal S4x3x5504 .f32) (i : S4x3x5632.Idx) :
    pad S4x3x5632 ![0, 0, 0] ![0, 0, 128] ![0, 0, 0] Y
      (sitofp .f32 (constantI S_ 32 0#32) : FVec Ideal S_ .f32) pads_S4x3x5504_S4x3x5632_000_000_01280 h_S_ i
      = if h : (i 2).val < 5504 then Y (ix3 (i 0) (i 1) ⟨(i 2).val, h⟩) else (0 : EReal) := by
  pointwise
  rw [show (FloatOps.sitofp FTy.f32 0#32 : Ideal .f32) = 0 from sitofp_zero32]

theorem pad_bias (Y : FVec Ideal S4x5504 .f32) (i : S4x1x5632.Idx) :
    shapeCast S4x1x5632 (pad S4x5632 ![0, 0] ![0, 128] ![0, 0] Y
      (sitofp .f32 (constantI S_ 32 0#32) : FVec Ideal S_ .f32) pads_S4x5504_S4x5632_000_01280 h_S_) shapeCasts_S4x5632_S4x1x5632 i
      = if h : (i 2).val < 5504 then Y (ix2 (i 0) ⟨(i 2).val, h⟩) else (0 : EReal) := by
  pointwise
  rw [show (FloatOps.sitofp FTy.f32 0#32 : Ideal .f32) = 0 from sitofp_zero32]

/-- The rows the call reads are the layer's rows, row by row. -/
theorem entry_rows (c : Dev nD) (i : S8192x2048.Idx) :
    (V m c main_v10 : FVec Ideal S8192x2048 .bf16) i
      = (m ((c : Thread nD τ).loc main_arg0) : FVec Ideal S4x2048x2048 .f32) (ix3 ⟨(i 0).val / 2048, by have := (i 0).isLt; change (i 0).val < 8192 at this; omega⟩ ⟨(i 0).val % 2048, by omega⟩ (i 1)) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  pointwise

/-- The gate's weights. -/
theorem entry_gate (c : Dev nD) (i : S4x2048x5632.Idx) :
    (V m c main_v2 : FVec Ideal S4x2048x5632 .bf16) i
      = if h : (i 2).val < 5504 then (m ((c : Thread nD τ).loc main_arg1) : FVec Ideal S4x2048x11008 .f32) (ix3 (i 0) (i 1) ⟨(i 2).val, by omega⟩) else (0 : EReal) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  exact pad_gate _ i

/-- The up projection's weights. -/
theorem entry_up (c : Dev nD) (i : S4x2048x5632.Idx) :
    (V m c main_v5 : FVec Ideal S4x2048x5632 .bf16) i
      = if h : (i 2).val < 5504 then (m ((c : Thread nD τ).loc main_arg1) : FVec Ideal S4x2048x11008 .f32) (ix3 (i 0) (i 1) ⟨5504 + (i 2).val, by omega⟩) else (0 : EReal) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  exact pad_up _ i

/-- The convolution's weights. -/
theorem entry_conv (c : Dev nD) (i : S4x3x5632.Idx) :
    (V m c main_v6 : FVec Ideal S4x3x5632 .f32) i
      = if h : (i 2).val < 5504 then (m ((c : Thread nD τ).loc main_arg2) : FVec Ideal S4x3x5504 .f32) (ix3 (i 0) (i 1) ⟨(i 2).val, h⟩) else (0 : EReal) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  exact pad_conv _ i

/-- The convolution's bias. -/
theorem entry_bias (c : Dev nD) (i : S4x1x5632.Idx) :
    (V m c main_v8 : FVec Ideal S4x1x5632 .f32) i
      = if h : (i 2).val < 5504 then (m ((c : Thread nD τ).loc main_arg3) : FVec Ideal S4x5504 .f32) (ix2 (i 0) ⟨(i 2).val, h⟩) else (0 : EReal) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  entry_read
  exact pad_bias _ i

/-- The body's own test for the first row block of a sequence, as the kernel computes it from the grid coordinate. -/
def isFirst (i : grid0.Coords) : BitVec 1 :=
  let v42 : BitVec 32 := Scalar.select (Scalar.cmpi .eq 2#32 0#32) 1#32 2#32
  let v43 : BitVec 32 := Scalar.remsi (BitVec.ofNat 32 (i 0).val) v42
  let v48 : BitVec 1 := Scalar.andi (Scalar.xori (Scalar.cmpi .slt v43 0#32) (Scalar.cmpi .slt v42 0#32)) (Scalar.cmpi .ne v43 0#32)
  Scalar.cmpi .eq (Scalar.select v48 (Scalar.addi v43 v42) v43) 0#32

theorem isFirst_at : ∀ t : Fin cfg0.N, isFirst (grid0.coords t) = if t.val / 11 % 2 = 0 then 1#1 else 0#1 :=
  (by decide +kernel : ∀ t : Fin grid0.N, _)

theorem pay_before (t : Fin cfg0.N) (Y : FVec Ideal S16x2048 .bf16) (q : Fin 16) (k : Fin 2048) :
    k0_pay2 (F := Ideal) (grid0.coords t) Y (ix2 q k) = if t.val / 11 % 2 = 0 then (0 : EReal) else Y (ix2 q k) := by
  have e : k0_pay2 (F := Ideal) (grid0.coords t) Y
      = shapeCast S16x2048 (Scalar.select (isFirst (grid0.coords t)) (broadcast S16x2048 (Scalar.ofBits .bf16 0x0000#16 : Ideal .bf16))
          (shapeCast S16x2048 Y shapeCasts_S16x2048_S16x2048)) shapeCasts_S16x2048_S16x2048 := rfl
  rw [e, isFirst_at]
  by_cases h : t.val / 11 % 2 = 0
  · rw [if_pos h, if_pos h]
    pointwise
  · rw [if_neg h, if_neg h]
    pointwise

/-- The activations the call reads and writes, from the buffers the program starts with. -/
abbrev rows (c : Dev nD) : FVec Ideal S4x2048x2048 .f32 := m ((c : Thread nD τ).loc main_arg0)
abbrev wts (c : Dev nD) : FVec Ideal S4x2048x11008 .f32 := m ((c : Thread nD τ).loc main_arg1)
abbrev cws (c : Dev nD) : FVec Ideal S4x3x5504 .f32 := m ((c : Thread nD τ).loc main_arg2)
abbrev cbs (c : Dev nD) : FVec Ideal S4x5504 .f32 := m ((c : Thread nD τ).loc main_arg3)

theorem lt88 (t : Fin cfg0.N) : t.val < 88 := t.isLt

/-- A row block's own rows. -/
theorem own_row (c : Dev nD) (t : Fin cfg0.N) (r : Fin 1024) (k : Fin 2048) :
    (iblk m c 0 t : FVec Ideal S1024x2048 .bf16) (ix2 r k)
      = rows m c (ix3 ⟨t.val / 11 / 2, by have := lt88 t; omega⟩ ⟨t.val / 11 % 2 * 1024 + r.val, by omega⟩ k) := by
  have ht := lt88 t
  blk_simp [iblk]
  refine (entry_rows m c _).trans ?_
  blk_ext [idx t]

/-- The sixteen rows before a row block that is not a sequence's first. -/
theorem before_row (c : Dev nD) (t : Fin cfg0.N) (h : t.val / 11 % 2 = 1) (q : Fin 16) (k : Fin 2048) :
    (iblk m c 1 t : FVec Ideal S16x2048 .bf16) (ix2 q k)
      = rows m c (ix3 ⟨t.val / 11 / 2, by have := lt88 t; omega⟩ ⟨1008 + q.val, by omega⟩ k) := by
  have ht := lt88 t
  blk_simp [iblk]
  refine (entry_rows m c _).trans ?_
  blk_ext [idx t]

/-- The rows the gate's product reads, at an index. -/
theorem ext_at (c : Dev nD) (t : Fin cfg0.N) (q : Fin 1040) (k : Fin 2048) :
    ext m c t (ix2 q k) = if h : t.val / 11 % 2 * 1024 + q.val < 16 then (0 : EReal) else
      rows m c (ix3 ⟨t.val / 11 / 2, by have := lt88 t; omega⟩ ⟨t.val / 11 % 2 * 1024 + q.val - 16, by omega⟩ k) := by
  have ht := lt88 t
  by_cases hq : 16 ≤ q.val
  · have e : (ix2 q k : S1040x2048.Idx) = (Rect.unit (s := S1040x2048) ![16, 0] ![1024, 2048] inb_S1040x2048_S1024x2048_16_0).emb
        (ix2 (⟨q.val - 16, by omega⟩ : Fin 1024) k : S1024x2048.Idx) := by
      funext a; refine Fin.ext ?_
      fin_cases a
      · show q.val = 16 + 1 * (q.val - 16); omega
      · show k.val = 0 + 1 * k.val; omega
    unfold ext
    rw [e, View.canon_cons_emb, dif_neg (by omega)]
    have p : k0_pay3 (F := Ideal) (iblk m c 0 t) (ix2 (⟨q.val - 16, by omega⟩ : Fin 1024) k)
        = (iblk m c 0 t : FVec Ideal S1024x2048 .bf16) (ix2 (⟨q.val - 16, by omega⟩ : Fin 1024) k) := by pointwise [k0_pay3]
    refine p.trans ((own_row m c t _ _).trans ?_)
    blk_ext
  · have e : (ix2 q k : S1040x2048.Idx) = (Rect.unit (s := S1040x2048) ![0, 0] ![16, 2048] inb_S1040x2048_S16x2048_0_0).emb
        (ix2 (⟨q.val, by omega⟩ : Fin 16) k : S16x2048.Idx) := by
      funext a; refine Fin.ext ?_
      fin_cases a
      · show q.val = 0 + 1 * q.val; omega
      · show k.val = 0 + 1 * k.val; omega
    unfold ext
    rw [View.canon_cons_of_not_mem, e, View.canon_cons_emb]
    · refine (pay_before t _ _ _).trans ?_
      by_cases h : t.val / 11 % 2 = 0
      · rw [if_pos h, dif_pos (by omega)]
      · rw [if_neg h, dif_neg (by omega)]
        refine (before_row m c t (by omega) _ _).trans ?_
        blk_ext
    · intro hm
      obtain ⟨x, hx⟩ := LoadRect.exists_idx_of_mem _ hm
      have h0 := congrArg Fin.val (congrFun hx 0)
      have h1 : 16 + 1 * (x 0).val = q.val := h0
      omega

/-- The extended gate at a row from the fourteenth on, in a column that is not padding, is the reference's gate with its two zero rows. -/
theorem gate (c : Dev nD) (t : Fin cfg0.N) (q : Fin 1040) (hq : 14 ≤ q.val) (f : Fin 512) (hf : t.val % 11 * 512 + f.val < 5504) :
    k0_pay4 (F := Ideal) (ext m c (start t)) (iblk m c 2 t) (ix2 q f)
      = val_main_v10 (F := Ideal) (rows m c) (wts m c) (ix3 ⟨t.val / 11 / 2, by have := lt88 t; omega⟩
          ⟨t.val / 11 % 2 * 1024 + q.val - 14, by omega⟩ ⟨t.val % 11 * 512 + f.val, hf⟩) := by
  have ht := lt88 t
  have hs : (start t).val / 11 = t.val / 11 := by simp only [start]; omega
  rw [ref_gate]
  rw [pay_gate]
  have w : ∀ k : Fin 2048, (iblk m c 2 t : FVec Ideal S1x2048x512 .bf16) (ix3 0 k f) = wts m c (ix3 0 k ⟨t.val % 11 * 512 + f.val, by omega⟩) := by
    intro k
    blk_simp [iblk]
    refine (entry_gate m c _).trans ?_
    rw [dif_pos (by blk_simp [idx t]; omega)]
    blk_ext [idx t]
  by_cases h : t.val / 11 % 2 * 1024 + q.val < 16
  · rw [dif_pos (by show t.val / 11 % 2 * 1024 + q.val - 14 < 2; omega)]
    refine Finset.sum_eq_zero fun k _ => ?_
    rw [ext_at, dif_pos (by rw [hs]; exact h)]
    exact zero_mul _
  · rw [dif_neg (by show ¬ t.val / 11 % 2 * 1024 + q.val - 14 < 2; omega)]
    refine Finset.sum_congr rfl fun k _ => ?_
    refine congrArg₂ (· * ·) ?_ (w k)
    rw [ext_at, dif_neg (by rw [hs]; exact h)]
    blk_ext [hs]

/-- The up projection's product of a block. -/
theorem up (c : Dev nD) (t : Fin cfg0.N) (r : Fin 1024) (f : Fin 512) :
    upSum (iblk m c 0 t) (iblk m c 3 t) r f
      = if h : t.val % 11 * 512 + f.val < 5504 then val_main_v9 (F := Ideal) (rows m c) (wts m c) (ix3 ⟨t.val / 11 / 2, by have := lt88 t; omega⟩
          ⟨t.val / 11 % 2 * 1024 + r.val, by omega⟩ ⟨t.val % 11 * 512 + f.val, h⟩) else 0 := by
  have ht := lt88 t
  have w : ∀ k : Fin 2048, (iblk m c 3 t : FVec Ideal S1x2048x512 .bf16) (ix3 0 k f)
      = if h : t.val % 11 * 512 + f.val < 5504 then wts m c (ix3 0 k ⟨5504 + (t.val % 11 * 512 + f.val), by omega⟩) else (0 : EReal) := by
    intro k
    blk_simp [iblk]
    refine (entry_up m c _).trans ?_
    by_cases h : t.val % 11 * 512 + f.val < 5504
    · rw [dif_pos (by blk_simp [idx t]; omega), dif_pos h]
      blk_ext [idx t]
    · rw [dif_neg (by blk_simp [idx t]; omega), dif_neg h]
  unfold upSum
  by_cases h : t.val % 11 * 512 + f.val < 5504
  · rw [dif_pos h, ref_up]
    refine Finset.sum_congr rfl fun k _ => ?_
    rw [w, dif_pos h, own_row]
  · rw [dif_neg h]
    refine Finset.sum_eq_zero fun k _ => ?_
    rw [w, dif_neg h]
    exact mul_zero _

/-- A block's activations are the reference's. -/
theorem point_act (c : Dev nD) (t : Fin cfg0.N) (r : Fin 1024) (f : Fin 512) :
    k0_pay5 (F := Ideal) (ext m c (start t)) (iblk m c 2 t) (iblk m c 0 t) (iblk m c 3 t) (iblk m c 4 t) (iblk m c 5 t) (ix2 r f)
      = val_main_v42 (F := Ideal) (rows m c) (wts m c) (cws m c) (cbs m c)
          (ix2 ⟨t.val / 11 * 1024 + r.val, by have := lt88 t; omega⟩ ⟨t.val % 11 * 512 + f.val, by omega⟩) := by
  have ht := lt88 t
  rw [pay_act, ref_out, up]
  by_cases h : t.val % 11 * 512 + f.val < 5504
  · rw [dif_pos h, dif_pos h, ref_act, gate m c t _ (by show 14 ≤ 14 + r.val; omega) f h, gate m c t _ (by show 14 ≤ 15 + r.val; omega) f h,
      gate m c t _ (by show 14 ≤ 16 + r.val; omega) f h]
    have w : ∀ d : Fin 3, (iblk m c 4 t : FVec Ideal S1x3x512 .f32) (ix3 0 d f) = cws m c (ix3 0 d ⟨t.val % 11 * 512 + f.val, h⟩) := by
      intro d
      blk_simp [iblk]
      refine (entry_conv m c _).trans ?_
      rw [dif_pos (by blk_simp [idx t]; omega)]
      blk_ext [idx t]
    have bb : (iblk m c 5 t : FVec Ideal S1x1x512 .f32) (ix3 0 0 f) = cbs m c (ix2 0 ⟨t.val % 11 * 512 + f.val, h⟩) := by
      blk_simp [iblk]
      refine (entry_bias m c _).trans ?_
      rw [dif_pos (by blk_simp [idx t]; omega)]
      blk_ext [idx t]
    rw [w, w, w, bb]
    congr 1 <;> blk_ext
  · rw [dif_neg h, dif_neg h]
    exact mul_zero _

theorem final_act (c : Dev nD) : (dats m 0 c).arrAt 6 (cfgs 0).N
    = (val_main_v42 (F := Ideal) (rows m c) (wts m c) (cws m c) (cbs m c) : FVec Ideal S8192x5632 .bf16) := by
  refine (dats m 0 c).arrAt_eq_of_covers 6 _ (by decide +kernel) fun t _ y => ?_
  blk_simp
  rw [after0_6, out_act]
  refine (congrArg _ (by blk_ext)).trans ((point_act m c t (y 0) (y 1)).trans ?_)
  blk_ext [idx t]

/-- A block's state rows are the reference's. -/
theorem point_state (c : Dev nD) (t : Fin cfg0.N) (e : Fin 2) (f : Fin 512) :
    k0_pay1 (F := Ideal) (k0_pay4 (ext m c (start t)) (iblk m c 2 t)) (ix3 0 e f)
      = val_main_v43 (F := Ideal) (rows m c) (wts m c) (ix3 ⟨t.val / 11, by have := lt88 t; omega⟩ e ⟨t.val % 11 * 512 + f.val, by omega⟩) := by
  have ht := lt88 t
  have hs : (start t).val / 11 = t.val / 11 := by simp only [start]; omega
  rw [ref_state]
  rw [pay_state]
  by_cases h : t.val % 11 * 512 + f.val < 5504
  · rw [dif_pos h, gate m c t _ (by show 14 ≤ 1038 + e.val; omega) f h, ref_gate]
    rw [dif_neg (by show ¬ t.val / 11 % 2 * 1024 + (1038 + e.val) - 14 < 2; omega)]
    refine Finset.sum_congr rfl fun k _ => ?_
    congr 1
    blk_ext
  · rw [dif_neg h]
    rw [pay_gate]
    refine Finset.sum_eq_zero fun k _ => ?_
    have z : (iblk m c 2 t : FVec Ideal S1x2048x512 .bf16) (ix3 0 k f) = (0 : EReal) := by
      blk_simp [iblk]
      refine (entry_gate m c _).trans ?_
      rw [dif_neg (by blk_simp [idx t]; omega)]
    exact (congrArg _ z).trans (mul_zero _)

theorem final_state (c : Dev nD) : (dats m 0 c).arrAt 7 (cfgs 0).N
    = (val_main_v43 (F := Ideal) (rows m c) (wts m c) : FVec Ideal S8x2x5632 .f32) := by
  refine (dats m 0 c).arrAt_eq_of_covers 7 _ (by decide +kernel) fun t _ y => ?_
  blk_simp
  rw [after0_7, out_state]
  refine (congrArg _ (by blk_ext)).trans ((point_state m c t (y 1) (y 2)).trans ?_)
  blk_ext [idx t]

end Cert.Kernel2Ideal.FfnUp

end
-- ==== Proof.InProjDecode.lean ====
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.Kernel8Ideal.InProjDecode

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The product of the layer's rows and its projection weights, with zero columns up to the block width, as the reference writes it. -/
abbrev REF (X : FVec Ideal S8x8x2048 .f32) (W : FVec Ideal S2x2048x4176 .f32) : FVec Ideal S64x4608 .f32 :=
  Cert.Reference8Ideal.Read.val_main_v4 (F := Ideal) X W

theorem sitofp_zero32 : (FloatOps.sitofp FTy.f32 (0#32) : Ideal .f32) = 0 := by
  show ((((0#32 : BitVec 32).toInt : ℤ) : ℝ) : EReal) = 0
  simp

/-- Zero columns after the weights' own, read at an index. -/
theorem pad_at (Y : FVec Ideal S2x2048x4176 .f32) (i : S2x2048x4608.Idx) :
    pad S2x2048x4608 ![0, 0, 0] ![0, 0, 432] ![0, 0, 0] Y
      (sitofp .f32 (constantI S_ 32 0#32) : FVec Ideal S_ .f32) pads_S2x2048x4176_S2x2048x4608_000_000_04320 h_S_ i
      = if h : (i 2).val < 4176 then Y (ix3 (i 0) (i 1) ⟨(i 2).val, h⟩) else (0 : EReal) := by
  pointwise
  rw [show (FloatOps.sitofp FTy.f32 0#32 : Ideal .f32) = 0 from sitofp_zero32]

/-- The rows the call reads are the layer's rows, row by row. -/
theorem entry_rows (c : Dev nD) (i : S64x2048.Idx) :
    (V m c main_v3 : FVec Ideal S64x2048 .bf16) i
      = (m ((c : Thread nD τ).loc main_arg0) : FVec Ideal S8x8x2048 .f32)
          (ix3 ⟨(i 0).val / 8, by have := (i 0).isLt; change (i 0).val < 64 at this; omega⟩
            ⟨(i 0).val % 8, by omega⟩ (i 1)) := by
  unfold V
  simp only [hostOps0, hostOps0_1, hostOps0_2, List.flatten_cons, List.flatten_nil, List.append_nil, List.cons_append, List.nil_append]
  entry_read
  pointwise

/-- The weights the call reads are the layer's. -/
theorem entry_weights (c : Dev nD) (i : S2x2048x4608.Idx) :
    (V m c main_v1 : FVec Ideal S2x2048x4608 .bf16) i
      = if h : (i 2).val < 4176 then (m ((c : Thread nD τ).loc main_arg1) : FVec Ideal S2x2048x4176 .f32) (ix3 (i 0) (i 1) ⟨(i 2).val, h⟩) else (0 : EReal) := by
  unfold V
  simp only [hostOps0, hostOps0_1, hostOps0_2, List.flatten_cons, List.flatten_nil, List.append_nil, List.cons_append, List.nil_append]
  entry_read
  exact pad_at _ i

/-- The reference's array at an index: the product inside the weights' columns, zero beyond. -/
theorem ref_apply (X : FVec Ideal S8x8x2048 .f32) (W : FVec Ideal S2x2048x4176 .f32) (i : S64x4608.Idx) :
    REF X W i = if h : (i 1).val < 4176 then Cert.Reference8Ideal.Read.val_main_v3 (F := Ideal) X W (ix2 (i 0) ⟨(i 1).val, h⟩) else 0 := by
  unfold REF Cert.Reference8Ideal.Read.val_main_v4
  generalize Cert.Reference8Ideal.Read.val_main_v3 (F := Ideal) X W = y
  pointwise [Cert.Reference8Ideal.Read.val_main_call0_v0_apply, Cert.Reference8Ideal.Read.val_main_c_apply]
  rw [show (FloatOps.sitofp FTy.f32 0#32 : Ideal .f32) = 0 from sitofp_zero32]

theorem idx : ∀ t : Fin cfg0.N, win0_0.index t = ![t.val / 3, 0] ∧ win0_1.index t = ![0, 0, t.val % 3]
    ∧ win0_2.index t = ![t.val / 3, t.val % 3] :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  rw [ref_apply]
  pointwise [k0_pay1]
  have e2 : ((((cfg0.win 2).blk t).view.emb y) 1).val = t.val % 3 * 1536 + (y 1).val := by blk_simp [idx t]
  by_cases h : ((((cfg0.win 2).blk t).view.emb y) 1).val < 4176
  · rw [dif_pos h, Cert.Reference8Ideal.Read.val_main_v3_apply, Cert.Reference8Ideal.Read.val_main_v2_apply]
    simp only [Cert.Reference8Ideal.Read.val_main_v1_apply, Cert.Reference8Ideal.Read.val_main_v0_apply]
    refine Finset.sum_congr rfl fun k _ => ?_
    congr 1
    · blk_simp [iblk]
      refine (entry_rows m c _).trans ?_
      blk_ext [idx t]
    · blk_simp [iblk]
      refine (entry_weights m c _).trans ?_
      rw [dif_pos (by blk_simp [idx t]; omega)]
      blk_ext [idx t]
  · rw [dif_neg h]
    refine Finset.sum_eq_zero fun k _ => ?_
    have z : (iblk m c 1 t : FVec Ideal S1x2048x1536 .bf16) (ix3 0 k (y 1)) = (0 : EReal) := by
      blk_simp [iblk]
      refine (entry_weights m c _).trans ?_
      rw [dif_neg (by blk_simp [idx t]; omega)]
    exact (congrArg _ z).trans (mul_zero _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.InProjDecode

end
-- ==== Proof.SharedKvDecode.lean ====
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

namespace Cert.Kernel9Ideal.SharedKvDecode

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The product of the layer's rows and the shared key and value weights, as the reference writes it. -/
abbrev REF (X : FVec Ideal S8x8x2048 .f32) (W : FVec Ideal S2048x1024 .f32) : FVec Ideal S64x1024 .f32 :=
  Cert.Reference9Ideal.Read.val_main_v1 (F := Ideal) X W

/-- The rows the call reads are the layer's rows, row by row. -/
theorem entry_rows (c : Dev nD) (i : S64x2048.Idx) :
    (V m c main_v1 : FVec Ideal S64x2048 .bf16) i
      = (m ((c : Thread nD τ).loc main_arg0) : FVec Ideal S8x8x2048 .f32)
          (ix3 ⟨(i 0).val / 8, by have := (i 0).isLt; change (i 0).val < 64 at this; omega⟩
            ⟨(i 0).val % 8, by omega⟩ (i 1)) := by
  entry_read
  pointwise

/-- The weights the call reads are the layer's. -/
theorem entry_weights (c : Dev nD) (i : S1x2048x1024.Idx) :
    (V m c main_v3 : FVec Ideal S1x2048x1024 .bf16) i
      = (m ((c : Thread nD τ).loc main_arg1) : FVec Ideal S2048x1024 .f32) (ix2 (i 1) (i 2)) := by
  entry_read
  pointwise

theorem idx : ∀ t : Fin cfg0.N, win0_0.index t = ![t.val, 0] ∧ win0_1.index t = ![0, 0, 0]
    ∧ win0_2.index t = ![t.val, 0] :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  rw [REF, Cert.Reference9Ideal.Read.val_main_v1_apply, Cert.Reference9Ideal.Read.val_main_v0_apply]
  pointwise [k0_pay1]
  refine Finset.sum_congr rfl fun k _ => ?_
  congr 1
  · blk_simp [iblk]
    refine (entry_rows m c _).trans ?_
    blk_ext [idx t]
  · blk_simp [iblk]
    refine (entry_weights m c _).trans ?_
    blk_ext [idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel9Ideal.SharedKvDecode

end
-- ==== Proof.DownDecode.lean ====
module

public import proofs.«01_k».proof.Proof.Gen.Kernel10Ideal.Value
public import proofs.«01_k».proof.Proof.Gen.Reference10Ideal.Read
public import proofs.«01_k».proof.Proof.LayerNorm

@[expose] public section

set_option maxRecDepth 16384

noncomputable section

namespace Cert.Kernel10Ideal.DownDecode

open Cert.Kernel10Ideal Cert.Kernel10Ideal.Gen Idealize.ShloMosaic Idealize.ShloMosaic.TcCoe Idealize.SL.Sem
open Idealize.ShloMosaic.Pipeline (Dat)
open Cert.Reference10Ideal.Read Cert.LayerNorm

variable (m : (ℓ : Loc nD τ sig) → Buf (Elt Ideal) ℓ)

/-- The residual row before its layer norm, as the reference writes it. -/
abbrev SUM (A : FVec Ideal S64x5632 .bf16) (W : FVec Ideal S4x5504x2048 .f32) (X : FVec Ideal S64x2048 .f32) : FVec Ideal S64x2048 .f32 :=
  val_main_v7 (F := Ideal) A W X

/-- The layer's output, as the reference writes it. -/
abbrev REF (A : FVec Ideal S64x5632 .bf16) (W : FVec Ideal S4x5504x2048 .f32) (X : FVec Ideal S64x2048 .f32)
    (g b : FVec Ideal S4x2x2048 .f32) : FVec Ideal S64x2048 .f32 := val_main_v35 (F := Ideal) A W X g b

/-- The reference's output is the layer norm of its residual row. -/
theorem ref_norm (A : FVec Ideal S64x5632 .bf16) (W : FVec Ideal S4x5504x2048 .f32) (X : FVec Ideal S64x2048 .f32)
    (g b : FVec Ideal S4x2x2048 .f32) (r : Fin 64) (j : Fin 2048) :
    REF A W X g b (ix2 r j) = normed (fun x => SUM A W X (ix2 r x)) (g (ix3 0 1 j)) (b (ix3 0 1 j)) j := by
  unfold REF SUM
  unfold val_main_v35 val_main_v32 val_main_v29 val_main_v24 val_main_v34 val_main_v31 val_main_v30 val_main_v33 val_main_v28
    val_main_v27 val_main_v26 val_main_v22 val_main_v20 val_main_v19 val_main_v18 val_main_v17 val_main_v16 val_main_v23 val_main_v15
    val_main_v13 val_main_v12 val_main_v14 val_main_v21 val_main_v25 val_main_cst_0 val_main_cst_1 val_main_cst_2 val_main_cst_3 val_main_cst_4
    val_main_v9 val_main_v11 val_main_v8 val_main_v10
  generalize val_main_v7 (F := Ideal) A W X = y
  pointwise
  rfl

/-- What the last step of a row block leaves is the layer norm of the residual row over the accumulated product. -/
theorem pay_norm (X A : FVec Ideal S64x2048 .f32) (g b : FVec Ideal S1x2048 .f32) (r : Fin 64) (j : Fin 2048) :
    k0_pay3 (F := Ideal) X A g b (ix2 r j)
      = normed (fun x => Ideal.ofBits FTy.f32 1071072509#32 * X (ix2 r x) + A (ix2 r x)) (g (ix2 0 j)) (b (ix2 0 j)) j := by
  pointwise [k0_pay3]
  rfl

theorem first (c : Dev nD) (t : Fin cfg0.N) (h : t.val % 2 = 0) :
    (outsAt0 m c t.val t.isLt).1 = k0_pay1 (iblk m c 0 t) (iblk m c 1 t) := by
  rw [outsAt0_A m c t h (by omega) (by omega)]
  frame_out

theorem last_f32 (c : Dev nD) (t : Fin cfg0.N) (h : t.val % 2 = 1) :
    (outsAt0 m c t.val t.isLt).1 = k0_pay3 (iblk m c 2 t) (k0_pay2 (iblk m c 0 t) (iblk m c 1 t)
      (outsAt0 m c (t.val - 1) (by have := t.isLt; omega)).1) (iblk m c 3 t) (iblk m c 4 t) := by
  rw [outsAt0_B m c t (by omega) h h]
  frame_out

theorem last_bf16 (c : Dev nD) (t : Fin cfg0.N) (h : t.val % 2 = 1) :
    (outsAt0 m c t.val t.isLt).2 = truncf .bf16 (k0_pay3 (iblk m c 2 t) (k0_pay2 (iblk m c 0 t) (iblk m c 1 t)
      (outsAt0 m c (t.val - 1) (by have := t.isLt; omega)).1) (iblk m c 3 t) (iblk m c 4 t)) bitsLt_bf16_f32 := by
  rw [outsAt0_B m c t (by omega) h h]
  frame_out
  rfl

theorem sitofp_zero32 : (FloatOps.sitofp FTy.f32 (0#32) : Ideal .f32) = 0 := by
  show ((((0#32 : BitVec 32).toInt : ℤ) : ℝ) : EReal) = 0
  simp

/-- Zero rows after the weights' own, read at an index. -/
theorem pad_at (Y : FVec Ideal S4x5504x2048 .f32) (i : S4x5632x2048.Idx) :
    pad S4x5632x2048 ![0, 0, 0] ![0, 128, 0] ![0, 0, 0] Y
      (sitofp .f32 (constantI S_ 32 0#32) : FVec Ideal S_ .f32) pads_S4x5504x2048_S4x5632x2048_000_01280_000 h_S_ i
      = if h : (i 1).val < 5504 then Y (ix3 (i 0) ⟨(i 1).val, h⟩ (i 2)) else (0 : EReal) := by
  pointwise
  rw [show (FloatOps.sitofp FTy.f32 0#32 : Ideal .f32) = 0 from sitofp_zero32]

theorem entry_weights (c : Dev nD) (i : S4x5632x2048.Idx) :
    (V m c main_v1 : FVec Ideal S4x5632x2048 .bf16) i
      = if h : (i 1).val < 5504 then (m ((c : Thread nD τ).loc main_arg1) : FVec Ideal S4x5504x2048 .f32) (ix3 (i 0) ⟨(i 1).val, h⟩ (i 2)) else (0 : EReal) := by
  unfold V
  simp only [hostOps0, hostOps0_1, hostOps0_2, List.flatten_cons, List.flatten_nil, List.append_nil, List.cons_append, List.nil_append]
  entry_read
  exact pad_at _ i

theorem entry_scale (c : Dev nD) (i : S1x2048.Idx) :
    (V m c main_v6 : FVec Ideal S1x2048 .f32) i = (m ((c : Thread nD τ).loc main_arg3) : FVec Ideal S4x2x2048 .f32) (ix3 0 1 (i 1)) := by
  unfold V
  simp only [hostOps0, hostOps0_1, hostOps0_2, List.flatten_cons, List.flatten_nil, List.append_nil, List.cons_append, List.nil_append]
  entry_read
  pointwise

theorem entry_shift (c : Dev nD) (i : S1x2048.Idx) :
    (V m c main_v7 : FVec Ideal S1x2048 .f32) i = (m ((c : Thread nD τ).loc main_arg4) : FVec Ideal S4x2x2048 .f32) (ix3 0 1 (i 1)) := by
  unfold V
  simp only [hostOps0, hostOps0_1, hostOps0_2, List.flatten_cons, List.flatten_nil, List.append_nil, List.cons_append, List.nil_append]
  entry_read
  pointwise

theorem entry_act (c : Dev nD) : (V m c main_arg0) = m ((c : Thread nD τ).loc main_arg0) := by
  unfold V
  simp only [hostOps0, hostOps0_1, hostOps0_2, List.flatten_cons, List.flatten_nil, List.append_nil, List.cons_append, List.nil_append]
  entry_read
  rfl

theorem entry_x (c : Dev nD) : (V m c main_arg2) = m ((c : Thread nD τ).loc main_arg2) := by
  unfold V
  simp only [hostOps0, hostOps0_1, hostOps0_2, List.flatten_cons, List.flatten_nil, List.append_nil, List.cons_append, List.nil_append]
  entry_read
  rfl

theorem idx : ∀ t : Fin cfg0.N, win0_0.index t = ![t.val / 2, t.val % 2] ∧ win0_1.index t = ![0, t.val % 2, 0]
    ∧ win0_2.index t = ![t.val / 2, 0] ∧ win0_3.index t = ![0, 0] ∧ win0_4.index t = ![0, 0]
    ∧ win0_5.index t = ![t.val / 2, 0] ∧ win0_6.index t = ![t.val / 2, 0] :=
  (by decide +kernel : ∀ t : Fin grid0.N, _)

/-- The row of the arrays that row `r` of the block of point `t` is. -/
def rowAt (t : Fin cfg0.N) (r : Fin 64) : Fin 64 :=
  ⟨t.val / 2 * 64 + r.val, by have : t.val < 2 := t.isLt; have := r.isLt; omega⟩

/-- The term of column `n` in the product of a row and a column; zero in the padding. -/
def term (A : FVec Ideal S64x5632 .bf16) (W : FVec Ideal S4x5504x2048 .f32) (r : Fin 64) (j : Fin 2048) (n : ℕ) : EReal :=
  if h : n < 5504 then A (ix2 r ⟨n, by omega⟩) * W (ix3 0 ⟨n, h⟩ j) else 0

/-- A step's product is the sum of the terms of its columns. -/
theorem part (c : Dev nD) (t : Fin cfg0.N) (r : Fin 64) (j : Fin 2048) : k0_pay1 (iblk m c 0 t) (iblk m c 1 t) (ix2 r j)
    = ∑ x : Fin 2816, term (m ((c : Thread nD τ).loc main_arg0)) (m ((c : Thread nD τ).loc main_arg1)) (rowAt t r) j (t.val % 2 * 2816 + x.val) := by
  pointwise [k0_pay1]
  refine Finset.sum_congr rfl fun k _ => ?_
  unfold term
  by_cases h : t.val % 2 * 2816 + k.val < 5504
  · rw [dif_pos h]
    congr 1
    · blk_simp [iblk]
      refine (congrFun (entry_act m c) _).trans ?_
      blk_ext [idx t, rowAt]
    · blk_simp [iblk]
      refine (entry_weights m c _).trans ?_
      rw [dif_pos (by blk_simp [idx t]; omega)]
      blk_ext [idx t]
  · rw [dif_neg h]
    have z : (iblk m c 1 t : FVec Ideal S1x2816x2048 .bf16) (ix3 0 k j) = (0 : EReal) := by
      blk_simp [iblk]
      refine (entry_weights m c _).trans ?_
      rw [dif_neg (by blk_simp [idx t]; omega)]
    exact (congrArg _ z).trans (mul_zero _)

/-- The accumulated product of a row block is the reference's product. -/
theorem acc (c : Dev nD) (t : Fin cfg0.N) (h : t.val % 2 = 1) (r : Fin 64) (j : Fin 2048) :
    k0_pay2 (iblk m c 0 t) (iblk m c 1 t) (outsAt0 m c (t.val - 1) (by have := t.isLt; omega)).1 (ix2 r j)
      = val_main_v4 (F := Ideal) (m ((c : Thread nD τ).loc main_arg0)) (m ((c : Thread nD τ).loc main_arg1)) (ix2 (rowAt t r) j) := by
  have e := first m c ⟨t.val - 1, by have := t.isLt; omega⟩ (by show (t.val - 1) % 2 = 0; omega)
  rw [show (outsAt0 m c (t.val - 1) (by have := t.isLt; omega)).1 = _ from e]
  have p : k0_pay2 (F := Ideal) (iblk m c 0 t) (iblk m c 1 t) (k0_pay1 (iblk m c 0 ⟨t.val - 1, by have := t.isLt; omega⟩) (iblk m c 1 ⟨t.val - 1, by have := t.isLt; omega⟩)) (ix2 r j)
      = (k0_pay1 (F := Ideal) (iblk m c 0 ⟨t.val - 1, by have := t.isLt; omega⟩) (iblk m c 1 ⟨t.val - 1, by have := t.isLt; omega⟩) (ix2 r j) : EReal)
        + k0_pay1 (F := Ideal) (iblk m c 0 t) (iblk m c 1 t) (ix2 r j) := by
    pointwise [k0_pay2]
  rw [p, part, part]
  have er : rowAt ⟨t.val - 1, by have := t.isLt; omega⟩ r = rowAt t r := Fin.ext (by simp only [rowAt]; omega)
  rw [er, val_main_v4_apply]
  have e0 : (t.val - 1) % 2 * 2816 = 0 := by omega
  simp only [e0, h, Nat.zero_add, Nat.one_mul]
  refine (halves _ fun n hn => dif_neg (by omega)).trans (Finset.sum_congr rfl fun k _ => ?_)
  unfold term
  rw [dif_pos k.isLt]
  simp only [val_main_v3_apply, val_main_v2_apply, val_main_v1_apply, val_main_v0_apply]
  congr 1
  · blk_ext
  · blk_ext

/-- What the last step of a row block leaves in an element is the reference's. -/
theorem point (c : Dev nD) (t : Fin cfg0.N) (h : t.val % 2 = 1) (r : Fin 64) (j : Fin 2048) :
    k0_pay3 (iblk m c 2 t) (k0_pay2 (iblk m c 0 t) (iblk m c 1 t)
      (outsAt0 m c (t.val - 1) (by have := t.isLt; omega)).1) (iblk m c 3 t) (iblk m c 4 t) (ix2 r j)
    = REF (m ((c : Thread nD τ).loc main_arg0)) (m ((c : Thread nD τ).loc main_arg1)) (m ((c : Thread nD τ).loc main_arg2))
      (m ((c : Thread nD τ).loc main_arg3)) (m ((c : Thread nD τ).loc main_arg4)) (ix2 (rowAt t r) j) := by
  rw [ref_norm, pay_norm]
  congr 1
  · funext x
    rw [acc m c t h r x]
    unfold SUM
    rw [val_main_v7_apply, val_main_v6_apply, val_main_v5_apply, val_main_cst_apply]
    refine congrArg₂ (· + ·) (congrArg₂ (· * ·) rfl ?_) rfl
    blk_simp [iblk]
    refine (congrFun (entry_x m c) _).trans ?_
    blk_ext [idx t, rowAt]
  · blk_simp [iblk]
    refine (entry_scale m c _).trans ?_
    blk_ext [idx t]
  · blk_simp [iblk]
    refine (entry_shift m c _).trans ?_
    blk_ext [idx t]

theorem final_f32 (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t ht y => ?_
  have h : t.val % 2 = 1 := (flush0_5 t).mp ht
  blk_simp
  rw [after0_5, last_f32 m c t h]
  refine (congrArg _ (by blk_ext)).trans ((point m c t h (y 0) (y 1)).trans ?_)
  blk_ext [idx t, rowAt]

theorem final_bf16 (c : Dev nD) : (dats m 0 c).arrAt 6 (cfgs 0).N
    = (val_main_v36 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) : FVec Ideal S64x2048 .bf16) := by
  refine (dats m 0 c).arrAt_eq_of_covers 6 _ (by decide +kernel) fun t ht y => ?_
  have h : t.val % 2 = 1 := (flush0_6 t).mp ht
  blk_simp
  rw [after0_6, last_bf16 m c t h]
  refine (congrArg _ (by blk_ext)).trans ((point m c t h (y 0) (y 1)).trans ?_)
  blk_ext [idx t, rowAt]

end Cert.Kernel10Ideal.DownDecode

end
-- ==== Proof.GateDecode.lean ====
module

public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

namespace Cert.Kernel11Ideal.GateDecode

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The product of the layer's rows and the gate's half of its feed-forward weights, with zero columns up to the block width, as the reference writes it. -/
abbrev REF (X : FVec Ideal S8x8x2048 .f32) (W : FVec Ideal S4x2048x11008 .f32) : FVec Ideal S64x5632 .f32 :=
  Cert.Reference11Ideal.Read.val_main_v6 (F := Ideal) X W

theorem sitofp_zero32 : (FloatOps.sitofp FTy.f32 (0#32) : Ideal .f32) = 0 := by
  show ((((0#32 : BitVec 32).toInt : ℤ) : ℝ) : EReal) = 0
  simp

/-- The gate's columns of the weights with zero columns after them, read at an index. -/
theorem pad_at (Y : FVec Ideal S4x2048x11008 .f32) (i : S4x2048x5632.Idx) :
    pad S4x2048x5632 ![0, 0, 0] ![0, 0, 128] ![0, 0, 0] (extractStridedSlice S4x2048x5504 ![0, 0, 0] Y slices_S4x2048x11008_S4x2048x5504_0_0_0)
      (sitofp .f32 (constantI S_ 32 0#32) : FVec Ideal S_ .f32) pads_S4x2048x5504_S4x2048x5632_000_000_01280 h_S_ i
      = if h : (i 2).val < 5504 then Y (ix3 (i 0) (i 1) ⟨(i 2).val, by omega⟩) else (0 : EReal) := by
  pointwise
  rw [show (FloatOps.sitofp FTy.f32 0#32 : Ideal .f32) = 0 from sitofp_zero32]

/-- The rows the call reads are the layer's rows, row by row. -/
theorem entry_rows (c : Dev nD) (i : S64x2048.Idx) :
    (V m c main_v4 : FVec Ideal S64x2048 .bf16) i
      = (m ((c : Thread nD τ).loc main_arg0) : FVec Ideal S8x8x2048 .f32)
          (ix3 ⟨(i 0).val / 8, by have := (i 0).isLt; change (i 0).val < 64 at this; omega⟩
            ⟨(i 0).val % 8, by omega⟩ (i 1)) := by
  unfold V
  simp only [hostOps0, hostOps0_1, hostOps0_2, List.flatten_cons, List.flatten_nil, List.append_nil, List.cons_append, List.nil_append]
  entry_read
  pointwise

/-- The weights the call reads are the gate's half of the layer's, with zero columns after them. -/
theorem entry_weights (c : Dev nD) (i : S4x2048x5632.Idx) :
    (V m c main_v2 : FVec Ideal S4x2048x5632 .bf16) i
      = if h : (i 2).val < 5504 then (m ((c : Thread nD τ).loc main_arg1) : FVec Ideal S4x2048x11008 .f32) (ix3 (i 0) (i 1) ⟨(i 2).val, by omega⟩) else (0 : EReal) := by
  unfold V
  simp only [hostOps0, hostOps0_1, hostOps0_2, List.flatten_cons, List.flatten_nil, List.append_nil, List.cons_append, List.nil_append]
  entry_read
  exact pad_at _ i

/-- The reference's array at an index: the product inside the weights' columns, zero beyond. -/
theorem ref_apply (X : FVec Ideal S8x8x2048 .f32) (W : FVec Ideal S4x2048x11008 .f32) (i : S64x5632.Idx) :
    REF X W i = if h : (i 1).val < 5504 then Cert.Reference11Ideal.Read.val_main_v5 (F := Ideal) X W (ix2 (i 0) ⟨(i 1).val, h⟩) else 0 := by
  unfold REF Cert.Reference11Ideal.Read.val_main_v6
  generalize Cert.Reference11Ideal.Read.val_main_v5 (F := Ideal) X W = y
  pointwise [Cert.Reference11Ideal.Read.val_main_call0_v0_apply, Cert.Reference11Ideal.Read.val_main_c_apply]
  rw [show (FloatOps.sitofp FTy.f32 0#32 : Ideal .f32) = 0 from sitofp_zero32]

theorem idx : ∀ t : Fin cfg0.N, win0_0.index t = ![t.val / 11, 0] ∧ win0_1.index t = ![0, 0, t.val % 11]
    ∧ win0_2.index t = ![t.val / 11, t.val % 11] :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  rw [ref_apply]
  pointwise [k0_pay1]
  have e2 : ((((cfg0.win 2).blk t).view.emb y) 1).val = t.val % 11 * 512 + (y 1).val := by blk_simp [idx t]
  by_cases h : ((((cfg0.win 2).blk t).view.emb y) 1).val < 5504
  · rw [dif_pos h, Cert.Reference11Ideal.Read.val_main_v5_apply, Cert.Reference11Ideal.Read.val_main_v3_apply, Cert.Reference11Ideal.Read.val_main_v2_apply]
    simp only [Cert.Reference11Ideal.Read.val_main_v1_apply, Cert.Reference11Ideal.Read.val_main_v0_apply]
    refine Finset.sum_congr rfl fun k _ => ?_
    congr 1
    · blk_simp [iblk]
      refine (entry_rows m c _).trans ?_
      blk_ext [idx t]
    · blk_simp [iblk]
      refine (entry_weights m c _).trans ?_
      rw [dif_pos (by blk_simp [idx t]; omega)]
      blk_ext [idx t]
  · rw [dif_neg h]
    refine Finset.sum_eq_zero fun k _ => ?_
    have z : (iblk m c 1 t : FVec Ideal S1x2048x512 .bf16) (ix3 0 k (y 1)) = (0 : EReal) := by
      blk_simp [iblk]
      refine (entry_weights m c _).trans ?_
      rw [dif_neg (by blk_simp [idx t]; omega)]
    exact (congrArg _ z).trans (mul_zero _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel11Ideal.GateDecode

end
-- ==== Proof.Keys.lean ====
module

public import proofs.«01_k».proof.Defs
public import proofs.«01_k».proof.Proof.Gen.Kernel12Ideal.Read
public import proofs.«01_k».proof.Proof.Gen.Reference12Ideal.Read
public import Idealize.ShloMosaic.Lib.Pipeline.ValueKit
public import Idealize.ShloMosaic.Lib.Pipeline.ReadBack

@[expose] public section

set_option maxRecDepth 16384

noncomputable section

namespace Cert.Kernel12Ideal.Keys

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The product of the layer's rows and its projection weights laid out as the call writes it: row by row, with zero columns up to the block width. -/
def padded (X : FVec Ideal S4x2048x2048 .f32) (W : FVec Ideal S2x2048x4176 .f32) : FVec Ideal S8192x4608 .f32 := fun i =>
  if h : (i 1).val < 4176 then Cert.Reference12Ideal.Read.val_main_v2 (F := Ideal) X W
      (ix3 ⟨(i 0).val / 2048, by have := (i 0).isLt; change (i 0).val < 8192 at this; omega⟩ ⟨(i 0).val % 2048, by omega⟩ ⟨(i 1).val, h⟩)
    else (0 : EReal)

theorem sitofp_zero32 : (FloatOps.sitofp FTy.f32 (0#32) : Ideal .f32) = 0 := by
  show ((((0#32 : BitVec 32).toInt : ℤ) : ℝ) : EReal) = 0
  simp

/-- Zero columns after the weights' own, read at an index. -/
theorem pad_at (Y : FVec Ideal S2x2048x4176 .f32) (i : S2x2048x4608.Idx) :
    pad S2x2048x4608 ![0, 0, 0] ![0, 0, 432] ![0, 0, 0] Y
      (sitofp .f32 (constantI S_ 32 0#32) : FVec Ideal S_ .f32) pads_S2x2048x4176_S2x2048x4608_000_000_04320 h_S_ i
      = if h : (i 2).val < 4176 then Y (ix3 (i 0) (i 1) ⟨(i 2).val, h⟩) else (0 : EReal) := by
  pointwise
  rw [show (FloatOps.sitofp FTy.f32 0#32 : Ideal .f32) = 0 from sitofp_zero32]

/-- The rows the call reads are the layer's rows, row by row. -/
theorem entry_rows (c : Dev nD) (i : S8192x2048.Idx) :
    (V m c main_v3 : FVec Ideal S8192x2048 .bf16) i
      = (m ((c : Thread nD τ).loc main_arg0) : FVec Ideal S4x2048x2048 .f32)
          (ix3 ⟨(i 0).val / 2048, by have := (i 0).isLt; change (i 0).val < 8192 at this; omega⟩
            ⟨(i 0).val % 2048, by omega⟩ (i 1)) := by
  unfold V V0
  simp only [hostOps0, hostOps0_1, hostOps0_2, List.flatten_cons, List.flatten_nil, List.append_nil, List.cons_append, List.nil_append]
  entry_read
  pointwise

/-- The weights the call reads are the layer's. -/
theorem entry_weights (c : Dev nD) (i : S2x2048x4608.Idx) :
    (V m c main_v1 : FVec Ideal S2x2048x4608 .bf16) i
      = if h : (i 2).val < 4176 then (m ((c : Thread nD τ).loc main_arg1) : FVec Ideal S2x2048x4176 .f32) (ix3 (i 0) (i 1) ⟨(i 2).val, h⟩) else (0 : EReal) := by
  unfold V V0
  simp only [hostOps0, hostOps0_1, hostOps0_2, List.flatten_cons, List.flatten_nil, List.append_nil, List.cons_append, List.nil_append]
  entry_read
  exact pad_at _ i

theorem idx : ∀ t : Fin cfg0.N, win0_0.index t = ![t.val / 3, 0] ∧ win0_1.index t = ![0, 0, t.val % 3]
    ∧ win0_2.index t = ![t.val / 3, t.val % 3] :=
  (by decide +kernel : ∀ t : Fin grid0.N, _)

theorem point (c : Dev nD) (t : Fin cfg0.N) (y) : k0_pay1 (iblk m c 0 t) (iblk m c 1 t) y
    = padded (m ((c : Thread nD τ).loc main_arg0)) (m ((c : Thread nD τ).loc main_arg1)) (((cfg0.win 2).blk t).view.emb y) := by
  unfold padded
  pointwise [k0_pay1]
  have e2 : ((((cfg0.win 2).blk t).view.emb y) 1).val = t.val % 3 * 1536 + (y 1).val := by blk_simp [idx t]
  by_cases h : ((((cfg0.win 2).blk t).view.emb y) 1).val < 4176
  · rw [dif_pos h, Cert.Reference12Ideal.Read.val_main_v2_apply]
    simp only [Cert.Reference12Ideal.Read.val_main_v1_apply, Cert.Reference12Ideal.Read.val_main_v0_apply]
    refine Finset.sum_congr rfl fun k _ => ?_
    congr 1
    · blk_simp [iblk]
      refine (entry_rows m c _).trans ?_
      blk_ext [idx t]
    · blk_simp [iblk]
      refine (entry_weights m c _).trans ?_
      rw [dif_pos (by blk_simp [idx t]; omega)]
      blk_ext [idx t]
  · rw [dif_neg h]
    refine Finset.sum_eq_zero fun k _ => ?_
    have z : (iblk m c 1 t : FVec Ideal S1x2048x1536 .bf16) (ix3 0 k (y 1)) = (0 : EReal) := by
      blk_simp [iblk]
      refine (entry_weights m c _).trans ?_
      rw [dif_neg (by blk_simp [idx t]; omega)]
    exact (congrArg _ z).trans (mul_zero _)

theorem final (c : Dev nD) : (dats m 0 c).arrAt 2 (cfgs 0).N
    = padded (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The keys: columns 2048 to 2560 of the product, by head. -/
theorem keys_eq (X : FVec Ideal S4x2048x2048 .f32) (W : FVec Ideal S2x2048x4176 .f32) :
    Cert.Kernel12Ideal.Read.val_main_v7 (F := Ideal) (padded X W) = Cert.Reference12Ideal.Read.val_main_v9 (F := Ideal) X W := by
  funext i
  simp only [Cert.Kernel12Ideal.Read.val_main_v7_apply, Cert.Kernel12Ideal.Read.val_main_v6_apply, Cert.Kernel12Ideal.Read.val_main_v5_apply, Cert.Reference12Ideal.Read.val_main_v9_apply, Cert.Reference12Ideal.Read.val_main_v4_apply]
  unfold padded
  have h0 : (i 0).val < 4 := (i 0).isLt
  have h1 : (i 1).val < 2048 := (i 1).isLt
  rw [dif_pos (by dsimp; omega)]
  refine congrArg _ (funext fun a => ?_)
  match a with
  | ⟨0, _⟩ => exact Fin.ext (by dsimp; omega)
  | ⟨1, _⟩ => exact Fin.ext (by dsimp; omega)
  | ⟨2, _⟩ => exact Fin.ext (by dsimp; omega)

/-- The values: columns 2560 to 3072 of the product, by head. -/
theorem values_eq (X : FVec Ideal S4x2048x2048 .f32) (W : FVec Ideal S2x2048x4176 .f32) :
    Cert.Kernel12Ideal.Read.val_main_v9 (F := Ideal) (padded X W) = Cert.Reference12Ideal.Read.val_main_v10 (F := Ideal) X W := by
  funext i
  simp only [Cert.Kernel12Ideal.Read.val_main_v9_apply, Cert.Kernel12Ideal.Read.val_main_v8_apply, Cert.Kernel12Ideal.Read.val_main_v5_apply, Cert.Reference12Ideal.Read.val_main_v10_apply, Cert.Reference12Ideal.Read.val_main_v5_apply]
  unfold padded
  have h0 : (i 0).val < 4 := (i 0).isLt
  have h1 : (i 1).val < 2048 := (i 1).isLt
  rw [dif_pos (by dsimp; omega)]
  refine congrArg _ (funext fun a => ?_)
  match a with
  | ⟨0, _⟩ => exact Fin.ext (by dsimp; omega)
  | ⟨1, _⟩ => exact Fin.ext (by dsimp; omega)
  | ⟨2, _⟩ => exact Fin.ext (by dsimp; omega)

/-- The indexer's key columns, before their normalization. -/
theorem index_slice_eq (X : FVec Ideal S4x2048x2048 .f32) (W : FVec Ideal S2x2048x4176 .f32) :
    Cert.Kernel12Ideal.Read.val_main_v10 (F := Ideal) (padded X W) = Cert.Reference12Ideal.Read.val_main_v7 (F := Ideal) X W := by
  funext i
  simp only [Cert.Kernel12Ideal.Read.val_main_v10_apply, Cert.Kernel12Ideal.Read.val_main_v5_apply, Cert.Reference12Ideal.Read.val_main_v7_apply]
  unfold padded
  have h0 : (i 0).val < 4 := (i 0).isLt
  have h1 : (i 1).val < 2048 := (i 1).isLt
  rw [dif_pos (by dsimp; omega)]
  refine congrArg _ (funext fun a => ?_)
  match a with
  | ⟨0, _⟩ => exact Fin.ext (by dsimp; omega)
  | ⟨1, _⟩ => exact Fin.ext (by dsimp; omega)
  | ⟨2, _⟩ => exact Fin.ext (by dsimp; omega)

/-- The indexer's keys: the same normalization of the same columns, with the same scale and offset. -/
theorem index_eq (X : FVec Ideal S4x2048x2048 .f32) (W : FVec Ideal S2x2048x4176 .f32) (g b : FVec Ideal S2x64 .f32) :
    Cert.Kernel12Ideal.Read.val_main_v38 (F := Ideal) g b (padded X W) = Cert.Reference12Ideal.Read.val_main_v38 (F := Ideal) X W g b := by
  have e := index_slice_eq X W
  dsimp only [Cert.Kernel12Ideal.Read.val_main_v11, Cert.Kernel12Ideal.Read.val_main_v12, Cert.Kernel12Ideal.Read.val_main_v13, Cert.Kernel12Ideal.Read.val_main_v14, Cert.Kernel12Ideal.Read.val_main_cst, Cert.Kernel12Ideal.Read.val_main_v15, Cert.Kernel12Ideal.Read.val_main_v16, Cert.Kernel12Ideal.Read.val_main_cst_0, Cert.Kernel12Ideal.Read.val_main_v17, Cert.Kernel12Ideal.Read.val_main_v18, Cert.Kernel12Ideal.Read.val_main_v19, Cert.Kernel12Ideal.Read.val_main_v20, Cert.Kernel12Ideal.Read.val_main_v21, Cert.Kernel12Ideal.Read.val_main_cst_1, Cert.Kernel12Ideal.Read.val_main_v22, Cert.Kernel12Ideal.Read.val_main_v23, Cert.Kernel12Ideal.Read.val_main_cst_2, Cert.Kernel12Ideal.Read.val_main_v24, Cert.Kernel12Ideal.Read.val_main_v25, Cert.Kernel12Ideal.Read.val_main_v26, Cert.Kernel12Ideal.Read.val_main_v27, Cert.Kernel12Ideal.Read.val_main_cst_3, Cert.Kernel12Ideal.Read.val_main_v28, Cert.Kernel12Ideal.Read.val_main_v29, Cert.Kernel12Ideal.Read.val_main_v30, Cert.Kernel12Ideal.Read.val_main_v31, Cert.Kernel12Ideal.Read.val_main_v32, Cert.Kernel12Ideal.Read.val_main_v33, Cert.Kernel12Ideal.Read.val_main_v34, Cert.Kernel12Ideal.Read.val_main_v35, Cert.Kernel12Ideal.Read.val_main_v36, Cert.Kernel12Ideal.Read.val_main_v37, Cert.Kernel12Ideal.Read.val_main_v38]
  dsimp only [Cert.Reference12Ideal.Read.val_main_v11, Cert.Reference12Ideal.Read.val_main_v12, Cert.Reference12Ideal.Read.val_main_v13, Cert.Reference12Ideal.Read.val_main_v14, Cert.Reference12Ideal.Read.val_main_cst, Cert.Reference12Ideal.Read.val_main_v15, Cert.Reference12Ideal.Read.val_main_v16, Cert.Reference12Ideal.Read.val_main_cst_0, Cert.Reference12Ideal.Read.val_main_v17, Cert.Reference12Ideal.Read.val_main_v18, Cert.Reference12Ideal.Read.val_main_v19, Cert.Reference12Ideal.Read.val_main_v20, Cert.Reference12Ideal.Read.val_main_v21, Cert.Reference12Ideal.Read.val_main_cst_1, Cert.Reference12Ideal.Read.val_main_v22, Cert.Reference12Ideal.Read.val_main_v23, Cert.Reference12Ideal.Read.val_main_cst_2, Cert.Reference12Ideal.Read.val_main_v24, Cert.Reference12Ideal.Read.val_main_v25, Cert.Reference12Ideal.Read.val_main_v26, Cert.Reference12Ideal.Read.val_main_v27, Cert.Reference12Ideal.Read.val_main_cst_3, Cert.Reference12Ideal.Read.val_main_v28, Cert.Reference12Ideal.Read.val_main_v29, Cert.Reference12Ideal.Read.val_main_v30, Cert.Reference12Ideal.Read.val_main_v31, Cert.Reference12Ideal.Read.val_main_v32, Cert.Reference12Ideal.Read.val_main_v33, Cert.Reference12Ideal.Read.val_main_v34, Cert.Reference12Ideal.Read.val_main_v35, Cert.Reference12Ideal.Read.val_main_v36, Cert.Reference12Ideal.Read.val_main_v37, Cert.Reference12Ideal.Read.val_main_v38]
  rw [e]

theorem region (c : Dev nD) : Value.reg_main_v4 m c
    = padded (m ((c : Thread nD τ).loc main_arg0)) (m ((c : Thread nD τ).loc main_arg1)) :=
  final m c

/-- The program's run, its results as the reference writes them. -/
theorem kernel_run (g : Dev nD → PrngReg) :
    θ_run (defs (F := Ideal)) (onTc (τ := τ) (main (F := Ideal))) ⟨m, fun _ => 0, g⟩ fun r => ∀ c : Dev nD,
      r.2.mem ((c.tc : Thread Cert.Kernel12Ideal.nD Cert.Kernel12Ideal.τ).loc Cert.Kernel12Ideal.main_v7) = Cert.Reference12Ideal.Read.val_main_v9 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))
      ∧ r.2.mem ((c.tc : Thread Cert.Kernel12Ideal.nD Cert.Kernel12Ideal.τ).loc Cert.Kernel12Ideal.main_v9) = Cert.Reference12Ideal.Read.val_main_v10 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))
      ∧ r.2.mem ((c.tc : Thread Cert.Kernel12Ideal.nD Cert.Kernel12Ideal.τ).loc Cert.Kernel12Ideal.main_v38) = Cert.Reference12Ideal.Read.val_main_v38 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))
      ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3) :=
  θ_run_mono (Value.run m g) fun r h c => by
    obtain ⟨hk, hv, hi, hr⟩ := h c
    rw [region m c] at hk hv hi
    exact ⟨hk.trans (keys_eq _ _), hv.trans (values_eq _ _), hi.trans (index_eq _ _ _ _), hr⟩

/-- The reference's run, its results as the arrays read above. -/
theorem ref_run (m' : (ℓ : Loc Cert.Reference12Ideal.nD Cert.Reference12Ideal.τ Cert.Reference12Ideal.sig) → Buf (Elt Ideal) ℓ) (g' : Dev Cert.Reference12Ideal.nD → PrngReg) :
    θ_run (Cert.Reference12Ideal.defs (F := Ideal)) (onTc (τ := Cert.Reference12Ideal.τ) (Cert.Reference12Ideal.main (F := Ideal))) ⟨m', fun _ => 0, g'⟩ fun r => ∀ c : Dev Cert.Reference12Ideal.nD,
      r.2.mem ((c.tc : Thread Cert.Reference12Ideal.nD Cert.Reference12Ideal.τ).loc Cert.Reference12Ideal.main_v9) = Cert.Reference12Ideal.Read.val_main_v9 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1))
      ∧ r.2.mem ((c.tc : Thread Cert.Reference12Ideal.nD Cert.Reference12Ideal.τ).loc Cert.Reference12Ideal.main_v10) = Cert.Reference12Ideal.Read.val_main_v10 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1))
      ∧ r.2.mem ((c.tc : Thread Cert.Reference12Ideal.nD Cert.Reference12Ideal.τ).loc Cert.Reference12Ideal.main_v38) = Cert.Reference12Ideal.Read.val_main_v38 (F := Ideal) (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3))
      ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3) :=
  θ_run_mono (Cert.Reference12Ideal.Value.run m' g') fun r h c => by
    obtain ⟨hk, hv, hi, hr⟩ := h c
    exact ⟨hk, hv, hi.trans (Cert.Reference12Ideal.Read.val_main_v38_eq m' c), hr⟩

/-- The values of the program are its reference's. -/
theorem algebraic : Cert.algebraic_Kernel12Ideal_Reference12Ideal := by
  pair_intro
  · run_from kernel_run m g
  · run_from ref_run m' g'

end Cert.Kernel12Ideal.Keys

end
-- ==== Proof.KeysDecode.lean ====
module

public import proofs.«01_k».proof.Defs
public import proofs.«01_k».proof.Proof.Gen.Kernel13Ideal.Read
public import proofs.«01_k».proof.Proof.Gen.Reference13Ideal.Read
public import Idealize.ShloMosaic.Lib.Pipeline.ValueKit
public import Idealize.ShloMosaic.Lib.Pipeline.ReadBack

@[expose] public section

set_option maxRecDepth 16384

noncomputable section

namespace Cert.Kernel13Ideal.KeysDecode

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The product of the layer's rows and its projection weights laid out as the call writes it: row by row, with zero columns up to the block width. -/
def padded (X : FVec Ideal S8x8x2048 .f32) (W : FVec Ideal S2x2048x4176 .f32) : FVec Ideal S64x4608 .f32 := fun i =>
  if h : (i 1).val < 4176 then Cert.Reference13Ideal.Read.val_main_v2 (F := Ideal) X W
      (ix3 ⟨(i 0).val / 8, by have := (i 0).isLt; change (i 0).val < 64 at this; omega⟩ ⟨(i 0).val % 8, by omega⟩ ⟨(i 1).val, h⟩)
    else (0 : EReal)

theorem sitofp_zero32 : (FloatOps.sitofp FTy.f32 (0#32) : Ideal .f32) = 0 := by
  show ((((0#32 : BitVec 32).toInt : ℤ) : ℝ) : EReal) = 0
  simp

/-- Zero columns after the weights' own, read at an index. -/
theorem pad_at (Y : FVec Ideal S2x2048x4176 .f32) (i : S2x2048x4608.Idx) :
    pad S2x2048x4608 ![0, 0, 0] ![0, 0, 432] ![0, 0, 0] Y
      (sitofp .f32 (constantI S_ 32 0#32) : FVec Ideal S_ .f32) pads_S2x2048x4176_S2x2048x4608_000_000_04320 h_S_ i
      = if h : (i 2).val < 4176 then Y (ix3 (i 0) (i 1) ⟨(i 2).val, h⟩) else (0 : EReal) := by
  pointwise
  rw [show (FloatOps.sitofp FTy.f32 0#32 : Ideal .f32) = 0 from sitofp_zero32]

/-- The rows the call reads are the layer's rows, row by row. -/
theorem entry_rows (c : Dev nD) (i : S64x2048.Idx) :
    (V m c main_v3 : FVec Ideal S64x2048 .bf16) i
      = (m ((c : Thread nD τ).loc main_arg0) : FVec Ideal S8x8x2048 .f32)
          (ix3 ⟨(i 0).val / 8, by have := (i 0).isLt; change (i 0).val < 64 at this; omega⟩
            ⟨(i 0).val % 8, by omega⟩ (i 1)) := by
  unfold V V0
  simp only [hostOps0, hostOps0_1, hostOps0_2, List.flatten_cons, List.flatten_nil, List.append_nil, List.cons_append, List.nil_append]
  entry_read
  pointwise

/-- The weights the call reads are the layer's. -/
theorem entry_weights (c : Dev nD) (i : S2x2048x4608.Idx) :
    (V m c main_v1 : FVec Ideal S2x2048x4608 .bf16) i
      = if h : (i 2).val < 4176 then (m ((c : Thread nD τ).loc main_arg1) : FVec Ideal S2x2048x4176 .f32) (ix3 (i 0) (i 1) ⟨(i 2).val, h⟩) else (0 : EReal) := by
  unfold V V0
  simp only [hostOps0, hostOps0_1, hostOps0_2, List.flatten_cons, List.flatten_nil, List.append_nil, List.cons_append, List.nil_append]
  entry_read
  exact pad_at _ i

theorem idx : ∀ t : Fin cfg0.N, win0_0.index t = ![t.val / 3, 0] ∧ win0_1.index t = ![0, 0, t.val % 3]
    ∧ win0_2.index t = ![t.val / 3, t.val % 3] :=
  (by decide +kernel : ∀ t : Fin grid0.N, _)

theorem point (c : Dev nD) (t : Fin cfg0.N) (y) : k0_pay1 (iblk m c 0 t) (iblk m c 1 t) y
    = padded (m ((c : Thread nD τ).loc main_arg0)) (m ((c : Thread nD τ).loc main_arg1)) (((cfg0.win 2).blk t).view.emb y) := by
  unfold padded
  pointwise [k0_pay1]
  have e2 : ((((cfg0.win 2).blk t).view.emb y) 1).val = t.val % 3 * 1536 + (y 1).val := by blk_simp [idx t]
  by_cases h : ((((cfg0.win 2).blk t).view.emb y) 1).val < 4176
  · rw [dif_pos h, Cert.Reference13Ideal.Read.val_main_v2_apply]
    simp only [Cert.Reference13Ideal.Read.val_main_v1_apply, Cert.Reference13Ideal.Read.val_main_v0_apply]
    refine Finset.sum_congr rfl fun k _ => ?_
    congr 1
    · blk_simp [iblk]
      refine (entry_rows m c _).trans ?_
      blk_ext [idx t]
    · blk_simp [iblk]
      refine (entry_weights m c _).trans ?_
      rw [dif_pos (by blk_simp [idx t]; omega)]
      blk_ext [idx t]
  · rw [dif_neg h]
    refine Finset.sum_eq_zero fun k _ => ?_
    have z : (iblk m c 1 t : FVec Ideal S1x2048x1536 .bf16) (ix3 0 k (y 1)) = (0 : EReal) := by
      blk_simp [iblk]
      refine (entry_weights m c _).trans ?_
      rw [dif_neg (by blk_simp [idx t]; omega)]
    exact (congrArg _ z).trans (mul_zero _)

theorem final (c : Dev nD) : (dats m 0 c).arrAt 2 (cfgs 0).N
    = padded (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The keys: columns 2048 to 2560 of the product, by head. -/
theorem keys_eq (X : FVec Ideal S8x8x2048 .f32) (W : FVec Ideal S2x2048x4176 .f32) :
    Cert.Kernel13Ideal.Read.val_main_v7 (F := Ideal) (padded X W) = Cert.Reference13Ideal.Read.val_main_v9 (F := Ideal) X W := by
  funext i
  simp only [Cert.Kernel13Ideal.Read.val_main_v7_apply, Cert.Kernel13Ideal.Read.val_main_v6_apply, Cert.Kernel13Ideal.Read.val_main_v5_apply, Cert.Reference13Ideal.Read.val_main_v9_apply, Cert.Reference13Ideal.Read.val_main_v4_apply]
  unfold padded
  have h0 : (i 0).val < 8 := (i 0).isLt
  have h1 : (i 1).val < 8 := (i 1).isLt
  rw [dif_pos (by dsimp; omega)]
  refine congrArg _ (funext fun a => ?_)
  match a with
  | ⟨0, _⟩ => exact Fin.ext (by dsimp; omega)
  | ⟨1, _⟩ => exact Fin.ext (by dsimp; omega)
  | ⟨2, _⟩ => exact Fin.ext (by dsimp; omega)

/-- The values: columns 2560 to 3072 of the product, by head. -/
theorem values_eq (X : FVec Ideal S8x8x2048 .f32) (W : FVec Ideal S2x2048x4176 .f32) :
    Cert.Kernel13Ideal.Read.val_main_v9 (F := Ideal) (padded X W) = Cert.Reference13Ideal.Read.val_main_v10 (F := Ideal) X W := by
  funext i
  simp only [Cert.Kernel13Ideal.Read.val_main_v9_apply, Cert.Kernel13Ideal.Read.val_main_v8_apply, Cert.Kernel13Ideal.Read.val_main_v5_apply, Cert.Reference13Ideal.Read.val_main_v10_apply, Cert.Reference13Ideal.Read.val_main_v5_apply]
  unfold padded
  have h0 : (i 0).val < 8 := (i 0).isLt
  have h1 : (i 1).val < 8 := (i 1).isLt
  rw [dif_pos (by dsimp; omega)]
  refine congrArg _ (funext fun a => ?_)
  match a with
  | ⟨0, _⟩ => exact Fin.ext (by dsimp; omega)
  | ⟨1, _⟩ => exact Fin.ext (by dsimp; omega)
  | ⟨2, _⟩ => exact Fin.ext (by dsimp; omega)

/-- The indexer's key columns, before their normalization. -/
theorem index_slice_eq (X : FVec Ideal S8x8x2048 .f32) (W : FVec Ideal S2x2048x4176 .f32) :
    Cert.Kernel13Ideal.Read.val_main_v10 (F := Ideal) (padded X W) = Cert.Reference13Ideal.Read.val_main_v7 (F := Ideal) X W := by
  funext i
  simp only [Cert.Kernel13Ideal.Read.val_main_v10_apply, Cert.Kernel13Ideal.Read.val_main_v5_apply, Cert.Reference13Ideal.Read.val_main_v7_apply]
  unfold padded
  have h0 : (i 0).val < 8 := (i 0).isLt
  have h1 : (i 1).val < 8 := (i 1).isLt
  rw [dif_pos (by dsimp; omega)]
  refine congrArg _ (funext fun a => ?_)
  match a with
  | ⟨0, _⟩ => exact Fin.ext (by dsimp; omega)
  | ⟨1, _⟩ => exact Fin.ext (by dsimp; omega)
  | ⟨2, _⟩ => exact Fin.ext (by dsimp; omega)

/-- The indexer's keys: the same normalization of the same columns, with the same scale and offset. -/
theorem index_eq (X : FVec Ideal S8x8x2048 .f32) (W : FVec Ideal S2x2048x4176 .f32) (g b : FVec Ideal S2x64 .f32) :
    Cert.Kernel13Ideal.Read.val_main_v38 (F := Ideal) g b (padded X W) = Cert.Reference13Ideal.Read.val_main_v38 (F := Ideal) X W g b := by
  have e := index_slice_eq X W
  dsimp only [Cert.Kernel13Ideal.Read.val_main_v11, Cert.Kernel13Ideal.Read.val_main_v12, Cert.Kernel13Ideal.Read.val_main_v13, Cert.Kernel13Ideal.Read.val_main_v14, Cert.Kernel13Ideal.Read.val_main_cst, Cert.Kernel13Ideal.Read.val_main_v15, Cert.Kernel13Ideal.Read.val_main_v16, Cert.Kernel13Ideal.Read.val_main_cst_0, Cert.Kernel13Ideal.Read.val_main_v17, Cert.Kernel13Ideal.Read.val_main_v18, Cert.Kernel13Ideal.Read.val_main_v19, Cert.Kernel13Ideal.Read.val_main_v20, Cert.Kernel13Ideal.Read.val_main_v21, Cert.Kernel13Ideal.Read.val_main_cst_1, Cert.Kernel13Ideal.Read.val_main_v22, Cert.Kernel13Ideal.Read.val_main_v23, Cert.Kernel13Ideal.Read.val_main_cst_2, Cert.Kernel13Ideal.Read.val_main_v24, Cert.Kernel13Ideal.Read.val_main_v25, Cert.Kernel13Ideal.Read.val_main_v26, Cert.Kernel13Ideal.Read.val_main_v27, Cert.Kernel13Ideal.Read.val_main_cst_3, Cert.Kernel13Ideal.Read.val_main_v28, Cert.Kernel13Ideal.Read.val_main_v29, Cert.Kernel13Ideal.Read.val_main_v30, Cert.Kernel13Ideal.Read.val_main_v31, Cert.Kernel13Ideal.Read.val_main_v32, Cert.Kernel13Ideal.Read.val_main_v33, Cert.Kernel13Ideal.Read.val_main_v34, Cert.Kernel13Ideal.Read.val_main_v35, Cert.Kernel13Ideal.Read.val_main_v36, Cert.Kernel13Ideal.Read.val_main_v37, Cert.Kernel13Ideal.Read.val_main_v38]
  dsimp only [Cert.Reference13Ideal.Read.val_main_v11, Cert.Reference13Ideal.Read.val_main_v12, Cert.Reference13Ideal.Read.val_main_v13, Cert.Reference13Ideal.Read.val_main_v14, Cert.Reference13Ideal.Read.val_main_cst, Cert.Reference13Ideal.Read.val_main_v15, Cert.Reference13Ideal.Read.val_main_v16, Cert.Reference13Ideal.Read.val_main_cst_0, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_cst_1, Cert.Reference13Ideal.Read.val_main_v22, Cert.Reference13Ideal.Read.val_main_v23, Cert.Reference13Ideal.Read.val_main_cst_2, Cert.Reference13Ideal.Read.val_main_v24, Cert.Reference13Ideal.Read.val_main_v25, Cert.Reference13Ideal.Read.val_main_v26, Cert.Reference13Ideal.Read.val_main_v27, Cert.Reference13Ideal.Read.val_main_cst_3, Cert.Reference13Ideal.Read.val_main_v28, Cert.Reference13Ideal.Read.val_main_v29, Cert.Reference13Ideal.Read.val_main_v30, Cert.Reference13Ideal.Read.val_main_v31, Cert.Reference13Ideal.Read.val_main_v32, Cert.Reference13Ideal.Read.val_main_v33, Cert.Reference13Ideal.Read.val_main_v34, Cert.Reference13Ideal.Read.val_main_v35, Cert.Reference13Ideal.Read.val_main_v36, Cert.Reference13Ideal.Read.val_main_v37, Cert.Reference13Ideal.Read.val_main_v38]
  rw [e]

theorem region (c : Dev nD) : Value.reg_main_v4 m c
    = padded (m ((c : Thread nD τ).loc main_arg0)) (m ((c : Thread nD τ).loc main_arg1)) :=
  final m c

/-- The program's run, its results as the reference writes them. -/
theorem kernel_run (g : Dev nD → PrngReg) :
    θ_run (defs (F := Ideal)) (onTc (τ := τ) (main (F := Ideal))) ⟨m, fun _ => 0, g⟩ fun r => ∀ c : Dev nD,
      r.2.mem ((c.tc : Thread Cert.Kernel13Ideal.nD Cert.Kernel13Ideal.τ).loc Cert.Kernel13Ideal.main_v7) = Cert.Reference13Ideal.Read.val_main_v9 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))
      ∧ r.2.mem ((c.tc : Thread Cert.Kernel13Ideal.nD Cert.Kernel13Ideal.τ).loc Cert.Kernel13Ideal.main_v9) = Cert.Reference13Ideal.Read.val_main_v10 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))
      ∧ r.2.mem ((c.tc : Thread Cert.Kernel13Ideal.nD Cert.Kernel13Ideal.τ).loc Cert.Kernel13Ideal.main_v38) = Cert.Reference13Ideal.Read.val_main_v38 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))
      ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3) :=
  θ_run_mono (Value.run m g) fun r h c => by
    obtain ⟨hk, hv, hi, hr⟩ := h c
    rw [region m c] at hk hv hi
    exact ⟨hk.trans (keys_eq _ _), hv.trans (values_eq _ _), hi.trans (index_eq _ _ _ _), hr⟩

/-- The reference's run, its results as the arrays read above. -/
theorem ref_run (m' : (ℓ : Loc Cert.Reference13Ideal.nD Cert.Reference13Ideal.τ Cert.Reference13Ideal.sig) → Buf (Elt Ideal) ℓ) (g' : Dev Cert.Reference13Ideal.nD → PrngReg) :
    θ_run (Cert.Reference13Ideal.defs (F := Ideal)) (onTc (τ := Cert.Reference13Ideal.τ) (Cert.Reference13Ideal.main (F := Ideal))) ⟨m', fun _ => 0, g'⟩ fun r => ∀ c : Dev Cert.Reference13Ideal.nD,
      r.2.mem ((c.tc : Thread Cert.Reference13Ideal.nD Cert.Reference13Ideal.τ).loc Cert.Reference13Ideal.main_v9) = Cert.Reference13Ideal.Read.val_main_v9 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1))
      ∧ r.2.mem ((c.tc : Thread Cert.Reference13Ideal.nD Cert.Reference13Ideal.τ).loc Cert.Reference13Ideal.main_v10) = Cert.Reference13Ideal.Read.val_main_v10 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1))
      ∧ r.2.mem ((c.tc : Thread Cert.Reference13Ideal.nD Cert.Reference13Ideal.τ).loc Cert.Reference13Ideal.main_v38) = Cert.Reference13Ideal.Read.val_main_v38 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3))
      ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3) :=
  θ_run_mono (Cert.Reference13Ideal.Value.run m' g') fun r h c => by
    obtain ⟨hk, hv, hi, hr⟩ := h c
    exact ⟨hk, hv, hi, hr⟩

/-- The values of the program are its reference's. -/
theorem algebraic : Cert.algebraic_Kernel13Ideal_Reference13Ideal := by
  pair_intro
  · run_from kernel_run m g
  · run_from ref_run m' g'

end Cert.Kernel13Ideal.KeysDecode

end
-- ==== Proof.QueryDecode.lean ====
module

public import proofs.«01_k».proof.Proof.Gen.Kernel15Ideal.Value
public import proofs.«01_k».proof.Proof.Gen.Reference15Ideal.Read
public import Idealize.ShloMosaic.Lib.Pipeline.ValueKit

@[expose] public section

set_option maxRecDepth 16384

noncomputable section

namespace Cert.Kernel15Ideal.QueryDecode

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- The product of the layer's rows and its query weights, as the reference writes it. -/
abbrev REF (X : FVec Ideal S8x8x2048 .f32) (W : FVec Ideal S2x2048x6144 .f32) : FVec Ideal S64x6144 .f32 :=
  Cert.Reference15Ideal.Read.val_main_v3 (F := Ideal) X W

/-- The rows the call reads are the layer's rows, row by row. -/
theorem entry_rows (c : Dev nD) (i : S64x2048.Idx) :
    (V m c main_v1 : FVec Ideal S64x2048 .bf16) i
      = (m ((c : Thread nD τ).loc main_arg0) : FVec Ideal S8x8x2048 .f32)
          (ix3 ⟨(i 0).val / 8, by have := (i 0).isLt; change (i 0).val < 64 at this; omega⟩
            ⟨(i 0).val % 8, by omega⟩ (i 1)) := by
  entry_read
  pointwise

/-- The weights the call reads are the layer's. -/
theorem entry_weights (c : Dev nD) (i : S2x2048x6144.Idx) :
    (V m c main_v2 : FVec Ideal S2x2048x6144 .bf16) i
      = (m ((c : Thread nD τ).loc main_arg1) : FVec Ideal S2x2048x6144 .f32) i := by
  entry_read
  pointwise

theorem idx : ∀ t : Fin cfg0.N, win0_0.index t = ![t.val / 4, 0] ∧ win0_1.index t = ![0, 0, t.val % 4]
    ∧ win0_2.index t = ![t.val / 4, t.val % 4] :=
  (by decide +kernel : ∀ t : Fin grid0.N, _)

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  rw [REF, Cert.Reference15Ideal.Read.val_main_v3_apply, Cert.Reference15Ideal.Read.val_main_v2_apply]
  simp only [Cert.Reference15Ideal.Read.val_main_v1_apply, Cert.Reference15Ideal.Read.val_main_v0_apply]
  pointwise [k0_pay1]
  refine Finset.sum_congr rfl fun k _ => ?_
  congr 1
  · blk_simp [iblk]
    refine (entry_rows m c _).trans ?_
    blk_ext [idx t]
  · blk_simp [iblk]
    refine (entry_weights m c _).trans ?_
    blk_ext [idx t]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel15Ideal.QueryDecode

end
-- ==== Proof.MixerDecode.lean ====
module

public import proofs.«01_k».proof.Proof.Gen.Kernel16Ideal.Value
public import proofs.«01_k».proof.Proof.Gen.Reference16Ideal.Read
public import proofs.«01_k».proof.Proof.LayerNorm

@[expose] public section

set_option maxRecDepth 16384

noncomputable section

namespace Cert.Kernel16Ideal.MixerDecode

open Cert.Kernel16Ideal Cert.Kernel16Ideal.Gen Idealize.ShloMosaic Idealize.ShloMosaic.TcCoe Idealize.SL.Sem
open Idealize.ShloMosaic.Pipeline (Dat)
open Cert.Reference16Ideal.Read Cert.LayerNorm

variable (m : (ℓ : Loc nD τ sig) → Buf (Elt Ideal) ℓ)

/-- The residual row before its layer norm, as the reference writes it. -/
abbrev SUM (A : FVec Ideal S64x2048 .bf16) (W : FVec Ideal S2x2048x2048 .f32) (X : FVec Ideal S64x2048 .f32) : FVec Ideal S64x2048 .f32 :=
  val_main_v6 (F := Ideal) A W X

/-- The layer's output, as the reference writes it. -/
abbrev REF (A : FVec Ideal S64x2048 .bf16) (W : FVec Ideal S2x2048x2048 .f32) (X : FVec Ideal S64x2048 .f32)
    (g b : FVec Ideal S4x2x2048 .f32) : FVec Ideal S64x2048 .f32 := val_main_v34 (F := Ideal) A W X g b

/-- The reference's output is the layer norm of its residual row. -/
theorem ref_norm (A : FVec Ideal S64x2048 .bf16) (W : FVec Ideal S2x2048x2048 .f32) (X : FVec Ideal S64x2048 .f32)
    (g b : FVec Ideal S4x2x2048 .f32) (r : Fin 64) (j : Fin 2048) :
    REF A W X g b (ix2 r j) = normed (fun x => SUM A W X (ix2 r x)) (g (ix3 0 0 j)) (b (ix3 0 0 j)) j := by
  unfold REF SUM
  unfold val_main_v34 val_main_v31 val_main_v28 val_main_v23 val_main_v33 val_main_v30 val_main_v29 val_main_v32 val_main_v27
    val_main_v26 val_main_v25 val_main_v21 val_main_v19 val_main_v18 val_main_v17 val_main_v16 val_main_v15 val_main_v22 val_main_v14
    val_main_v12 val_main_v11 val_main_v13 val_main_v20 val_main_v24 val_main_cst_0 val_main_cst_1 val_main_cst_2 val_main_cst_3 val_main_cst_4
    val_main_v8 val_main_v10 val_main_v7 val_main_v9
  generalize val_main_v6 (F := Ideal) A W X = y
  pointwise
  rfl

/-- What the last step of a row block leaves is the layer norm of the residual row over the accumulated product. -/
theorem pay_norm (X A : FVec Ideal S64x2048 .f32) (g b : FVec Ideal S1x2048 .f32) (r : Fin 64) (j : Fin 2048) :
    k0_pay3 (F := Ideal) X A g b (ix2 r j)
      = normed (fun x => Ideal.ofBits FTy.f32 1071072509#32 * X (ix2 r x) + A (ix2 r x)) (g (ix2 0 j)) (b (ix2 0 j)) j := by
  pointwise [k0_pay3]
  rfl

/-- The weights the call reads are the layer's. -/
theorem entry_weights (c : Dev nD) (i : S2x2048x2048.Idx) :
    (V m c main_v0 : FVec Ideal S2x2048x2048 .bf16) i = (m ((c : Thread nD τ).loc main_arg1) : FVec Ideal S2x2048x2048 .f32) i := by
  entry_read
  rfl

theorem entry_scale (c : Dev nD) (i : S1x2048.Idx) :
    (V m c main_v5 : FVec Ideal S1x2048 .f32) i = (m ((c : Thread nD τ).loc main_arg3) : FVec Ideal S4x2x2048 .f32) (ix3 0 0 (i 1)) := by
  entry_read
  pointwise

theorem entry_shift (c : Dev nD) (i : S1x2048.Idx) :
    (V m c main_v6 : FVec Ideal S1x2048 .f32) i = (m ((c : Thread nD τ).loc main_arg4) : FVec Ideal S4x2x2048 .f32) (ix3 0 0 (i 1)) := by
  entry_read
  pointwise

theorem entry_heads (c : Dev nD) : (V m c main_arg0) = m ((c : Thread nD τ).loc main_arg0) := by
  entry_read
  rfl

theorem entry_x (c : Dev nD) : (V m c main_arg2) = m ((c : Thread nD τ).loc main_arg2) := by
  entry_read
  rfl

theorem idx : ∀ t : Fin cfg0.N, win0_0.index t = ![t.val, 0] ∧ win0_1.index t = ![0, 0, 0]
    ∧ win0_2.index t = ![t.val, 0] ∧ win0_3.index t = ![0, 0] ∧ win0_4.index t = ![0, 0]
    ∧ win0_5.index t = ![t.val, 0] ∧ win0_6.index t = ![t.val, 0] :=
  (by decide +kernel : ∀ t : Fin grid0.N, _)

/-- The row of the arrays that row `r` of the block of point `t` is. -/
def rowAt (t : Fin cfg0.N) (r : Fin 64) : Fin 64 :=
  ⟨t.val * 64 + r.val, by have : t.val < 1 := t.isLt; have := r.isLt; omega⟩

/-- The product of a row block is the reference's product. -/
theorem prod (c : Dev nD) (t : Fin cfg0.N) (r : Fin 64) (j : Fin 2048) :
    k0_pay1 (iblk m c 0 t) (iblk m c 1 t) (ix2 r j)
      = val_main_v3 (F := Ideal) (m ((c : Thread nD τ).loc main_arg0)) (m ((c : Thread nD τ).loc main_arg1)) (ix2 (rowAt t r) j) := by
  pointwise [k0_pay1]
  rw [val_main_v3_apply]
  simp only [val_main_v2_apply, val_main_v1_apply, val_main_v0_apply]
  refine Finset.sum_congr rfl fun k _ => ?_
  congr 1
  · blk_simp [iblk]
    refine (congrFun (entry_heads m c) _).trans ?_
    blk_ext [idx t, rowAt]
  · blk_simp [iblk]
    refine (entry_weights m c _).trans ?_
    blk_ext [idx t]

/-- What a row block's step leaves in an element is the reference's. -/
theorem point (c : Dev nD) (t : Fin cfg0.N) (r : Fin 64) (j : Fin 2048) :
    k0_pay3 (iblk m c 2 t) (k0_pay1 (iblk m c 0 t) (iblk m c 1 t)) (iblk m c 3 t) (iblk m c 4 t) (ix2 r j)
    = REF (m ((c : Thread nD τ).loc main_arg0)) (m ((c : Thread nD τ).loc main_arg1)) (m ((c : Thread nD τ).loc main_arg2))
      (m ((c : Thread nD τ).loc main_arg3)) (m ((c : Thread nD τ).loc main_arg4)) (ix2 (rowAt t r) j) := by
  rw [ref_norm, pay_norm]
  congr 1
  · funext x
    rw [prod m c t r x]
    unfold SUM
    rw [val_main_v6_apply, val_main_v5_apply, val_main_v4_apply, val_main_cst_apply]
    refine congrArg₂ (· + ·) (congrArg₂ (· * ·) rfl ?_) rfl
    blk_simp [iblk]
    refine (congrFun (entry_x m c) _).trans ?_
    blk_ext [idx t, rowAt]
  · blk_simp [iblk]
    refine (entry_scale m c _).trans ?_
    blk_ext [idx t]
  · blk_simp [iblk]
    refine (entry_shift m c _).trans ?_
    blk_ext [idx t]

theorem out_f32 (c : Dev nD) (t : Fin cfg0.N) :
    (outsAt0 m c t).1 = k0_pay3 (iblk m c 2 t) (k0_pay1 (iblk m c 0 t) (iblk m c 1 t)) (iblk m c 3 t) (iblk m c 4 t) := by
  frame_out

theorem out_bf16 (c : Dev nD) (t : Fin cfg0.N) :
    (outsAt0 m c t).2 = truncf .bf16 (k0_pay3 (iblk m c 2 t) (k0_pay1 (iblk m c 0 t) (iblk m c 1 t)) (iblk m c 3 t) (iblk m c 4 t)) bitsLt_bf16_f32 := by
  frame_out
  rfl

theorem final_f32 (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t ht y => ?_
  blk_simp
  rw [after0_5, out_f32]
  refine (congrArg _ (by blk_ext)).trans ((point m c t (y 0) (y 1)).trans ?_)
  blk_ext [idx t, rowAt]

theorem final_bf16 (c : Dev nD) : (dats m 0 c).arrAt 6 (cfgs 0).N
    = (val_main_v35 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) : FVec Ideal S64x2048 .bf16) := by
  refine (dats m 0 c).arrAt_eq_of_covers 6 _ (by decide +kernel) fun t ht y => ?_
  blk_simp
  rw [after0_6, out_bf16]
  refine (congrArg _ (by blk_ext)).trans ((point m c t (y 0) (y 1)).trans ?_)
  blk_ext [idx t, rowAt]

end Cert.Kernel16Ideal.MixerDecode

end
-- ==== Proof.FfnDecodeEntry.lean ====
module

public import proofs.«01_k».proof.Proof.Gen.Kernel14Ideal.Frame
public import Idealize.ShloMosaic.Lib.Pipeline.ValueKit
public import Idealize.ShloMosaic.Lib.Pipeline.ReadBack

@[expose] public section

set_option maxRecDepth 16384

noncomputable section

namespace Cert.Kernel14Ideal.FfnDecode

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The buffers the program starts with. -/
abbrev rows (c : Dev nD) : FVec Ideal S8x8x2048 .f32 := m ((c : Thread nD τ).loc main_arg0)
abbrev past (c : Dev nD) : FVec Ideal S4x8x2x5504 .f32 := m ((c : Thread nD τ).loc main_arg1)
abbrev wts (c : Dev nD) : FVec Ideal S4x2048x11008 .f32 := m ((c : Thread nD τ).loc main_arg2)
abbrev cws (c : Dev nD) : FVec Ideal S4x3x5504 .f32 := m ((c : Thread nD τ).loc main_arg3)
abbrev cbs (c : Dev nD) : FVec Ideal S4x5504 .f32 := m ((c : Thread nD τ).loc main_arg4)

theorem sitofp_zero32 : (FloatOps.sitofp FTy.f32 (0#32) : Ideal .f32) = 0 := by
  show ((((0#32 : BitVec 32).toInt : ℤ) : ℝ) : EReal) = 0
  simp

theorem pad_gate (Y : FVec Ideal S4x2048x11008 .f32) (i : S4x2048x5632.Idx) :
    pad S4x2048x5632 ![0, 0, 0] ![0, 0, 128] ![0, 0, 0] (extractStridedSlice S4x2048x5504 ![0, 0, 0] Y slices_S4x2048x11008_S4x2048x5504_0_0_0)
      (sitofp .f32 (constantI S_ 32 0#32) : FVec Ideal S_ .f32) pads_S4x2048x5504_S4x2048x5632_000_000_01280 h_S_ i
      = if h : (i 2).val < 5504 then Y (ix3 (i 0) (i 1) ⟨(i 2).val, by omega⟩) else (0 : EReal) := by
  pointwise
  rw [show (FloatOps.sitofp FTy.f32 0#32 : Ideal .f32) = 0 from sitofp_zero32]

theorem pad_up (Y : FVec Ideal S4x2048x11008 .f32) (i : S4x2048x5632.Idx) :
    pad S4x2048x5632 ![0, 0, 0] ![0, 0, 128] ![0, 0, 0] (extractStridedSlice S4x2048x5504 ![0, 0, 5504] Y slices_S4x2048x11008_S4x2048x5504_0_0_5504)
      (sitofp .f32 (constantI S_ 32 0#32) : FVec Ideal S_ .f32) pads_S4x2048x5504_S4x2048x5632_000_000_01280 h_S_ i
      = if h : (i 2).val < 5504 then Y (ix3 (i 0) (i 1) ⟨5504 + (i 2).val, by omega⟩) else (0 : EReal) := by
  pointwise
  rw [show (FloatOps.sitofp FTy.f32 0#32 : Ideal .f32) = 0 from sitofp_zero32]

theorem pad_conv (Y : FVec Ideal S4x3x5504 .f32) (i : S3x5632.Idx) :
    shapeCast S3x5632 (extractStridedSlice S1x3x5632 ![0, 0, 0] (pad S4x3x5632 ![0, 0, 0] ![0, 0, 128] ![0, 0, 0] Y
      (sitofp .f32 (constantI S_ 32 0#32) : FVec Ideal S_ .f32) pads_S4x3x5504_S4x3x5632_000_000_01280 h_S_) slices_S4x3x5632_S1x3x5632_0_0_0) shapeCasts_S1x3x5632_S3x5632 i
      = if h : (i 1).val < 5504 then Y (ix3 0 (i 0) ⟨(i 1).val, h⟩) else (0 : EReal) := by
  pointwise
  rw [show (FloatOps.sitofp FTy.f32 0#32 : Ideal .f32) = 0 from sitofp_zero32]

theorem pad_bias (Y : FVec Ideal S4x5504 .f32) (i : S1x5632.Idx) :
    shapeCast S1x5632 (extractStridedSlice S1x1x5632 ![0, 0, 0] (shapeCast S4x1x5632 (pad S4x5632 ![0, 0] ![0, 128] ![0, 0] Y
      (sitofp .f32 (constantI S_ 32 0#32) : FVec Ideal S_ .f32) pads_S4x5504_S4x5632_000_01280 h_S_) shapeCasts_S4x5632_S4x1x5632) slices_S4x1x5632_S1x1x5632_0_0_0) shapeCasts_S1x1x5632_S1x5632 i
      = if h : (i 1).val < 5504 then Y (ix2 0 ⟨(i 1).val, h⟩) else (0 : EReal) := by
  pointwise
  rw [show (FloatOps.sitofp FTy.f32 0#32 : Ideal .f32) = 0 from sitofp_zero32]

theorem pad_past (Y : FVec Ideal S4x8x2x5504 .f32) (i : S8x2x5632.Idx) :
    pad S8x2x5632 ![0, 0, 0] ![0, 0, 128] ![0, 0, 0] (shapeCast S8x2x5504 (extractStridedSlice S1x8x2x5504 ![0, 0, 0, 0] Y slices_S4x8x2x5504_S1x8x2x5504_0_0_0_0) shapeCasts_S1x8x2x5504_S8x2x5504)
      (sitofp .f32 (constantI S_ 32 0#32) : FVec Ideal S_ .f32) pads_S8x2x5504_S8x2x5632_000_000_01280 h_S_ i
      = if h : (i 2).val < 5504 then Y (ix4 0 (i 0) (i 1) ⟨(i 2).val, h⟩) else (0 : EReal) := by
  pointwise
  rw [show (FloatOps.sitofp FTy.f32 0#32 : Ideal .f32) = 0 from sitofp_zero32]

/-- The rows both products read are the layer's rows, row by row. -/
theorem entry_rows (c : Dev nD) (i : S64x2048.Idx) :
    (W11 m ρ c (Proc.devRef .tc main_v10) : FVec Ideal S64x2048 .bf16) i
      = rows m c (ix3 ⟨(i 0).val / 8, by have := (i 0).isLt; change (i 0).val < 64 at this; omega⟩ ⟨(i 0).val % 8, by omega⟩ (i 1)) := by
  have e : W11 m ρ c (Proc.devRef .tc main_v10) = W9 m ρ c (Proc.devRef .tc main_v10) :=
    (W11_of m ρ c main_v10 (by decide)).trans (W10_of m ρ c main_v10 (by decide))
  have e8 := W8_args m ρ c main_arg0 (by decide)
  rw [e]
  unfold W9
  generalize W8 m ρ c = V at e8 ⊢
  simp only [hostOps0_8]
  entry_read
  rw [e8]
  pointwise

/-- The gate's weights, zero columns after them. -/
theorem entry_gate (c : Dev nD) (i : S4x2048x5632.Idx) :
    (W11 m ρ c (Proc.devRef .tc main_v2) : FVec Ideal S4x2048x5632 .bf16) i
      = if h : (i 2).val < 5504 then wts m c (ix3 (i 0) (i 1) ⟨(i 2).val, by omega⟩) else (0 : EReal) := by
  have e : W11 m ρ c (Proc.devRef .tc main_v2) = W3 m ρ c (Proc.devRef .tc main_v2) :=
    (W11_of m ρ c main_v2 (by decide)).trans ((W10_of m ρ c main_v2 (by decide)).trans ((W9_of m ρ c main_v2 (by decide)).trans
      ((W8_of m ρ c main_v2 (by decide)).trans ((W7_of m ρ c main_v2 (by decide)).trans ((W6_of m ρ c main_v2 (by decide)).trans
      ((W5_of m ρ c main_v2 (by decide)).trans (W4_of m ρ c main_v2 (by decide))))))))
  have e0 := W0_args m ρ c main_arg2 (by decide)
  rw [e]
  unfold W3 W2 W1
  generalize W0 m ρ c = V at e0 ⊢
  simp only [hostOps0_2, hostOps0_1, hostOps0]
  entry_read
  rw [e0]
  exact pad_gate _ i

/-- A buffer written before the first product is the same after both. -/
theorem W14_eq (c : Dev nD) (r : Ref sig .tc) (h0 : ∀ w, Pipeline.arrRef spec0 w ≠ r) (h : r ∉ hostOps1_W) (h1 : ∀ w, Pipeline.arrRef spec1 w ≠ r) :
    W14 m ρ c (Proc.devRef .tc r) = W11 m ρ c (Proc.devRef .tc r) :=
  (W14_of_ne m ρ c r h1).trans ((W13_of m ρ c r h).trans (W12_of_ne m ρ c r h0))

/-- The rows the second product reads are the first's. -/
theorem entry_rows1 (c : Dev nD) : W13 m ρ c (Proc.devRef .tc main_v10) = W11 m ρ c (Proc.devRef .tc main_v10) :=
  (W13_of m ρ c main_v10 (by decide)).trans (W12_of m ρ c main_v10 (by decide))

/-- The up projection's weights, zero columns after them. -/
theorem entry_up (c : Dev nD) (i : S4x2048x5632.Idx) :
    (W13 m ρ c (Proc.devRef .tc main_v5) : FVec Ideal S4x2048x5632 .bf16) i
      = if h : (i 2).val < 5504 then wts m c (ix3 (i 0) (i 1) ⟨5504 + (i 2).val, by omega⟩) else (0 : EReal) := by
  have e : W13 m ρ c (Proc.devRef .tc main_v5) = W5 m ρ c (Proc.devRef .tc main_v5) :=
    (W13_of m ρ c main_v5 (by decide)).trans ((W12_of m ρ c main_v5 (by decide)).trans
      ((W11_of m ρ c main_v5 (by decide)).trans ((W10_of m ρ c main_v5 (by decide)).trans ((W9_of m ρ c main_v5 (by decide)).trans
      ((W8_of m ρ c main_v5 (by decide)).trans ((W7_of m ρ c main_v5 (by decide)).trans (W6_of m ρ c main_v5 (by decide))))))))
  have e2 := W2_args m ρ c main_arg2 (by decide)
  rw [e]
  unfold W5 W4 W3
  generalize W2 m ρ c = V at e2 ⊢
  simp only [hostOps0_4, hostOps0_3, hostOps0_2]
  entry_read
  rw [e2]
  exact pad_up _ i

/-- The convolution's weights, zero columns after them. -/
theorem entry_conv (c : Dev nD) (i : S3x5632.Idx) :
    (W14 m ρ c (Proc.devRef .tc main_v15) : FVec Ideal S3x5632 .f32) i
      = if h : (i 1).val < 5504 then cws m c (ix3 0 (i 0) ⟨(i 1).val, h⟩) else (0 : EReal) := by
  have e4 := W4_args m ρ c main_arg3 (by decide)
  have e6 : W6 m ρ c (Proc.devRef .tc main_v6) = pad S4x3x5632 ![0, 0, 0] ![0, 0, 128] ![0, 0, 0] (cws m c)
      (sitofp .f32 (constantI S_ 32 0#32) : FVec Ideal S_ .f32) pads_S4x3x5504_S4x3x5632_000_000_01280 h_S_ := by
    unfold W6 W5
    generalize W4 m ρ c = V at e4 ⊢
    simp only [hostOps0_5, hostOps0_4]
    entry_read
    rw [e4]
    rfl
  have e10 : W10 m ρ c (Proc.devRef .tc main_v6) = W6 m ρ c (Proc.devRef .tc main_v6) :=
    (W10_of m ρ c main_v6 (by decide)).trans ((W9_of m ρ c main_v6 (by decide)).trans
      ((W8_of m ρ c main_v6 (by decide)).trans (W7_of m ρ c main_v6 (by decide))))
  rw [e6] at e10
  rw [W14_eq m ρ c main_v15 (by decide) (by decide) (by decide)]
  unfold W11
  generalize W10 m ρ c = V at e10 ⊢
  simp only [hostOps0_10]
  entry_read
  rw [e10]
  exact pad_conv _ i

/-- The convolution's bias, zero columns after it. -/
theorem entry_bias (c : Dev nD) (i : S1x5632.Idx) :
    (W14 m ρ c (Proc.devRef .tc main_v17) : FVec Ideal S1x5632 .f32) i
      = if h : (i 1).val < 5504 then cbs m c (ix2 0 ⟨(i 1).val, h⟩) else (0 : EReal) := by
  have e6 := W6_args m ρ c main_arg4 (by decide)
  have e9 : W9 m ρ c (Proc.devRef .tc main_v8) = shapeCast S4x1x5632 (pad S4x5632 ![0, 0] ![0, 128] ![0, 0] (cbs m c)
      (sitofp .f32 (constantI S_ 32 0#32) : FVec Ideal S_ .f32) pads_S4x5504_S4x5632_000_01280 h_S_) shapeCasts_S4x5632_S4x1x5632 := by
    unfold W9 W8 W7
    generalize W6 m ρ c = V at e6 ⊢
    simp only [hostOps0_8, hostOps0_7, hostOps0_6]
    entry_read
    rw [e6]
    rfl
  have e10 := W10_of m ρ c main_v8 (by decide)
  rw [e9] at e10
  rw [W14_eq m ρ c main_v17 (by decide) (by decide) (by decide)]
  unfold W11
  generalize W10 m ρ c = V at e10 ⊢
  simp only [hostOps0_10]
  entry_read
  rw [e10]
  exact pad_bias _ i

/-- The gate's last two rows before the step, zero columns after them. -/
theorem entry_past (c : Dev nD) (i : S8x2x5632.Idx) :
    (W14 m ρ c (Proc.devRef .tc main_v13) : FVec Ideal S8x2x5632 .f32) i
      = if h : (i 2).val < 5504 then past m c (ix4 0 (i 0) (i 1) ⟨(i 2).val, h⟩) else (0 : EReal) := by
  have e8 := W8_args m ρ c main_arg1 (by decide)
  rw [W14_eq m ρ c main_v13 (by decide) (by decide) (by decide), W11_of m ρ c main_v13 (by decide)]
  unfold W10 W9
  generalize W8 m ρ c = V at e8 ⊢
  simp only [hostOps0_9, hostOps0_8]
  entry_read
  rw [e8]
  exact pad_past _ i

/-- The gate's product, zero columns after it. -/
def gateArr (X : FVec Ideal S8x8x2048 .f32) (W : FVec Ideal S4x2048x11008 .f32) : FVec Ideal S64x5632 .f32 := fun i =>
  if h : (i 1).val < 5504 then ∑ k : Fin 2048, X (ix3 ⟨(i 0).val / 8, by have := (i 0).isLt; change (i 0).val < 64 at this; omega⟩ ⟨(i 0).val % 8, by omega⟩ k) * W (ix3 0 k ⟨(i 1).val, by omega⟩) else (0 : EReal)

/-- The up projection's product, zero columns after it. -/
def upArr (X : FVec Ideal S8x8x2048 .f32) (W : FVec Ideal S4x2048x11008 .f32) : FVec Ideal S64x5632 .f32 := fun i =>
  if h : (i 1).val < 5504 then ∑ k : Fin 2048, X (ix3 ⟨(i 0).val / 8, by have := (i 0).isLt; change (i 0).val < 64 at this; omega⟩ ⟨(i 0).val % 8, by omega⟩ k) * W (ix3 0 k ⟨5504 + (i 1).val, by omega⟩) else (0 : EReal)

theorem idx0 : ∀ t : Fin cfg0.N, win0_0.index t = ![t.val / 11, 0] ∧ win0_1.index t = ![0, 0, t.val % 11]
    ∧ win0_2.index t = ![t.val / 11, t.val % 11] :=
  (by decide +kernel : ∀ t : Fin grid0.N, _)

theorem idx1 : ∀ t : Fin cfg1.N, win1_0.index t = ![t.val / 11, 0] ∧ win1_1.index t = ![0, 0, t.val % 11]
    ∧ win1_2.index t = ![t.val / 11, t.val % 11] :=
  (by decide +kernel : ∀ t : Fin grid1.N, _)

theorem point0 (V : (c : Dev nD) → (b : Ref sig .tc) → Buf (Elt Ideal) ((c : Thread nD τ).loc b)) (c : Dev nD)
    (X : FVec Ideal S8x8x2048 .f32) (W : FVec Ideal S4x2048x11008 .f32)
    (hX : ∀ i : S64x2048.Idx, (V c main_v10 : FVec Ideal S64x2048 .bf16) i
      = X (ix3 ⟨(i 0).val / 8, by have := (i 0).isLt; change (i 0).val < 64 at this; omega⟩ ⟨(i 0).val % 8, by omega⟩ (i 1)))
    (hW : ∀ i : S4x2048x5632.Idx, (V c main_v2 : FVec Ideal S4x2048x5632 .bf16) i
      = if h : (i 2).val < 5504 then W (ix3 (i 0) (i 1) ⟨(i 2).val, by omega⟩) else (0 : EReal))
    (t : Fin cfg0.N) (y) : k0_pay1 (iblk0 V c 0 t) (iblk0 V c 1 t) y
    = gateArr X W (((cfg0.win 2).blk t).view.emb y) := by
  unfold gateArr
  pointwise [k0_pay1]
  have e2 : ((((cfg0.win 2).blk t).view.emb y) 1).val = t.val % 11 * 512 + (y 1).val := by blk_simp [idx0 t]
  by_cases h : ((((cfg0.win 2).blk t).view.emb y) 1).val < 5504
  · rw [dif_pos h]
    refine Finset.sum_congr rfl fun k _ => ?_
    congr 1
    · blk_simp [iblk0]
      refine (hX _).trans ?_
      blk_ext [idx0 t]
    · blk_simp [iblk0]
      refine (hW _).trans ?_
      rw [dif_pos (by blk_simp [idx0 t]; omega)]
      blk_ext [idx0 t]
  · rw [dif_neg h]
    refine Finset.sum_eq_zero fun k _ => ?_
    have z : (iblk0 V c 1 t : FVec Ideal S1x2048x512 .bf16) (ix3 0 k (y 1)) = (0 : EReal) := by
      blk_simp [iblk0]
      refine (hW _).trans ?_
      rw [dif_neg (by blk_simp [idx0 t]; omega)]
    exact (congrArg _ z).trans (mul_zero _)

theorem point1 (V : (c : Dev nD) → (b : Ref sig .tc) → Buf (Elt Ideal) ((c : Thread nD τ).loc b)) (c : Dev nD)
    (X : FVec Ideal S8x8x2048 .f32) (W : FVec Ideal S4x2048x11008 .f32)
    (hX : ∀ i : S64x2048.Idx, (V c main_v10 : FVec Ideal S64x2048 .bf16) i
      = X (ix3 ⟨(i 0).val / 8, by have := (i 0).isLt; change (i 0).val < 64 at this; omega⟩ ⟨(i 0).val % 8, by omega⟩ (i 1)))
    (hW : ∀ i : S4x2048x5632.Idx, (V c main_v5 : FVec Ideal S4x2048x5632 .bf16) i
      = if h : (i 2).val < 5504 then W (ix3 (i 0) (i 1) ⟨5504 + (i 2).val, by omega⟩) else (0 : EReal))
    (t : Fin cfg1.N) (y) : k1_pay1 (iblk1 V c 0 t) (iblk1 V c 1 t) y
    = upArr X W (((cfg1.win 2).blk t).view.emb y) := by
  unfold upArr
  pointwise [k1_pay1]
  have e2 : ((((cfg1.win 2).blk t).view.emb y) 1).val = t.val % 11 * 512 + (y 1).val := by blk_simp [idx1 t]
  by_cases h : ((((cfg1.win 2).blk t).view.emb y) 1).val < 5504
  · rw [dif_pos h]
    refine Finset.sum_congr rfl fun k _ => ?_
    congr 1
    · blk_simp [iblk1]
      refine (hX _).trans ?_
      blk_ext [idx1 t]
    · blk_simp [iblk1]
      refine (hW _).trans ?_
      rw [dif_pos (by blk_simp [idx1 t]; omega)]
      blk_ext [idx1 t]
  · rw [dif_neg h]
    refine Finset.sum_eq_zero fun k _ => ?_
    have z : (iblk1 V c 1 t : FVec Ideal S1x2048x512 .bf16) (ix3 0 k (y 1)) = (0 : EReal) := by
      blk_simp [iblk1]
      refine (hW _).trans ?_
      rw [dif_neg (by blk_simp [idx1 t]; omega)]
    exact (congrArg _ z).trans (mul_zero _)

/-- What the first product leaves. -/
theorem final0 (c : Dev nD) : W12 m ρ c (Proc.devRef .tc main_v18) = gateArr (rows m c) (wts m c) := by
  refine (W12_arr m ρ c 2).trans ((dat0 (V11 m ρ) c).arrAt_eq_of_covers 2 _ (by decide +kernel) fun t _ y => ?_)
  blk_simp
  rw [after0_2]; frame_out
  exact point0 (V11 m ρ) c _ _ (entry_rows m ρ c) (entry_gate m ρ c) t y

/-- What the second product leaves. -/
theorem final1 (c : Dev nD) : W14 m ρ c (Proc.devRef .tc main_v20) = upArr (rows m c) (wts m c) := by
  refine (W14_arr m ρ c 2).trans ((dat1 (V13 m ρ) c).arrAt_eq_of_covers 2 _ (by decide +kernel) fun t _ y => ?_)
  blk_simp
  rw [after1_2]; frame_out
  exact point1 (V13 m ρ) c _ _ (fun i => (congrFun (entry_rows1 m ρ c) i).trans (entry_rows m ρ c i)) (entry_up m ρ c) t y

/-- The first product by sequence and position, as the host lines after both read it. -/
theorem entry_ext (c : Dev nD) (b : Fin 8) (s : Fin 8) (f : Fin 5632) :
    (W14 m ρ c (Proc.devRef .tc main_v19) : FVec Ideal S8x8x5632 .f32) (ix3 b s f) = gateArr (rows m c) (wts m c) (ix2 ⟨b.val * 8 + s.val, by omega⟩ f) := by
  rw [W14_of_ne m ρ c main_v19 (by decide)]
  have e := final0 m ρ c
  unfold W13
  generalize W12 m ρ c = V at e ⊢
  simp only [hostOps1]
  entry_read
  rw [e]
  generalize gateArr (rows m c) (wts m c) = G
  pointwise

end Cert.Kernel14Ideal.FfnDecode

end
-- ==== Proof.FfnDecodeTail.lean ====
module

public import proofs.«01_k».proof.Proof.FfnDecodeEntry
public import proofs.«01_k».proof.Proof.Gen.Reference14Ideal.Read

@[expose] public section

set_option maxRecDepth 16384

noncomputable section

namespace Cert.Kernel14Ideal.FfnDecode

open Cert.Kernel14Ideal Cert.Kernel14Ideal.Gen Idealize.ShloMosaic Idealize.ShloMosaic.TcCoe Idealize.SL.Sem
open Cert.Reference14Ideal.Read

variable (m : (ℓ : Loc nD τ sig) → Buf (Elt Ideal) ℓ) (ρ : Dev nD → PrngReg)

/-- The gate's rows of a sequence: the two before the step, then the step's own. -/
def extArr (P : FVec Ideal S8x2x5632 .f32) (G : FVec Ideal S8x8x5632 .f32) : FVec Ideal S8x10x5632 .f32 :=
  concatenate S8x10x5632 1 [⟨S8x2x5632, P⟩, ⟨S8x8x5632, G⟩] concatenates_S8x2x5632_S8x8x5632_S8x10x5632_d1

/-- One element of the gate's causal convolution of width three, its bias added. -/
def conv (x0 x1 x2 w0 w1 w2 b : EReal) : EReal := b + (x0 * w0 + x1 * w1 + x2 * w2)

theorem tail_ext (V : Valuation τ sig (Elt Ideal)) :
    StableHlo.after hostOps2 V (Proc.devRef .tc main_v22) = extArr (V (Proc.devRef .tc main_v13)) (V (Proc.devRef .tc main_v19)) := by
  simp only [hostOps2]
  entry_read
  rfl

theorem tail_up (V : Valuation τ sig (Elt Ideal)) :
    StableHlo.after hostOps2 V (Proc.devRef .tc main_v21)
      = shapeCast S8x8x5632 (V (Proc.devRef .tc main_v20) : FVec Ideal S64x5632 .f32) shapeCasts_S64x5632_S8x8x5632 := by
  simp only [hostOps2]
  entry_read
  rfl

theorem tail_conv (V : Valuation τ sig (Elt Ideal)) (E : FVec Ideal S8x10x5632 .f32) (w : FVec Ideal S3x5632 .f32) (z : FVec Ideal S1x5632 .f32)
    (hE : extArr (V (Proc.devRef .tc main_v13)) (V (Proc.devRef .tc main_v19)) = E)
    (hw : V (Proc.devRef .tc main_v15) = w) (hz : V (Proc.devRef .tc main_v17) = z) (b : Fin 8) (s : Fin 8) (f : Fin 5632) :
    (StableHlo.after hostOps2 V (Proc.devRef .tc main_v47) : FVec Ideal S8x8x5632 .f32) (ix3 b s f)
      = conv (E (ix3 b ⟨s.val, by omega⟩ f)) (E (ix3 b ⟨1 + s.val, by omega⟩ f)) (E (ix3 b ⟨2 + s.val, by omega⟩ f))
          (w (ix2 0 f)) (w (ix2 1 f)) (w (ix2 2 f)) (z (ix2 0 f)) := by
  simp only [hostOps2]
  entry_read
  unfold extArr at hE
  rw [hw, hz]
  change concatenate S8x10x5632 1 _ _ = E at hE
  rw [hE]
  pointwise
  rfl

theorem tail_act (V : Valuation τ sig (Elt Ideal)) (x : FVec Ideal S8x8x5632 .f32) (hx : V (Proc.devRef .tc main_v47) = x) (i : S8x8x5632.Idx) :
    (StableHlo.after hostOps2_1 V (Proc.devRef .tc main_v48) : FVec Ideal S8x8x5632 .f32) i = x i * Ideal.logistic (x i) := by
  simp only [hostOps2_1, StableHlo.TRef.binary, StableHlo.TRef.nullary, StableHlo.TRef.unary, StableHlo.TRef.toBuf, StableHlo.TRef.ofBuf, cast_eq]
  entry_read
  rw [hx]
  pointwise
  rfl

theorem tail_out (V : Valuation τ sig (Elt Ideal)) (a u : FVec Ideal S8x8x5632 .f32) (ha : V (Proc.devRef .tc main_v48) = a)
    (hu : V (Proc.devRef .tc main_v21) = u) (r : Fin 64) (f : Fin 5632) :
    (StableHlo.after hostOps2_2 V (Proc.devRef .tc main_v51) : FVec Ideal S64x5632 .bf16) (ix2 r f)
      = a (ix3 ⟨r.val / 8, by omega⟩ ⟨r.val % 8, by omega⟩ f) * u (ix3 ⟨r.val / 8, by omega⟩ ⟨r.val % 8, by omega⟩ f) := by
  simp only [hostOps2_2]
  entry_read
  rw [ha, hu]
  pointwise

theorem tail_state (V : Valuation τ sig (Elt Ideal)) (E : FVec Ideal S8x10x5632 .f32) (hE : V (Proc.devRef .tc main_v22) = E)
    (b : Fin 8) (e : Fin 2) (f : Fin 5504) :
    (StableHlo.after hostOps2_2 V (Proc.devRef .tc main_v53) : FVec Ideal S8x2x5504 .f32) (ix3 b e f) = E (ix3 b ⟨8 + e.val, by omega⟩ ⟨f.val, by omega⟩) := by
  simp only [hostOps2_2]
  entry_read
  rw [hE]
  pointwise

/-- The gate's rows of a sequence, as the program's lines after the products read them. -/
abbrev gateRows (c : Dev nD) : FVec Ideal S8x10x5632 .f32 :=
  extArr (W14 m ρ c (Proc.devRef .tc main_v13)) (W14 m ρ c (Proc.devRef .tc main_v19))

theorem gateArr_pos (X : FVec Ideal S8x8x2048 .f32) (W : FVec Ideal S4x2048x11008 .f32) (r : Fin 64) (f : Fin 5632) (h : f.val < 5504) :
    gateArr X W (ix2 r f) = ∑ k : Fin 2048, X (ix3 ⟨r.val / 8, by omega⟩ ⟨r.val % 8, by omega⟩ k) * W (ix3 0 k ⟨f.val, by omega⟩) :=
  dif_pos h

theorem upArr_pos (X : FVec Ideal S8x8x2048 .f32) (W : FVec Ideal S4x2048x11008 .f32) (r : Fin 64) (f : Fin 5632) (h : f.val < 5504) :
    upArr X W (ix2 r f) = ∑ k : Fin 2048, X (ix3 ⟨r.val / 8, by omega⟩ ⟨r.val % 8, by omega⟩ k) * W (ix3 0 k ⟨5504 + f.val, by omega⟩) :=
  dif_pos h

theorem upArr_neg (X : FVec Ideal S8x8x2048 .f32) (W : FVec Ideal S4x2048x11008 .f32) (r : Fin 64) (f : Fin 5632) (h : ¬ f.val < 5504) :
    upArr X W (ix2 r f) = (0 : EReal) :=
  dif_neg h

/-- The gate's rows inside the weights' columns are the reference's. -/
theorem gateRows_eq (c : Dev nD) (b : Fin 8) (s : Fin 10) (f : Fin 5504) :
    gateRows m ρ c (ix3 b s ⟨f.val, by omega⟩) = val_main_v7 (F := Ideal) (rows m c) (past m c) (wts m c) (ix3 b s f) := by
  have hp := entry_past m ρ c
  have hg := entry_ext m ρ c
  unfold gateRows extArr
  generalize W14 m ρ c (Proc.devRef .tc main_v13) = P at hp ⊢
  generalize W14 m ρ c (Proc.devRef .tc main_v19) = G at hg ⊢
  have l : concatenate S8x10x5632 1 [⟨S8x2x5632, (P : FVec Ideal S8x2x5632 .f32)⟩, ⟨S8x8x5632, (G : FVec Ideal S8x8x5632 .f32)⟩] concatenates_S8x2x5632_S8x8x5632_S8x10x5632_d1 (ix3 b s ⟨f.val, by omega⟩)
      = if h : s.val < 2 then (P : FVec Ideal S8x2x5632 .f32) (ix3 b ⟨s.val, h⟩ ⟨f.val, by omega⟩) else (G : FVec Ideal S8x8x5632 .f32) (ix3 b ⟨s.val - 2, by omega⟩ ⟨f.val, by omega⟩) := by
    pointwise
  have r : val_main_v7 (F := Ideal) (rows m c) (past m c) (wts m c) (ix3 b s f)
      = if h : s.val < 2 then past m c (ix4 0 b ⟨s.val, h⟩ f) else ∑ k : Fin 2048, rows m c (ix3 b ⟨s.val - 2, by omega⟩ k) * wts m c (ix3 0 k ⟨f.val, by omega⟩) := by
    generalize rows m c = X
    generalize past m c = Y
    generalize wts m c = W
    unfold val_main_v7 val_main_v6 val_main_v5 val_main_v3 val_main_v2 val_main_v1 val_main_v0
    pointwise
  rw [l, r]
  by_cases h : s.val < 2
  · rw [dif_pos h, dif_pos h]
    exact (hp _).trans (dif_pos f.isLt)
  · rw [dif_neg h, dif_neg h]
    refine (hg _ _ _).trans ((gateArr_pos _ _ _ _ f.isLt).trans ?_)
    refine Finset.sum_congr rfl fun k _ => ?_
    congr 1
    refine congrArg _ (funext fun a => ?_)
    match a with
    | ⟨0, _⟩ => exact Fin.ext (by dsimp; omega)
    | ⟨1, _⟩ => exact Fin.ext (by dsimp; omega)
    | ⟨2, _⟩ => rfl

/-- One activation: the convolution through `silu`. -/
def silu (x : EReal) : EReal := x * Ideal.logistic x

/-- The reference's activations inside the weights' columns. -/
theorem ref_act (X : FVec Ideal S8x8x2048 .f32) (P : FVec Ideal S4x8x2x5504 .f32) (W : FVec Ideal S4x2048x11008 .f32) (cw : FVec Ideal S4x3x5504 .f32) (cb : FVec Ideal S4x5504 .f32)
    (b : Fin 8) (s : Fin 8) (f : Fin 5504) :
    val_main_v42 (F := Ideal) X P W cw cb (ix3 b s f)
      = silu (conv (val_main_v7 (F := Ideal) X P W (ix3 b ⟨s.val, by omega⟩ f)) (val_main_v7 (F := Ideal) X P W (ix3 b ⟨1 + s.val, by omega⟩ f))
          (val_main_v7 (F := Ideal) X P W (ix3 b ⟨2 + s.val, by omega⟩ f)) (cw (ix3 0 0 f)) (cw (ix3 0 1 f)) (cw (ix3 0 2 f)) (cb (ix2 0 f)))
          * val_main_v4 (F := Ideal) X W (ix3 b s f) := by
  unfold val_main_v42 val_main_v41 val_main_call0_v5 val_main_call0_v3 val_main_call0_v1 val_main_call0_v0 val_main_v40 val_main_v39 val_main_v38 val_main_v37 val_main_v36 val_main_v35
    val_main_v34 val_main_v33 val_main_v32 val_main_v31 val_main_v30 val_main_v29 val_main_v28 val_main_v27 val_main_v26 val_main_v25 val_main_v24 val_main_v23 val_main_v22 val_main_v21 val_main_v20 val_main_v19
    val_main_v18 val_main_v17 val_main_v16 val_main_v15 val_main_v14 val_main_v13 val_main_v12 val_main_v11 val_main_v10 val_main_v9 val_main_v8
    val_main_cst val_main_call0_v4 val_main_call0_v2 val_main_call0_cst val_main_call0_cst_0
  generalize val_main_v7 (F := Ideal) X P W = y
  generalize val_main_v4 (F := Ideal) X W = z
  pointwise
  rfl

theorem ref_up (X : FVec Ideal S8x8x2048 .f32) (W : FVec Ideal S4x2048x11008 .f32) (b : Fin 8) (s : Fin 8) (f : Fin 5504) :
    val_main_v4 (F := Ideal) X W (ix3 b s f) = ∑ k : Fin 2048, X (ix3 b s k) * W (ix3 0 k ⟨5504 + f.val, by omega⟩) := by
  unfold val_main_v4 val_main_v2 val_main_v1 val_main_v0
  pointwise

/-- The reference's activations at an index: zero in the padding. -/
theorem ref_out (X : FVec Ideal S8x8x2048 .f32) (P : FVec Ideal S4x8x2x5504 .f32) (W : FVec Ideal S4x2048x11008 .f32) (cw : FVec Ideal S4x3x5504 .f32) (cb : FVec Ideal S4x5504 .f32)
    (r : Fin 64) (f : Fin 5632) :
    val_main_v45 (F := Ideal) X P W cw cb (ix2 r f)
      = if h : f.val < 5504 then val_main_v42 (F := Ideal) X P W cw cb (ix3 ⟨r.val / 8, by omega⟩ ⟨r.val % 8, by omega⟩ ⟨f.val, h⟩) else (0 : EReal) := by
  unfold val_main_v45 val_main_v44 val_main_v43
  generalize val_main_v42 (F := Ideal) X P W cw cb = y
  pointwise [val_main_call1_v0_apply, val_main_c_apply]
  rw [show (FloatOps.sitofp FTy.f32 0#32 : Ideal .f32) = 0 from sitofp_zero32]

/-- The program's activations at an index: the activation of the convolution, times the up projection. -/
theorem act_at (c : Dev nD) (r : Fin 64) (f : Fin 5632) :
    (W17 m ρ c (Proc.devRef .tc main_v51) : FVec Ideal S64x5632 .bf16) (ix2 r f)
      = silu ((W15 m ρ c (Proc.devRef .tc main_v47) : FVec Ideal S8x8x5632 .f32) (ix3 ⟨r.val / 8, by omega⟩ ⟨r.val % 8, by omega⟩ f))
          * upArr (rows m c) (wts m c) (ix2 r f) := by
  refine (tail_out (W16 m ρ c) _ _ rfl rfl r f).trans ?_
  rw [W16_of m ρ c main_v21 (by decide)]
  refine congr (congrArg _ ((tail_act (W15 m ρ c) _ rfl _).trans rfl)) ?_
  have e := tail_up (W14 m ρ c)
  rw [final1 m ρ c] at e
  refine (congrFun e _).trans ?_
  generalize upArr (rows m c) (wts m c) = U
  pointwise

/-- The program's activations are the reference's. -/
theorem act_eq (c : Dev nD) :
    W17 m ρ c (Proc.devRef .tc main_v51) = val_main_v45 (F := Ideal) (rows m c) (past m c) (wts m c) (cws m c) (cbs m c) := by
  refine funext fun (i : S64x5632.Idx) => ?_
  obtain ⟨r, f, rfl⟩ : ∃ (r : Fin 64) (f : Fin 5632), i = ix2 r f := ⟨i 0, i 1, by funext a; match a with | ⟨0, _⟩ => rfl | ⟨1, _⟩ => rfl⟩
  refine (act_at m ρ c r f).trans (Eq.trans ?_ (ref_out _ _ _ _ _ r f).symm)
  by_cases h : f.val < 5504
  · rw [dif_pos h, ref_act, ref_up]
    refine congr (congrArg _ (congrArg silu ?_)) ?_
    · refine (tail_conv (W14 m ρ c) _ _ _ rfl rfl rfl _ _ f).trans ?_
      rw [entry_conv, entry_conv, entry_conv, entry_bias]
      rw [dif_pos (show ((ix2 0 f : S3x5632.Idx) 1).val < 5504 from h), dif_pos (show ((ix2 1 f : S3x5632.Idx) 1).val < 5504 from h), dif_pos (show ((ix2 2 f : S3x5632.Idx) 1).val < 5504 from h),
        dif_pos (show ((ix2 0 f : S1x5632.Idx) 1).val < 5504 from h)]
      have e := fun s => gateRows_eq m ρ c ⟨r.val / 8, by omega⟩ s ⟨f.val, h⟩
      simp only [gateRows] at e
      rw [← e, ← e, ← e]
      rfl
    · exact upArr_pos _ _ r f h
  · rw [dif_neg h, upArr_neg _ _ r f h]
    exact mul_zero (M₀ := EReal) _

/-- The program's state rows are the reference's. -/
theorem state_eq (c : Dev nD) :
    W17 m ρ c (Proc.devRef .tc main_v53) = val_main_v46 (F := Ideal) (rows m c) (past m c) (wts m c) := by
  refine funext fun (i : S8x2x5504.Idx) => ?_
  obtain ⟨b, e, f, rfl⟩ : ∃ (b : Fin 8) (e : Fin 2) (f : Fin 5504), i = ix3 b e f :=
    ⟨i 0, i 1, i 2, by funext a; match a with | ⟨0, _⟩ => rfl | ⟨1, _⟩ => rfl | ⟨2, _⟩ => rfl⟩
  have h : W16 m ρ c (Proc.devRef .tc main_v22) = gateRows m ρ c :=
    (W16_of m ρ c main_v22 (by decide)).trans (tail_ext (W14 m ρ c))
  refine (tail_state (W16 m ρ c) _ h b e f).trans ((gateRows_eq m ρ c b _ f).trans ?_)
  rw [val_main_v46_apply]
  refine congrArg _ (funext fun a => ?_)
  match a with
  | ⟨0, _⟩ => rfl
  | ⟨1, _⟩ => rfl
  | ⟨2, _⟩ => rfl

end Cert.Kernel14Ideal.FfnDecode

end
-- ==== Proof.FfnDecode.lean ====
module

public import proofs.«01_k».proof.Proof.FfnDecodeTail
public import proofs.«01_k».proof.Proof.Gen.Reference14Ideal.Run
public import proofs.«01_k».proof.Defs
public import Idealize.ShloMosaic.Lib.Claim

@[expose] public section

set_option maxRecDepth 16384

noncomputable section

namespace Cert.Kernel14Ideal.FfnDecode

open Cert.Kernel14Ideal Cert.Kernel14Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

set_option backward.isDefEq.respectTransparency.types false in
/-- The program's run, every buffer of the program's own at what the last boundary holds: the launch over the segments, as in
    the frame, with the last boundary's contents kept. -/
theorem run_last : θ_run defs (onTc (τ := τ) (main (F := Ideal))) ⟨m, fun _ => 0, ρ⟩ (fun r => ∀ c : Dev nD,
    ∀ b ∈ Pipeline.ucRefs τ sig, r.2.mem (((c : Thread nD τ)).1, b) = W17 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => h)

/-- The program's run, its results as the reference writes them. -/
theorem kernel_run : θ_run (defs (F := Ideal)) (onTc (τ := τ) (main (F := Ideal))) ⟨m, fun _ => 0, ρ⟩ fun r => ∀ c : Dev nD,
      r.2.mem ((c.tc : Thread nD τ).loc main_v51) = Cert.Reference14Ideal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v53) = Cert.Reference14Ideal.Read.val_main_v46 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (run_last m ρ) fun r h c =>
    ⟨(h c _ (mem_uc main_v51 (by decide))).trans (act_eq m ρ c),
     (h c _ (mem_uc main_v53 (by decide))).trans (state_eq m ρ c),
     (h c _ (mem_uc main_arg0 (by decide))).trans (W17_main_arg0 m ρ c),
     (h c _ (mem_uc main_arg1 (by decide))).trans (W17_main_arg1 m ρ c),
     (h c _ (mem_uc main_arg2 (by decide))).trans (W17_main_arg2 m ρ c),
     (h c _ (mem_uc main_arg3 (by decide))).trans (W17_main_arg3 m ρ c),
     (h c _ (mem_uc main_arg4 (by decide))).trans (W17_main_arg4 m ρ c)⟩

/-- The reference's run, its results as the arrays read above. -/
theorem ref_run (m' : (ℓ : Loc Cert.Reference14Ideal.nD Cert.Reference14Ideal.τ Cert.Reference14Ideal.sig) → Buf (Elt Ideal) ℓ) (g' : Dev Cert.Reference14Ideal.nD → PrngReg) :
    θ_run (Cert.Reference14Ideal.defs (F := Ideal)) (onTc (τ := Cert.Reference14Ideal.τ) (Cert.Reference14Ideal.main (F := Ideal))) ⟨m', fun _ => 0, g'⟩ fun r => ∀ c : Dev Cert.Reference14Ideal.nD,
      r.2.mem ((c.tc : Thread Cert.Reference14Ideal.nD Cert.Reference14Ideal.τ).loc Cert.Reference14Ideal.main_v45) = Cert.Reference14Ideal.Read.val_main_v45 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) (m' ((c.tc : Thread Cert.Reference14Ideal.nD Cert.Reference14Ideal.τ).loc Cert.Reference14Ideal.main_arg4))
      ∧ r.2.mem ((c.tc : Thread Cert.Reference14Ideal.nD Cert.Reference14Ideal.τ).loc Cert.Reference14Ideal.main_v46) = Cert.Reference14Ideal.Read.val_main_v46 (F := Ideal) (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2))
      ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4) :=
  θ_run_mono (Cert.Reference14Ideal.Value.run m' g') fun r h c => by
    obtain ⟨ha, hs, hr⟩ := h c
    exact ⟨ha.trans (Cert.Reference14Ideal.Read.val_main_v45_eq m' c), hs.trans (Cert.Reference14Ideal.Read.val_main_v46_eq _ _ _), hr⟩

/-- The values of the program are its reference's. -/
theorem algebraic : Cert.algebraic_Kernel14Ideal_Reference14Ideal := by
  pair_intro
  · run_from kernel_run m g
  · run_from ref_run m' g'

end Cert.Kernel14Ideal.FfnDecode

end
-- ==== Proof.BucketWords.lean ====
module

public import proofs.«01_k».proof.Proof.Gen.KernelIdeal.Value

@[expose] public section

set_option maxRecDepth 16384

noncomputable section

namespace Cert.KernelIdeal.Attend

open Idealize.ShloMosaic.StableHlo Cert.KernelIdeal Cert.KernelIdeal.Gen Idealize.ShloMosaic Idealize.ShloMosaic.TcCoe Idealize.SL.Sem

/-- The word of the distance from the query in position `s` of the step to the key `l` of tile `k`. -/
def distW (k s l : Nat) : BitVec 32 :=
  IntOp.subi (IntOp.addi 2048#32 (BitVec.ofNat 32 s)) (IntOp.addi (IntOp.muli (BitVec.ofNat 32 k) 128#32) (BitVec.ofNat 32 l))

/-- The remainder of a division that rounds down. -/
def modW (n d : BitVec 32) : BitVec 32 :=
  Scalar.select
    (IntOp.andi
      (IntOp.cmpi .ne
        (IntOp.cmpi .slt (IntOp.remsi .host d (Scalar.select (IntOp.cmpi .eq n 0#32) 1#32 n)) 0#32)
        (IntOp.cmpi .slt (Scalar.select (IntOp.cmpi .eq n 0#32) 1#32 n) 0#32))
      (IntOp.cmpi .ne (IntOp.remsi .host d (Scalar.select (IntOp.cmpi .eq n 0#32) 1#32 n)) 0#32))
    (IntOp.addi (IntOp.remsi .host d (Scalar.select (IntOp.cmpi .eq n 0#32) 1#32 n)) (Scalar.select (IntOp.cmpi .eq n 0#32) 1#32 n))
    (IntOp.remsi .host d (Scalar.select (IntOp.cmpi .eq n 0#32) 1#32 n))

/-- Whether a distance is one the group of this window and dilation sees. -/
def seenW (w n d : BitVec 32) : BitVec 1 :=
  IntOp.andi (IntOp.andi (IntOp.cmpi .sge d 0#32) (IntOp.cmpi .eq (modW n d) 0#32)) (IntOp.cmpi .sle d w)

/-- The bucket of a distance that is not negative. -/
def bucketW (d : BitVec 32) : BitVec 32 :=
  Scalar.select (IntOp.cmpi .slt d 16#32) d
    (IntOp.minsi
      (IntOp.addi 16#32
        (FloatOps.fptosi (F := Ideal) (φ := .f32) 32
          (Ideal.div
              (Ideal.log
                (Ideal.div (FloatOps.sitofp (F := Ideal) .f32 (IntOp.maxsi d 1#32)) (Ideal.ofBits FTy.f32 1098907648#32)))
              (Ideal.ofBits FTy.f32 1083917269#32) *
            Ideal.ofBits FTy.f32 1098907648#32)))
      31#32)

/-- The bucket a group's table names at a distance: the number of buckets where the group does not see it. -/
def entryW (w n d : BitVec 32) : BitVec 32 :=
  Scalar.select (seenW w n d) (bucketW (IntOp.maxsi (IntOp.maxsi d 0#32) 0#32)) 32#32

/-- The bucket of any word is at most thirty-one. -/
theorem bucket_le (d : BitVec 32) : (bucketW d).sle 31#32 = true := by
  unfold bucketW Scalar.select
  split
  · rename_i h
    have : d.slt 16#32 = true := by
      unfold IntOp.cmpi at h
      revert h; cases d.slt 16#32 <;> simp
    have h1 := BitVec.slt_iff_toInt_lt.1 this
    refine BitVec.sle_iff_toInt_le.2 ?_
    have e : (16#32).toInt = 16 := by decide
    have e' : (31#32).toInt = 31 := by decide
    omega
  · unfold IntOp.minsi
    split
    · rename_i h; revert h
      rw [BitVec.sle_iff_toInt_le, BitVec.slt_iff_toInt_lt]; omega
    · decide

/-- The window of a group. -/
def winN (n : Fin 3) : ℕ := match n with | 0 => 128 | 1 => 512 | 2 => 2048
/-- The dilation of a group. -/
def dilN (n : Fin 3) : ℕ := match n with | 0 => 1 | 1 => 4 | 2 => 16

/-- Which keys a group sees, said of the distances themselves. -/
theorem seen_iff : ∀ (n : Fin 3) (k : Fin 17) (s : Fin 8) (l : Fin 128),
    (seenW (BitVec.ofNat 32 (winN n)) (BitVec.ofNat 32 (dilN n)) (distW k.val s.val l.val) = 1#1
      ↔ (k.val * 128 + l.val ≤ 2048 + s.val ∧ (2048 + s.val - (k.val * 128 + l.val)) % dilN n = 0
          ∧ 2048 + s.val - (k.val * 128 + l.val) ≤ winN n))
    ∧ (k.val * 128 + l.val ≤ 2048 + s.val → IntOp.maxsi (distW k.val s.val l.val) 0#32 = BitVec.ofNat 32 (2048 + s.val - (k.val * 128 + l.val))) := by
  decide +kernel

end Cert.KernelIdeal.Attend

end
-- ==== Proof.SoftmaxMath.lean ====
module

public import Idealize.ShloMosaic.Lib.Pipeline.ValueKit

@[expose] public section

noncomputable section

namespace Cert.SoftmaxMath

open Idealize.ShloMosaic

/-- A sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a logit in base two, after the shift by `μ`; no weight where nothing is seen. -/
theorem weight (p : Prop) [Decidable p] (a μ : ℝ) :
    Ideal.exp2 ((if p then ((a * (Real.log 2)⁻¹ : ℝ) : EReal) else ⊥) - (μ : EReal)) = (((if p then Real.exp a else 0) * (2 : ℝ) ^ (-μ) : ℝ) : EReal) := by
  by_cases h : p
  · rw [if_pos h, if_pos h, ← EReal.coe_sub, Ideal.exp2_coe]
    refine congrArg _ ?_
    show (2 : ℝ) ^ (a * (Real.log 2)⁻¹ - μ) = _
    rw [sub_eq_add_neg, Real.rpow_add (by norm_num)]
    refine congrArg (· * _) ?_
    rw [Real.rpow_def_of_pos (by norm_num)]
    refine congrArg Real.exp ?_
    have : Real.log 2 ≠ 0 := (Real.log_pos (by norm_num)).ne'
    field_simp
  · rw [if_neg h, if_neg h, EReal.bot_sub, zero_mul]
    simp

/-- A score in base two plus a bias in base two; minus infinity where the bias is. -/
theorem logit (p : Prop) [Decidable p] (a b : ℝ) :
    ((a * (Real.log 2)⁻¹ : ℝ) : EReal) + (if p then (b : EReal) else ⊥) * (((Real.log 2)⁻¹ : ℝ) : EReal)
      = if p then (((a + b) * (Real.log 2)⁻¹ : ℝ) : EReal) else ⊥ := by
  by_cases h : p
  · rw [if_pos h, if_pos h, ← EReal.coe_mul, ← EReal.coe_add, add_mul]
  · rw [if_neg h, if_neg h, EReal.bot_mul_coe_of_pos (inv_pos.2 (Real.log_pos (by norm_num))), EReal.add_bot]

/-- A maximum of a family without plus infinity, one of whose members is not minus infinity, is real. -/
theorem fold_ne_top {ι : Type} (s : Finset ι) (f : ι → EReal) (b : EReal) (hb : b ≠ ⊤) (h : ∀ i ∈ s, f i ≠ ⊤) : s.fold max b f ≠ ⊤ := by
  classical
  induction s using Finset.induction_on with
  | empty => simpa using hb
  | insert a s ha ih =>
    rw [Finset.fold_insert ha]
    have := h a (Finset.mem_insert_self a s)
    have := ih fun i hi => h i (Finset.mem_insert_of_mem hi)
    rcases max_choice (f a) (s.fold max b f) with e | e <;> rw [e] <;> assumption

theorem fold_ne_bot {ι : Type} (s : Finset ι) (f : ι → EReal) (b : EReal) (i : ι) (hi : i ∈ s) (h : f i ≠ ⊥) : s.fold max b f ≠ ⊥ := by
  have : f i ≤ s.fold max b f := (Finset.le_fold_max _).2 (Or.inr ⟨i, hi, le_rfl⟩)
  exact fun e => h (le_bot_iff.1 (e ▸ this))

theorem max_ne_bot {a b : EReal} (ha : a ≠ ⊥) : max a b ≠ ⊥ := fun e => ha (le_bot_iff.1 (e ▸ le_max_left a b))

theorem exists_real {a : EReal} (h : a ≠ ⊤) (h' : a ≠ ⊥) : ∃ r : ℝ, a = (r : EReal) :=
  ⟨a.toReal, (EReal.coe_toReal h h').symm⟩

/-- The sum over the keys of the cache and of the step is the sum over the keys a group sees. -/
theorem seen_sum (F : ℕ → ℝ) (s dil : ℕ) (hs : s < 8) (hd : 0 < dil) (hw : 128 * dil ≤ 2048)
    (hF : ∀ k < 2176, ¬ (k ≤ 2048 + s ∧ (2048 + s - k) % dil = 0 ∧ 2048 + s - k ≤ 128 * dil) → F k = 0) :
    ∑ k : Fin 2048, F k.val + ∑ l : Fin 128, F (2048 + l.val) = ∑ j : Fin 129, F (2048 + s - j.val * dil) := by
  classical
  have e : ∑ k : Fin 2048, F k.val + ∑ l : Fin 128, F (2048 + l.val) = ∑ k ∈ Finset.range 2176, F k := by
    rw [Fin.sum_univ_eq_sum_range (fun k => F k), Fin.sum_univ_eq_sum_range (fun l => F (2048 + l))]
    exact (Finset.sum_range_add F 2048 128).symm
  rw [e, Fin.sum_univ_eq_sum_range (fun j => F (2048 + s - j * dil))]
  have inj : Set.InjOn (fun j => 2048 + s - j * dil) (Finset.range 129 : Set ℕ) := by
    intro a ha b hb hab
    have ha : a < 129 := by simpa using ha
    have hb : b < 129 := by simpa using hb
    have h1 : a * dil ≤ 128 * dil := Nat.mul_le_mul_right _ (by omega)
    have h2 : b * dil ≤ 128 * dil := Nat.mul_le_mul_right _ (by omega)
    have : a * dil = b * dil := by
      have hab' : 2048 + s - a * dil = 2048 + s - b * dil := hab
      omega
    exact Nat.eq_of_mul_eq_mul_right hd this
  rw [← Finset.sum_image (f := F) inj]
  refine (Finset.sum_subset ?_ ?_).symm
  · intro k hk
    obtain ⟨j, _, rfl⟩ := Finset.mem_image.1 hk
    exact Finset.mem_range.2 (by show 2048 + s - j * dil < 2176; omega)
  · intro k hk hn
    refine hF k (Finset.mem_range.1 hk) fun h => hn (Finset.mem_image.2 ⟨(2048 + s - k) / dil, ?_, ?_⟩)
    · refine Finset.mem_range.2 (Nat.lt_succ_of_le ?_)
      exact Nat.div_le_of_le_mul (by rw [Nat.mul_comm]; exact h.2.2)
    · show 2048 + s - (2048 + s - k) / dil * dil = k
      rw [Nat.div_mul_cancel (Nat.dvd_of_mod_eq_zero h.2.1)]
      omega

/-- What the kernel leaves: three groups' weighted sums over three groups' weights. The cached keys and the step's own
    are two sums, each weight is taken in base two, and one shift `μ` is common to all. -/
theorem kernel_ratio (E : Fin 3 → ℕ → ℝ) (v : ℕ → ℝ) (μ : ℝ) (n : Fin 3 → ℕ → EReal)
    (hn : ∀ g k, k < 2176 → n g k = ((E g k * (2 : ℝ) ^ (-μ) : ℝ) : EReal))
    (h0 : ∀ g k, 0 ≤ E g k) (hp : ∃ k < 2048, 0 < E 0 k) :
    Ideal.div
      ((((∑ k : Fin 2048, n 0 k.val * (v k.val : EReal) + ∑ l : Fin 128, n 0 (2048 + l.val) * (v (2048 + l.val) : EReal)))
          + (∑ k : Fin 2048, n 1 k.val * (v k.val : EReal) + ∑ l : Fin 128, n 1 (2048 + l.val) * (v (2048 + l.val) : EReal)))
        + (∑ k : Fin 2048, n 2 k.val * (v k.val : EReal) + ∑ l : Fin 128, n 2 (2048 + l.val) * (v (2048 + l.val) : EReal)))
      ((((∑ k : Fin 2048, n 0 k.val + ∑ l : Fin 128, n 0 (2048 + l.val)))
          + (∑ k : Fin 2048, n 1 k.val + ∑ l : Fin 128, n 1 (2048 + l.val)))
        + (∑ k : Fin 2048, n 2 k.val + ∑ l : Fin 128, n 2 (2048 + l.val)))
    = (((∑ g : Fin 3, (∑ k : Fin 2048, E g k.val * v k.val + ∑ l : Fin 128, E g (2048 + l.val) * v (2048 + l.val)))
        / (∑ g : Fin 3, (∑ k : Fin 2048, E g k.val + ∑ l : Fin 128, E g (2048 + l.val))) : ℝ) : EReal) := by
  have hA : ∀ g, (∑ k : Fin 2048, n g k.val * (v k.val : EReal) + ∑ l : Fin 128, n g (2048 + l.val) * (v (2048 + l.val) : EReal))
      = (((∑ k : Fin 2048, E g k.val * v k.val + ∑ l : Fin 128, E g (2048 + l.val) * v (2048 + l.val)) * (2 : ℝ) ^ (-μ) : ℝ) : EReal) := by
    intro g
    rw [add_mul, EReal.coe_add, Finset.sum_mul, Finset.sum_mul, coe_sum, coe_sum]
    refine congrArg₂ (· + ·) (Finset.sum_congr rfl fun k _ => ?_) (Finset.sum_congr rfl fun l _ => ?_)
    · rw [hn g _ (by omega), ← EReal.coe_mul]
      exact congrArg _ (by ring)
    · rw [hn g _ (by omega), ← EReal.coe_mul]
      exact congrArg _ (by ring)
  have hL : ∀ g, (∑ k : Fin 2048, n g k.val + ∑ l : Fin 128, n g (2048 + l.val))
      = (((∑ k : Fin 2048, E g k.val + ∑ l : Fin 128, E g (2048 + l.val)) * (2 : ℝ) ^ (-μ) : ℝ) : EReal) := by
    intro g
    rw [add_mul, EReal.coe_add, Finset.sum_mul, Finset.sum_mul, coe_sum, coe_sum]
    refine congrArg₂ (· + ·) (Finset.sum_congr rfl fun k _ => ?_) (Finset.sum_congr rfl fun l _ => ?_)
    · exact hn g _ (by omega)
    · exact hn g _ (by omega)
  rw [hA, hA, hA, hL, hL, hL, ← EReal.coe_add, ← EReal.coe_add, ← EReal.coe_add, ← EReal.coe_add,
    ← add_mul, ← add_mul, ← add_mul, ← add_mul, Fin.sum_univ_three, Fin.sum_univ_three]
  have hS : ∀ g, 0 ≤ ∑ k : Fin 2048, E g k.val + ∑ l : Fin 128, E g (2048 + l.val) := fun g =>
    add_nonneg (Finset.sum_nonneg fun k _ => h0 g _) (Finset.sum_nonneg fun k _ => h0 g _)
  have hS0 : 0 < ∑ k : Fin 2048, E 0 k.val + ∑ l : Fin 128, E 0 (2048 + l.val) := by
    obtain ⟨k, hk, h⟩ := hp
    exact add_pos_of_pos_of_nonneg (Finset.sum_pos' (fun k _ => h0 0 _) ⟨⟨k, hk⟩, Finset.mem_univ _, h⟩) (Finset.sum_nonneg fun k _ => h0 0 _)
  generalize (∑ k : Fin 2048, E 0 k.val + ∑ l : Fin 128, E 0 (2048 + l.val)) = S0 at *
  have h1 := hS 1
  have h2 := hS 2
  generalize (∑ k : Fin 2048, E 1 k.val + ∑ l : Fin 128, E 1 (2048 + l.val)) = S1 at *
  generalize (∑ k : Fin 2048, E 2 k.val + ∑ l : Fin 128, E 2 (2048 + l.val)) = S2 at *
  have hp : (0 : ℝ) < (2 : ℝ) ^ (-μ) := Real.rpow_pos_of_pos (by norm_num) _
  have hS : 0 < S0 + S1 + S2 := by linarith
  rw [Ideal.div_coe (mul_pos hS hp).ne', ← EReal.coe_mul]
  refine congrArg _ ?_
  field_simp

/-- One group of the reference: the weights' sum after any shift. -/
theorem group_sum {ι : Type} [Fintype ι] (sc : ι → ℝ) (μ : ℝ) :
    ∑ j, Ideal.exp ((sc j : EReal) - (μ : EReal)) = (((∑ j, Real.exp (sc j)) * Real.exp (-μ) : ℝ) : EReal) := by
  rw [Finset.sum_mul, coe_sum]
  refine Finset.sum_congr rfl fun j _ => ?_
  rw [← EReal.coe_sub, Ideal.exp_coe, sub_eq_add_neg, Real.exp_add]

theorem group_acc {ι : Type} [Fintype ι] (sc v : ι → ℝ) (μ : ℝ) :
    ∑ j, Ideal.exp ((sc j : EReal) - (μ : EReal)) * (v j : EReal) = (((∑ j, Real.exp (sc j) * v j) * Real.exp (-μ) : ℝ) : EReal) := by
  rw [Finset.sum_mul, coe_sum]
  refine Finset.sum_congr rfl fun j _ => ?_
  rw [← EReal.coe_sub, Ideal.exp_coe, sub_eq_add_neg, Real.exp_add, ← EReal.coe_mul]
  exact congrArg _ (by ring)

/-- One group's output, whatever the shift. -/
theorem group_out {ι : Type} [Fintype ι] [Nonempty ι] (sc v : ι → ℝ) (μ : ℝ) :
    Ideal.div (∑ j, Ideal.exp ((sc j : EReal) - (μ : EReal)) * (v j : EReal)) (0 + ∑ j, Ideal.exp ((sc j : EReal) - (μ : EReal)))
      = (((∑ j, Real.exp (sc j) * v j) / (∑ j, Real.exp (sc j)) : ℝ) : EReal) := by
  rw [zero_add, group_sum, group_acc]
  have hS : 0 < ∑ j, Real.exp (sc j) := Finset.sum_pos (fun j _ => Real.exp_pos _) Finset.univ_nonempty
  have hp := Real.exp_pos (-μ)
  rw [Ideal.div_coe (mul_pos hS hp).ne', ← EReal.coe_mul]
  refine congrArg _ ?_
  field_simp

/-- One group's log of its weights' sum, whatever the shift. -/
theorem group_lse {ι : Type} [Fintype ι] [Nonempty ι] (sc : ι → ℝ) (μ : ℝ) :
    (μ : EReal) + Ideal.log (0 + ∑ j, Ideal.exp ((sc j : EReal) - (μ : EReal))) = ((Real.log (∑ j, Real.exp (sc j)) : ℝ) : EReal) := by
  rw [zero_add, group_sum]
  have hS : 0 < ∑ j, Real.exp (sc j) := Finset.sum_pos (fun j _ => Real.exp_pos _) Finset.univ_nonempty
  have hp := Real.exp_pos (-μ)
  rw [Ideal.log_coe, if_neg (not_le.2 (mul_pos hS hp)), ← EReal.coe_add, Real.log_mul hS.ne' hp.ne', Real.log_exp]
  exact congrArg _ (by ring)

/-- The reference's merge of three groups by the logs of their sums, whatever the shift. -/
theorem merge (S N : Fin 3 → ℝ) (hS : ∀ n, 0 < S n) (M : ℝ) :
    ∑ n : Fin 3, Ideal.div (Ideal.exp (((Real.log (S n) : ℝ) : EReal) - (M : EReal)))
        (0 + ∑ n : Fin 3, Ideal.exp (((Real.log (S n) : ℝ) : EReal) - (M : EReal))) * ((N n / S n : ℝ) : EReal)
      = (((∑ n, N n) / (∑ n, S n) : ℝ) : EReal) := by
  rw [zero_add, group_sum]
  have e : ∀ n, Real.exp (Real.log (S n)) = S n := fun n => Real.exp_log (hS n)
  simp only [e]
  have hT : 0 < ∑ n, S n := Finset.sum_pos (fun j _ => hS j) Finset.univ_nonempty
  have hp := Real.exp_pos (-M)
  rw [Finset.sum_div, coe_sum]
  refine Finset.sum_congr rfl fun n _ => ?_
  rw [Ideal.div_coe (mul_pos hT hp).ne', ← EReal.coe_sub, Ideal.exp_coe, sub_eq_add_neg, Real.exp_add, e, ← EReal.coe_mul, ← EReal.coe_mul]
  refine congrArg _ ?_
  have := (hS n).ne'
  field_simp

/-- Minus infinity as a 32-bit pattern. -/
theorem bits_neg_inf : Ideal.ofBits .f32 0xFF800000#32 = ⊥ := by simp [Ideal.ofBits, Ideal.ieee]
/-- Plus infinity as a 32-bit pattern. -/
theorem bits_inf : Ideal.ofBits .f32 0x7F800000#32 = ⊤ := by simp [Ideal.ofBits, Ideal.ieee]
/-- The scale of the scores. -/
theorem bits_scale : Ideal.ofBits .f32 0x3DB504F3#32 = ((11863283 / 134217728 : ℝ) : EReal) := by
  simp [Ideal.ofBits, Ideal.ieee, -EReal.coe_mul]; norm_num

end Cert.SoftmaxMath

end
-- ==== Proof.BiasTable.lean ====
module

public import proofs.«01_k».proof.Proof.BucketWords
public import proofs.«01_k».proof.Proof.SoftmaxMath
public import Idealize.ShloMosaic.Lib.Pipeline.ValueKit
public import Idealize.ShloMosaic.Lib.StableHlo.ReadAt

@[expose] public section

set_option maxRecDepth 16384

noncomputable section

namespace Cert.KernelIdeal.Attend

open Idealize.ShloMosaic.StableHlo Cert.KernelIdeal Cert.KernelIdeal.Gen Idealize.ShloMosaic Idealize.ShloMosaic.TcCoe Idealize.SL.Sem

variable (m : (ℓ : Loc nD τ sig) → Buf (Elt Ideal) ℓ)

theorem group0_dist (W : Valuation τ sig (Elt Ideal)) (i : S17x8x128.Idx) :
    (StableHlo.after [hostOps0, hostOps0_1, hostOps0_2, hostOps0_3, hostOps0_4, hostOps0_5].flatten W (Proc.tc.devRef main_v15) : IVec S17x8x128 32) i = distW (i 0).val (i 1).val (i 2).val := by
  after_reads_at
  rfl

theorem group0 (W : Valuation τ sig (Elt Ideal)) (i : S17x8x128.Idx) :
    (StableHlo.after [hostOps0, hostOps0_1, hostOps0_2, hostOps0_3, hostOps0_4, hostOps0_5].flatten W (Proc.tc.devRef main_v47) : IVec S17x8x128 32) i = entryW 128#32 1#32 (distW (i 0).val (i 1).val (i 2).val) := by
  after_reads_at
  rfl

theorem group1 (W : Valuation τ sig (Elt Ideal)) (i : S17x8x128.Idx) :
    (StableHlo.after [hostOps0_6, hostOps0_7, hostOps0_8, hostOps0_9, hostOps0_10, hostOps0_11].flatten W (Proc.tc.devRef main_v79) : IVec S17x8x128 32) i = entryW 512#32 4#32 ((W (Proc.tc.devRef main_v15) : IVec S17x8x128 32) i) := by
  after_reads_at
  rfl

theorem group2 (W : Valuation τ sig (Elt Ideal)) (i : S17x8x128.Idx) :
    (StableHlo.after [hostOps0_12, hostOps0_13, hostOps0_14, hostOps0_15, hostOps0_16, hostOps0_17].flatten W (Proc.tc.devRef main_v111) : IVec S17x8x128 32) i = entryW 2048#32 16#32 ((W (Proc.tc.devRef main_v15) : IVec S17x8x128 32) i) := by
  after_reads_at
  rfl

theorem keep1_15 (W : Valuation τ sig (Elt Ideal)) :
    StableHlo.after [hostOps0_6, hostOps0_7, hostOps0_8, hostOps0_9, hostOps0_10, hostOps0_11].flatten W (Proc.tc.devRef main_v15) = W (Proc.tc.devRef main_v15) := by
  after_reads_simp

theorem keep1_47 (W : Valuation τ sig (Elt Ideal)) :
    StableHlo.after [hostOps0_6, hostOps0_7, hostOps0_8, hostOps0_9, hostOps0_10, hostOps0_11].flatten W (Proc.tc.devRef main_v47) = W (Proc.tc.devRef main_v47) := by
  after_reads_simp

theorem keep2_47 (W : Valuation τ sig (Elt Ideal)) :
    StableHlo.after [hostOps0_12, hostOps0_13, hostOps0_14, hostOps0_15, hostOps0_16, hostOps0_17].flatten W (Proc.tc.devRef main_v47) = W (Proc.tc.devRef main_v47) := by
  after_reads_simp

theorem keep2_79 (W : Valuation τ sig (Elt Ideal)) :
    StableHlo.after [hostOps0_12, hostOps0_13, hostOps0_14, hostOps0_15, hostOps0_16, hostOps0_17].flatten W (Proc.tc.devRef main_v79) = W (Proc.tc.devRef main_v79) := by
  after_reads_simp

/-- One row of the bias table per start index, read clamped. -/
theorem rows_at (X : FVec Ideal S16x32 .f32) (I : IVec S408x128x1 32) (y : S16x408x128.Idx) :
    Host.gather gather_S16x32_S408x128x1_S16x408x128_0_1_n_n_1_2_161 X I y
      = X (ix2 (y 0) ⟨min (I (ix3 (y 1) (y 2) 0)).toInt.toNat 31, by omega⟩) := by
  unfold Host.gather
  congr 1
  funext a
  refine Fin.ext ?_
  match a with
  | ⟨0, _⟩ => exact Nat.zero_add _
  | ⟨1, _⟩ =>
    show min (I _).toInt.toNat 31 + 0 + 0 = min (I _).toInt.toNat 31
    refine congrArg (fun z => min (I z).toInt.toNat 31) ?_
    funext b
    match b with
    | ⟨0, _⟩ => rfl
    | ⟨1, _⟩ => rfl
    | ⟨2, _⟩ => rfl

theorem split (V₀ : Valuation τ sig (Elt Ideal)) :
    StableHlo.after [hostOps0, hostOps0_1, hostOps0_2, hostOps0_3, hostOps0_4, hostOps0_5, hostOps0_6, hostOps0_7, hostOps0_8,
          hostOps0_9, hostOps0_10, hostOps0_11, hostOps0_12, hostOps0_13, hostOps0_14, hostOps0_15, hostOps0_16,
          hostOps0_17, hostOps0_18, hostOps0_19, hostOps0_20, hostOps0_21].flatten V₀
     = StableHlo.after [hostOps0_18, hostOps0_19, hostOps0_20, hostOps0_21].flatten
      (StableHlo.after [hostOps0_12, hostOps0_13, hostOps0_14, hostOps0_15, hostOps0_16, hostOps0_17].flatten
      (StableHlo.after [hostOps0_6, hostOps0_7, hostOps0_8, hostOps0_9, hostOps0_10, hostOps0_11].flatten
      (StableHlo.after [hostOps0, hostOps0_1, hostOps0_2, hostOps0_3, hostOps0_4, hostOps0_5].flatten V₀))) := by
  rfl

/-- The row of the bias table a bucket names. -/
def rowW (b : BitVec 32) : BitVec 32 :=
  Scalar.select (IntOp.cmpi .slt b 0#32) (IntOp.addi b 32#32) b

/-- One entry of the bias table, at a bucket and a head. -/
def biasAt (X : FVec Ideal S32x16 .f32) (h : Fin 16) (b : BitVec 32) : EReal :=
  X (ix2 ⟨min (rowW b).toInt.toNat 31, by omega⟩ h)

/-- One entry of the kernel's table: minus infinity where nothing is seen, the bias elsewhere. -/
def cell (X : FVec Ideal S32x16 .f32) (h : Fin 16) (T : BitVec 32) : EReal :=
  Scalar.select (IntOp.cmpi .eq T 32#32) (Ideal.ofBits .f32 4286578688#32) (biasAt X h (IntOp.minsi T 31#32))

/-- The three groups' tables of buckets, one under the other. -/
def stack3 (A B C : IVec S17x8x128 32) (y : Fin 408) (l : Fin 128) : BitVec 32 :=
  if h : y.val / 8 < 17 then A (ix3 ⟨y.val / 8, h⟩ ⟨y.val % 8, Nat.mod_lt _ (by decide)⟩ l)
  else if h' : y.val / 8 - 17 < 17 then B (ix3 ⟨y.val / 8 - 17, h'⟩ ⟨y.val % 8, Nat.mod_lt _ (by decide)⟩ l)
  else C (ix3 ⟨y.val / 8 - 17 - 17, by omega⟩ ⟨y.val % 8, Nat.mod_lt _ (by decide)⟩ l)

theorem table (W : Valuation τ sig (Elt Ideal)) (n : Fin 3) (g : Fin 4) (q : Fin 32) (k : Fin 2176) :
    (StableHlo.after [hostOps0_18, hostOps0_19, hostOps0_20, hostOps0_21].flatten W (Proc.tc.devRef main_v130) : FVec Ideal S3x4x32x2176 .f32) (ix4 n g q k)
      = cell (W (Proc.tc.devRef main_arg4)) ⟨g.val * 4 + q.val / 8, by omega⟩
          (stack3 (W (Proc.tc.devRef main_v47)) (W (Proc.tc.devRef main_v79)) (W (Proc.tc.devRef main_v111))
            ⟨n.val * 136 + k.val / 128 * 8 + q.val % 8, by omega⟩ ⟨k.val % 128, by omega⟩) := by
  after_reads_at
  simp only [rows_at, upto_zero]
  unfold cell
  refine congr (congr (congrArg Scalar.select ?_) ?_) ?_
  · unfold stack3
    rfl
  · rfl
  · unfold biasAt
    unfold transpose
    refine congrArg (W (Proc.tc.devRef main_arg4)) ?_
    funext a
    match a with
    | ⟨0, _⟩ =>
      refine Fin.ext ?_
      refine congrArg (fun z : BitVec 32 => min z.toInt.toNat 31) ?_
      unfold rowW stack3
      rfl
    | ⟨1, _⟩ => rfl

/-- An entry of a group's table: the bias where the group sees the key, minus infinity elsewhere. -/
theorem cell_entry (X : FVec Ideal S32x16 .f32) (h : Fin 16) (w n d : BitVec 32) :
    cell X h (entryW w n d) = if seenW w n d = 1#1 then biasAt X h (bucketW (IntOp.maxsi (IntOp.maxsi d 0#32) 0#32)) else ⊥ := by
  unfold cell entryW
  by_cases hs : seenW w n d = 1#1
  · rw [if_pos hs]
    generalize IntOp.maxsi (IntOp.maxsi d 0#32) 0#32 = d'
    have hb := bucket_le d'
    rw [show Scalar.select (seenW w n d) (bucketW d') 32#32 = bucketW d' from if_pos hs]
    generalize bucketW d' = b at hb
    have hne : b ≠ 32#32 := by rintro rfl; revert hb; decide
    have hm : IntOp.minsi b 31#32 = b := by
      unfold IntOp.minsi
      split
      · rfl
      · rename_i h
        refine BitVec.eq_of_toInt_eq ?_
        rw [BitVec.sle_iff_toInt_le] at hb
        rw [BitVec.slt_iff_toInt_lt] at h
        omega
    rw [hm]
    refine if_neg ?_
    show ¬ BitVec.ofBool (b == 32#32) = 1
    rw [show (b == 32#32) = false from beq_eq_false_iff_ne.2 hne]
    decide
  · rw [if_neg hs, show Scalar.select (seenW w n d) (bucketW (IntOp.maxsi (IntOp.maxsi d 0#32) 0#32)) 32#32 = 32#32 from if_neg hs]
    refine (if_pos (by decide)).trans ?_
    exact Cert.SoftmaxMath.bits_neg_inf

theorem keep_bias0 (W : Valuation τ sig (Elt Ideal)) :
    StableHlo.after [hostOps0, hostOps0_1, hostOps0_2, hostOps0_3, hostOps0_4, hostOps0_5].flatten W (Proc.tc.devRef main_arg4) = W (Proc.tc.devRef main_arg4) := by
  after_reads_simp

theorem keep_bias1 (W : Valuation τ sig (Elt Ideal)) :
    StableHlo.after [hostOps0_6, hostOps0_7, hostOps0_8, hostOps0_9, hostOps0_10, hostOps0_11].flatten W (Proc.tc.devRef main_arg4) = W (Proc.tc.devRef main_arg4) := by
  after_reads_simp

theorem keep_bias2 (W : Valuation τ sig (Elt Ideal)) :
    StableHlo.after [hostOps0_12, hostOps0_13, hostOps0_14, hostOps0_15, hostOps0_16, hostOps0_17].flatten W (Proc.tc.devRef main_arg4) = W (Proc.tc.devRef main_arg4) := by
  after_reads_simp

/-- The kernel's table at a group, a key head, a row of queries and a key. -/
theorem entry_table (c : Dev nD) (n : Fin 3) (g : Fin 4) (q : Fin 32) (k : Fin 2176) :
    (V m c main_v130 : FVec Ideal S3x4x32x2176 .f32) (ix4 n g q k)
      = if seenW (BitVec.ofNat 32 (winN n)) (BitVec.ofNat 32 (dilN n)) (distW (k.val / 128) (q.val % 8) (k.val % 128)) = 1#1 then
          biasAt (m ((c : Thread nD τ).loc main_arg4)) ⟨g.val * 4 + q.val / 8, by omega⟩
            (bucketW (IntOp.maxsi (IntOp.maxsi (distW (k.val / 128) (q.val % 8) (k.val % 128)) 0#32) 0#32))
        else ⊥ := by
  unfold V
  rw [split, table, keep_bias2, keep_bias1, keep_bias0, ← cell_entry]
  refine congrArg (cell _ _) ?_
  unfold stack3
  match n with
  | ⟨0, _⟩ =>
    rw [dif_pos (by show (0 * 136 + k.val / 128 * 8 + q.val % 8) / 8 < 17; omega), keep2_47, keep1_47, group0]
    refine congrArg (entryW _ _) ?_
    have e1 : (0 * 136 + k.val / 128 * 8 + q.val % 8) / 8 = k.val / 128 := by omega
    have e2 : (0 * 136 + k.val / 128 * 8 + q.val % 8) % 8 = q.val % 8 := by omega
    show distW ((0 * 136 + k.val / 128 * 8 + q.val % 8) / 8) ((0 * 136 + k.val / 128 * 8 + q.val % 8) % 8) (k.val % 128) = _
    rw [e1, e2]
  | ⟨1, _⟩ =>
    rw [dif_neg (by show ¬ (1 * 136 + k.val / 128 * 8 + q.val % 8) / 8 < 17; omega),
      dif_pos (by show (1 * 136 + k.val / 128 * 8 + q.val % 8) / 8 - 17 < 17; omega), keep2_79, group1, group0_dist]
    refine congrArg (entryW _ _) ?_
    have e1 : (1 * 136 + k.val / 128 * 8 + q.val % 8) / 8 - 17 = k.val / 128 := by omega
    have e2 : (1 * 136 + k.val / 128 * 8 + q.val % 8) % 8 = q.val % 8 := by omega
    show distW ((1 * 136 + k.val / 128 * 8 + q.val % 8) / 8 - 17) ((1 * 136 + k.val / 128 * 8 + q.val % 8) % 8) (k.val % 128) = _
    rw [e1, e2]
  | ⟨2, _⟩ =>
    rw [dif_neg (by show ¬ (2 * 136 + k.val / 128 * 8 + q.val % 8) / 8 < 17; omega),
      dif_neg (by show ¬ (2 * 136 + k.val / 128 * 8 + q.val % 8) / 8 - 17 < 17; omega), group2, keep1_15, group0_dist]
    refine congrArg (entryW _ _) ?_
    have e1 : (2 * 136 + k.val / 128 * 8 + q.val % 8) / 8 - 17 - 17 = k.val / 128 := by omega
    have e2 : (2 * 136 + k.val / 128 * 8 + q.val % 8) % 8 = q.val % 8 := by omega
    show distW ((2 * 136 + k.val / 128 * 8 + q.val % 8) / 8 - 17 - 17) ((2 * 136 + k.val / 128 * 8 + q.val % 8) % 8) (k.val % 128) = _
    rw [e1, e2]

/-- The cached keys by row of the whole cache. -/
theorem entry_keys (c : Dev nD) (i : S8x8192x128.Idx) :
    (V m c main_v131 : FVec Ideal S8x8192x128 .f32) i
      = (m ((c : Thread nD τ).loc main_arg1) : FVec Ideal S8x2048x4x128 .f32) (ix4 (i 0) ⟨(i 1).val / 4, by have : (i 1).val < 8192 := (i 1).isLt; omega⟩ ⟨(i 1).val % 4, by omega⟩ (i 2)) := by
  unfold V
  rw [split]
  after_reads_at

/-- The cached values by row of the whole cache. -/
theorem entry_values (c : Dev nD) (i : S8x8192x128.Idx) :
    (V m c main_v132 : FVec Ideal S8x8192x128 .f32) i
      = (m ((c : Thread nD τ).loc main_arg2) : FVec Ideal S8x2048x4x128 .f32) (ix4 (i 0) ⟨(i 1).val / 4, by have : (i 1).val < 8192 := (i 1).isLt; omega⟩ ⟨(i 1).val % 4, by omega⟩ (i 2)) := by
  unfold V
  rw [split]
  after_reads_at

theorem entry_queries (c : Dev nD) : V m c main_arg0 = m ((c : Thread nD τ).loc main_arg0) := by
  unfold V
  rw [split]
  after_reads_simp

/-- The step's own keys and values, padded with zero rows. -/
theorem entry_new (c : Dev nD) (i : S8x128x1024.Idx) :
    (V m c main_v133 : FVec Ideal S8x128x1024 .f32) i
      = if h : (i 1).val < 8 then (m ((c : Thread nD τ).loc main_arg3) : FVec Ideal S8x8x1024 .f32) (ix3 (i 0) ⟨(i 1).val, h⟩ (i 2)) else (0 : EReal) := by
  unfold V
  rw [split]
  after_reads_at
  rw [show (FloatOps.sitofp FTy.f32 0#32 : Ideal .f32) = 0 from by
    show ((((0#32 : BitVec 32).toInt : ℤ) : ℝ) : EReal) = 0
    simp]

end Cert.KernelIdeal.Attend

end
-- ==== Proof.AttendSpec.lean ====
module

public import proofs.«01_k».proof.Proof.BiasTable

@[expose] public section

set_option maxRecDepth 16384

noncomputable section

namespace Cert.KernelIdeal.Attend

open Cert.KernelIdeal Idealize.ShloMosaic Cert.SoftmaxMath

/-- An element of a query: batch, group of windows, key head, head within the key head, position. -/
def qAt (q : S8x8x6144.Idx → ℝ) (b : Fin 8) (g : ℕ) (n r s : ℕ) (x : Fin 128) : ℝ :=
  q (ix3 b ⟨s % 8, by omega⟩ ⟨(n * 2048 + g * 512 + r * 128 + x.val) % 6144, by omega⟩)

/-- An element of a key or value row: from the cache, then from the new rows, zero after them. -/
def rowOf (C : S8x2048x4x128.Idx → ℝ) (N : S8x8x1024.Idx → ℝ) (off : ℕ) (b : Fin 8) (g : Fin 4) (k : ℕ) (x : Fin 128) : ℝ :=
  if h : k < 2048 then C (ix4 b ⟨k, h⟩ g x)
  else if h' : k - 2048 < 8 then N (ix3 b ⟨k - 2048, h'⟩ ⟨(off + g.val * 128 + x.val) % 1024, by omega⟩) else 0

/-- A bias. -/
def biasR (B : S32x16.Idx → ℝ) (h : Fin 16) (w : BitVec 32) : ℝ := B (ix2 ⟨min (rowW w).toInt.toNat 31, by omega⟩ h)

variable (q : S8x8x6144.Idx → ℝ) (K V : S8x2048x4x128.Idx → ℝ) (N : S8x8x1024.Idx → ℝ) (B : S32x16.Idx → ℝ)

/-- The logit of a query and a key. -/
def score (b : Fin 8) (g : Fin 4) (n : Fin 3) (r s : ℕ) (k : ℕ) : ℝ :=
  (∑ x : Fin 128, qAt q b g.val n.val r s x * rowOf K N 0 b g k x) * (11863283 / 134217728)
    + biasR B ⟨(g.val * 4 + r) % 16, by omega⟩ (bucketW (BitVec.ofNat 32 (2048 + s - k)))

/-- The key that a place in a group's window names. -/
def keyOf (n : Fin 3) (s : ℕ) (j : ℕ) : ℕ := 2048 + s - j * dilN n

/-- The sum of a group's weights. -/
def denOf (b : Fin 8) (g : Fin 4) (r s : ℕ) (n : Fin 3) : ℝ :=
  ∑ j : Fin 129, Real.exp (score q K N B b g n r s (keyOf n s j.val))

/-- The weighted sum of a group's values. -/
def numOf (b : Fin 8) (g : Fin 4) (r s : ℕ) (d : Fin 128) (n : Fin 3) : ℝ :=
  ∑ j : Fin 129, Real.exp (score q K N B b g n r s (keyOf n s j.val)) * rowOf V N 512 b g (keyOf n s j.val) d

/-- The attention's result: the three groups' weighted sums over their weights. -/
def attn (b : Fin 8) (g : Fin 4) (r s : ℕ) (d : Fin 128) : ℝ :=
  (∑ n : Fin 3, numOf q K V N B b g r s d n) / (∑ n : Fin 3, denOf q K N B b g r s n)

/-- Whether a group sees a key. -/
def sees (s : ℕ) (n : Fin 3) (k : ℕ) : Prop :=
  k ≤ 2048 + s ∧ (2048 + s - k) % dilN n = 0 ∧ 2048 + s - k ≤ winN n

instance (s : ℕ) (n : Fin 3) (k : ℕ) : Decidable (sees s n k) := inferInstanceAs (Decidable (_ ∧ _))

theorem win_eq : ∀ n : Fin 3, winN n = 128 * dilN n := by decide
theorem dil_pos : ∀ n : Fin 3, 0 < dilN n := by decide
theorem win_le : ∀ n : Fin 3, 128 * dilN n ≤ 2048 := by decide

/-- Summing over all keys with the unseen ones at weight zero is summing over the window. -/
theorem seen_window (w : ℕ → ℝ) (F : ℕ → ℝ) (s : ℕ) (hs : s < 8) (n : Fin 3) :
    ∑ k : Fin 2048, (if sees s n k.val then F k.val else 0) * w k.val + ∑ l : Fin 128, (if sees s n (2048 + l.val) then F (2048 + l.val) else 0) * w (2048 + l.val)
      = ∑ j : Fin 129, F (keyOf n s j.val) * w (keyOf n s j.val) := by
  have h := seen_sum (fun k => (if sees s n k then F k else 0) * w k) s (dilN n) hs (dil_pos n) (win_le n) (by
    intro k _ hk
    have : ¬ sees s n k := by unfold sees; rw [win_eq]; exact hk
    simp only [if_neg this, zero_mul])
  refine h.trans (Finset.sum_congr rfl fun j _ => ?_)
  have hj : j.val * dilN n ≤ 128 * dilN n := Nat.mul_le_mul_right _ (by omega)
  have hw := win_le n
  have : sees s n (2048 + s - j.val * dilN n) := by
    unfold sees; rw [win_eq]
    refine ⟨by omega, ?_, by omega⟩
    rw [show 2048 + s - (2048 + s - j.val * dilN n) = j.val * dilN n by omega]
    exact Nat.mul_mod_left _ _
  simp only [if_pos this, keyOf]

theorem seen_window' (F : ℕ → ℝ) (s : ℕ) (hs : s < 8) (n : Fin 3) :
    ∑ k : Fin 2048, (if sees s n k.val then F k.val else 0) + ∑ l : Fin 128, (if sees s n (2048 + l.val) then F (2048 + l.val) else 0)
      = ∑ j : Fin 129, F (keyOf n s j.val) := by
  have h := seen_window (fun _ => 1) F s hs n
  simpa only [mul_one] using h

end Cert.KernelIdeal.Attend

end
-- ==== Proof.BlockReads.lean ====
module

public import proofs.«01_k».proof.Proof.Gen.KernelIdeal.Value
public import Idealize.ShloMosaic.Lib.Pipeline.ValueKit
public import proofs.«01_k».proof.Proof.SoftmaxMath

@[expose] public section

set_option maxRecDepth 16384

noncomputable section

namespace Cert.KernelIdeal.Attend

open Cert.KernelIdeal Cert.KernelIdeal.Gen Idealize.ShloMosaic Idealize.ShloMosaic.TcCoe Idealize.SL.Sem Cert.SoftmaxMath

/-- The largest logit of each row of queries over its three groups, once per group. -/
def shiftOf (v53 : FVec Ideal S96x2048 .f32) (v56 : FVec Ideal S96x128 .f32) : FVec Ideal S96x1 .f32 :=
  have v57 : FVec Ideal S96 .f32 := multiReduction .maximumf [1] S96 v53 0xFF800000#32 reduces_S96x2048_S96 (.inl rfl) rfl
  have v58 : FVec Ideal S96x1 .f32 := shapeCast S96x1 v57 shapeCasts_S96_S96x1
  have v59 : FVec Ideal S96 .f32 := multiReduction .maximumf [1] S96 v56 0xFF800000#32 reduces_S96x128_S96 (.inl rfl) rfl
  have v60 : FVec Ideal S96x1 .f32 := shapeCast S96x1 v59 shapeCasts_S96_S96x1
  have v61 : FVec Ideal S96x1 .f32 := maximumf v58 v60
  have v62 : FVec Ideal S32x1 .f32 := extractStridedSlice S32x1 ![0, 0] v61 slices_S96x1_o0_0_S32x1
  have v63 : FVec Ideal S32x1 .f32 := extractStridedSlice S32x1 ![32, 0] v61 slices_S96x1_o32_0_S32x1
  have v64 : FVec Ideal S32x1 .f32 := extractStridedSlice S32x1 ![64, 0] v61 slices_S96x1_o64_0_S32x1
  have v65 : FVec Ideal S32x1 .f32 := maximumf v62 v63
  have v66 : FVec Ideal S32x1 .f32 := maximumf v65 v64
  have v67 : FVec Ideal S96x1 .f32 := concatenate S96x1 0 [⟨S32x1, v66⟩, ⟨S32x1, v66⟩, ⟨S32x1, v66⟩] concatenates_S32x1_S32x1_S32x1_S96x1_d0
  v67

/-- The weighted sums of the three groups over their weights, under a given shift. -/
def mergeOf (v7 : FVec Ideal S2048x128 .bf16) (v13 : FVec Ideal S128x128 .bf16) (v53 : FVec Ideal S96x2048 .f32) (v56 : FVec Ideal S96x128 .f32)
    (v67 : FVec Ideal S96x1 .f32) : FVec Ideal S32x128 .f32 :=
  have v68 : FVec Ideal S96x2048 .f32 := broadcastTo S96x2048 v67 broadcasts_S96x1_S96x2048
  have v69 : FVec Ideal S96x2048 .f32 := subf v53 v68
  have v70 : FVec Ideal S96x2048 .f32 := exp2 v69
  have v71 : FVec Ideal S96x128 .f32 := broadcastTo S96x128 v67 broadcasts_S96x1_S96x128
  have v72 : FVec Ideal S96x128 .f32 := subf v56 v71
  have v73 : FVec Ideal S96x128 .f32 := exp2 v72
  have v74 : FVec Ideal S96 .f32 := multiReduction .add [1] S96 v70 0x00000000#32 reduces_S96x2048_S96 (.inl rfl) rfl
  have v75 : FVec Ideal S96x1 .f32 := shapeCast S96x1 v74 shapeCasts_S96_S96x1
  have v76 : FVec Ideal S96 .f32 := multiReduction .add [1] S96 v73 0x00000000#32 reduces_S96x128_S96 (.inl rfl) rfl
  have v77 : FVec Ideal S96x1 .f32 := shapeCast S96x1 v76 shapeCasts_S96_S96x1
  have v78 : FVec Ideal S96x1 .f32 := addf v75 v77
  have v79 : FVec Ideal S96x2048 .bf16 := truncf .bf16 v70 bitsLt_bf16_f32
  have cst_59 : FVec Ideal S96x128 .f32 := constant S96x128 .f32 0x00000000#32
  have v80 : FVec Ideal S96x128 .f32 := matmul dot_S96x2048_S2048x128_S96x128_1_0_0_1_n_n none v79 v7 cst_59
  have v81 : FVec Ideal S96x128 .bf16 := truncf .bf16 v73 bitsLt_bf16_f32
  have cst_60 : FVec Ideal S96x128 .f32 := constant S96x128 .f32 0x00000000#32
  have v82 : FVec Ideal S96x128 .f32 := matmul dot_S96x128_S128x128_S96x128_1_0_0_1_n_n none v81 v13 cst_60
  have v83 : FVec Ideal S96x128 .f32 := addf v80 v82
  have v84 : FVec Ideal S32x1 .f32 := extractStridedSlice S32x1 ![0, 0] v78 slices_S96x1_o0_0_S32x1
  have cst_61 : Ideal .f32 := Scalar.ofBits .f32 0x00000000#32
  have v85 : FVec Ideal S32x1 .f32 := broadcast S32x1 cst_61
  have v86 : FVec Ideal S32x1 .f32 := addf v85 v84
  have v87 : FVec Ideal S32x1 .f32 := extractStridedSlice S32x1 ![32, 0] v78 slices_S96x1_o32_0_S32x1
  have v88 : FVec Ideal S32x1 .f32 := addf v86 v87
  have v89 : FVec Ideal S32x1 .f32 := extractStridedSlice S32x1 ![64, 0] v78 slices_S96x1_o64_0_S32x1
  have v90 : FVec Ideal S32x1 .f32 := addf v88 v89
  have v91 : FVec Ideal S32x128 .f32 := extractStridedSlice S32x128 ![0, 0] v83 slices_S96x128_o0_0_S32x128
  have cst_62 : Ideal .f32 := Scalar.ofBits .f32 0x00000000#32
  have v92 : FVec Ideal S32x128 .f32 := broadcast S32x128 cst_62
  have v93 : FVec Ideal S32x128 .f32 := addf v92 v91
  have v94 : FVec Ideal S32x128 .f32 := extractStridedSlice S32x128 ![32, 0] v83 slices_S96x128_o32_0_S32x128
  have v95 : FVec Ideal S32x128 .f32 := addf v93 v94
  have v96 : FVec Ideal S32x128 .f32 := extractStridedSlice S32x128 ![64, 0] v83 slices_S96x128_o64_0_S32x128
  have v97 : FVec Ideal S32x128 .f32 := addf v95 v96
  have v98 : FVec Ideal S32x128 .f32 := broadcastTo S32x128 v90 broadcasts_S32x1_S32x128
  have v99 : FVec Ideal S32x128 .f32 := divf v97 v98
  v99

theorem pay19 (v7 : FVec Ideal S2048x128 .bf16) (v13 : FVec Ideal S128x128 .bf16) (v53 : FVec Ideal S96x2048 .f32) (v54 v55 : FVec Ideal S96x128 .f32) :
    k0_pay19 v7 v13 v53 v54 v55 = mergeOf v7 v13 v53 (addf v54 v55) (shiftOf v53 (addf v54 v55)) := rfl

/-- The largest logit of a row of queries over its three groups. -/
def topOf (v53 : FVec Ideal S96x2048 .f32) (v56 : FVec Ideal S96x128 .f32) (q : Fin 32) : EReal :=
  max (max
      (max (Finset.fold max (Ideal.ofBits FTy.f32 4286578688#32) (fun x => v53 (ix2 ⟨q.val, by omega⟩ x)) Finset.univ)
        (Finset.fold max (Ideal.ofBits FTy.f32 4286578688#32) (fun x => v56 (ix2 ⟨q.val, by omega⟩ x)) Finset.univ))
      (max (Finset.fold max (Ideal.ofBits FTy.f32 4286578688#32) (fun x => v53 (ix2 ⟨32 + q.val, by omega⟩ x)) Finset.univ)
        (Finset.fold max (Ideal.ofBits FTy.f32 4286578688#32) (fun x => v56 (ix2 ⟨32 + q.val, by omega⟩ x)) Finset.univ)))
    (max (Finset.fold max (Ideal.ofBits FTy.f32 4286578688#32) (fun x => v53 (ix2 ⟨64 + q.val, by omega⟩ x)) Finset.univ)
      (Finset.fold max (Ideal.ofBits FTy.f32 4286578688#32) (fun x => v56 (ix2 ⟨64 + q.val, by omega⟩ x)) Finset.univ))

theorem shift_at (v53 : FVec Ideal S96x2048 .f32) (v56 : FVec Ideal S96x128 .f32) (i : Fin 96) :
    shiftOf v53 v56 (ix2 i 0) = topOf v53 v56 ⟨i.val % 32, by omega⟩ := by
  pointwise [shiftOf]
  by_cases h : i.val < 32
  · rw [dif_pos h]
    rw [show (⟨i.val % 32, by omega⟩ : Fin 32) = ⟨i.val, h⟩ from Fin.ext (by show i.val % 32 = i.val; omega)]
    rfl
  rw [dif_neg h]
  by_cases h' : i.val - 32 < 32
  · rw [dif_pos h']
    rw [show (⟨i.val % 32, by omega⟩ : Fin 32) = ⟨i.val - 32, h'⟩ from Fin.ext (by show i.val % 32 = i.val - 32; omega)]
    rfl
  rw [dif_neg h']
  rw [show (⟨i.val % 32, by omega⟩ : Fin 32) = ⟨i.val - 32 - 32, by omega⟩ from Fin.ext (by show i.val % 32 = i.val - 32 - 32; omega)]
  rfl

/-- The row of a group among the ninety-six rows of queries. -/
def rowQ (n : Fin 3) (q : Fin 32) : Fin 96 :=
  match n with
  | 0 => ⟨q.val, by omega⟩
  | 1 => ⟨32 + q.val, by omega⟩
  | 2 => ⟨64 + q.val, by omega⟩

theorem merge_at (v7 : FVec Ideal S2048x128 .bf16) (v13 : FVec Ideal S128x128 .bf16) (v53 : FVec Ideal S96x2048 .f32) (v56 : FVec Ideal S96x128 .f32)
    (v67 : FVec Ideal S96x1 .f32) (q : Fin 32) (d : Fin 128) :
    mergeOf v7 v13 v53 v56 v67 (ix2 q d) = Ideal.div
      ((((∑ k : Fin 2048, Ideal.exp2 (v53 (ix2 (rowQ 0 q) k) - v67 (ix2 (rowQ 0 q) 0)) * (v7 (ix2 k d) : EReal))
            + ∑ l : Fin 128, Ideal.exp2 (v56 (ix2 (rowQ 0 q) l) - v67 (ix2 (rowQ 0 q) 0)) * (v13 (ix2 l d) : EReal))
          + ((∑ k : Fin 2048, Ideal.exp2 (v53 (ix2 (rowQ 1 q) k) - v67 (ix2 (rowQ 1 q) 0)) * (v7 (ix2 k d) : EReal))
            + ∑ l : Fin 128, Ideal.exp2 (v56 (ix2 (rowQ 1 q) l) - v67 (ix2 (rowQ 1 q) 0)) * (v13 (ix2 l d) : EReal)))
        + ((∑ k : Fin 2048, Ideal.exp2 (v53 (ix2 (rowQ 2 q) k) - v67 (ix2 (rowQ 2 q) 0)) * (v7 (ix2 k d) : EReal))
            + ∑ l : Fin 128, Ideal.exp2 (v56 (ix2 (rowQ 2 q) l) - v67 (ix2 (rowQ 2 q) 0)) * (v13 (ix2 l d) : EReal)))
      ((((∑ k : Fin 2048, Ideal.exp2 (v53 (ix2 (rowQ 0 q) k) - v67 (ix2 (rowQ 0 q) 0)))
            + ∑ l : Fin 128, Ideal.exp2 (v56 (ix2 (rowQ 0 q) l) - v67 (ix2 (rowQ 0 q) 0)))
          + ((∑ k : Fin 2048, Ideal.exp2 (v53 (ix2 (rowQ 1 q) k) - v67 (ix2 (rowQ 1 q) 0)))
            + ∑ l : Fin 128, Ideal.exp2 (v56 (ix2 (rowQ 1 q) l) - v67 (ix2 (rowQ 1 q) 0))))
        + ((∑ k : Fin 2048, Ideal.exp2 (v53 (ix2 (rowQ 2 q) k) - v67 (ix2 (rowQ 2 q) 0)))
            + ∑ l : Fin 128, Ideal.exp2 (v56 (ix2 (rowQ 2 q) l) - v67 (ix2 (rowQ 2 q) 0)))) := by
  pointwise [mergeOf]
  rfl

/-- One row's output, from its logits: minus infinity where nothing is seen, a multiple of one over log two elsewhere. -/
theorem core (v7 : FVec Ideal S2048x128 .bf16) (v13 : FVec Ideal S128x128 .bf16) (v53 : FVec Ideal S96x2048 .f32) (v54 v55 : FVec Ideal S96x128 .f32)
    (q : Fin 32) (d : Fin 128) (p : Fin 3 → ℕ → Prop) [∀ n k, Decidable (p n k)] (a : Fin 3 → ℕ → ℝ) (v : ℕ → ℝ)
    (h53 : ∀ n (k : Fin 2048), v53 (ix2 (rowQ n q) k) = if p n k.val then ((a n k.val * (Real.log 2)⁻¹ : ℝ) : EReal) else ⊥)
    (h56 : ∀ n (l : Fin 128), (v54 (ix2 (rowQ n q) l) : EReal) + v55 (ix2 (rowQ n q) l)
      = if p n (2048 + l.val) then ((a n (2048 + l.val) * (Real.log 2)⁻¹ : ℝ) : EReal) else ⊥)
    (h7 : ∀ k : Fin 2048, v7 (ix2 k d) = ((v k.val : ℝ) : EReal)) (h13 : ∀ l : Fin 128, v13 (ix2 l d) = ((v (2048 + l.val) : ℝ) : EReal))
    (hp : p 0 2047) :
    k0_pay19 v7 v13 v53 v54 v55 (ix2 q d)
      = (((∑ g : Fin 3, (∑ k : Fin 2048, (if p g k.val then Real.exp (a g k.val) else 0) * v k.val
            + ∑ l : Fin 128, (if p g (2048 + l.val) then Real.exp (a g (2048 + l.val)) else 0) * v (2048 + l.val)))
        / (∑ g : Fin 3, (∑ k : Fin 2048, (if p g k.val then Real.exp (a g k.val) else 0)
            + ∑ l : Fin 128, (if p g (2048 + l.val) then Real.exp (a g (2048 + l.val)) else 0))) : ℝ) : EReal) := by
  rw [pay19, merge_at]
  have h56' : ∀ n (l : Fin 128), addf v54 v55 (ix2 (rowQ n q) l)
      = if p n (2048 + l.val) then ((a n (2048 + l.val) * (Real.log 2)⁻¹ : ℝ) : EReal) else ⊥ := h56
  generalize addf v54 v55 = v56 at h56' ⊢
  have ht : ∀ (P : Prop) [Decidable P] (x : ℝ), (if P then (x : EReal) else ⊥) ≠ ⊤ := by
    intro P _ x
    split
    · exact EReal.coe_ne_top x
    · exact bot_ne_top
  obtain ⟨μ, hμ⟩ : ∃ μ : ℝ, topOf v53 v56 q = (μ : EReal) := by
    have f53 : ∀ n, Finset.fold max (Ideal.ofBits FTy.f32 4286578688#32) (fun x => v53 (ix2 (rowQ n q) x)) Finset.univ ≠ ⊤ := fun n =>
      fold_ne_top _ _ _ (by rw [bits_neg_inf]; exact bot_ne_top) fun k _ => by rw [h53]; exact ht _ _
    have f56 : ∀ n, Finset.fold max (Ideal.ofBits FTy.f32 4286578688#32) (fun x => v56 (ix2 (rowQ n q) x)) Finset.univ ≠ ⊤ := fun n =>
      fold_ne_top _ _ _ (by rw [bits_neg_inf]; exact bot_ne_top) fun k _ => by rw [h56']; exact ht _ _
    refine exists_real ?_ ?_
    · exact max_ne_top (max_ne_top (max_ne_top (f53 0) (f56 0)) (max_ne_top (f53 1) (f56 1))) (max_ne_top (f53 2) (f56 2))
    · refine max_ne_bot (max_ne_bot (max_ne_bot ?_))
      refine fold_ne_bot _ _ _ (2047 : Fin 2048) (Finset.mem_univ _) ?_
      have : v53 (ix2 (rowQ 0 q) 2047) = _ := (h53 0 2047).trans (if_pos hp)
      exact fun e => EReal.coe_ne_bot _ (this.symm.trans e)
  have hs : ∀ n, shiftOf v53 v56 (ix2 (rowQ n q) 0) = (μ : EReal) := by
    intro n
    rw [shift_at, ← hμ]
    refine congrArg (topOf v53 v56) (Fin.ext ?_)
    have := q.isLt
    match n with
    | 0 => show q.val % 32 = q.val; omega
    | 1 => show (32 + q.val) % 32 = q.val; omega
    | 2 => show (64 + q.val) % 32 = q.val; omega
  simp only [hs, h53, h56', h7, h13]
  exact kernel_ratio (fun g k => if p g k then Real.exp (a g k) else 0) v μ
    (fun g k => Ideal.exp2 ((if p g k then ((a g k * (Real.log 2)⁻¹ : ℝ) : EReal) else ⊥) - (μ : EReal)))
    (fun g k _ => weight (p g k) (a g k) μ)
    (fun g k => by show (0 : ℝ) ≤ if p g k then Real.exp (a g k) else 0; split; exact (Real.exp_pos _).le; exact le_rfl)
    ⟨2047, by omega, by show (0 : ℝ) < if p 0 2047 then Real.exp (a 0 2047) else 0; rw [if_pos hp]; exact Real.exp_pos _⟩

theorem pay14_at (v15 : FVec Ideal S8x128 .f32) (v17 : FVec Ideal S8x128 .f32) (v19 : FVec Ideal S8x128 .f32) (v21 : FVec Ideal S8x128 .f32) (v23 : FVec Ideal S8x128 .f32) (v25 : FVec Ideal S8x128 .f32) (v26 v28 v30 v32 v34 v36 : Vec Ideal S1x8x128 .f32)
    (X : ℕ → ℕ → ℕ → Fin 128 → EReal)
    (h15 : ∀ s x, v15 (ix2 s x) = X 0 0 s.val x) (h17 : ∀ s x, v17 (ix2 s x) = X 0 1 s.val x) (h19 : ∀ s x, v19 (ix2 s x) = X 0 2 s.val x)
    (h21 : ∀ s x, v21 (ix2 s x) = X 0 3 s.val x) (h23 : ∀ s x, v23 (ix2 s x) = X 1 0 s.val x) (h25 : ∀ s x, v25 (ix2 s x) = X 1 1 s.val x)
    (h26 : ∀ s x, v26 (ix3 0 s x) = X 1 2 s.val x) (h28 : ∀ s x, v28 (ix3 0 s x) = X 1 3 s.val x) (h30 : ∀ s x, v30 (ix3 0 s x) = X 2 0 s.val x)
    (h32 : ∀ s x, v32 (ix3 0 s x) = X 2 1 s.val x) (h34 : ∀ s x, v34 (ix3 0 s x) = X 2 2 s.val x) (h36 : ∀ s x, v36 (ix3 0 s x) = X 2 3 s.val x)
    (i : Fin 96) (x : Fin 128) :
   (k0_pay14 v15 v17 v19 v21 v23 v25 v26 v28 v30 v32 v34 v36 (ix2 i x) : EReal)
    = X (i.val / 32) (i.val % 32 / 8) (i.val % 8) x * ((11863283 / 134217728 * (Real.log 2)⁻¹ : ℝ) : EReal) := by
  pointwise [k0_pay14]
  refine congrArg₂ (· * ·) ?_ (IdealRules.named_const.ideal_named_scalar _ _ _ _ rfl)
  by_cases c0 : i.val < 8
  · rw [dif_pos c0, h15]
    congr 1 <;> (try dsimp only) <;> omega
  rw [dif_neg c0]
  by_cases c1 : i.val - 8 < 8
  · rw [dif_pos c1, h17]
    congr 1 <;> (try dsimp only) <;> omega
  rw [dif_neg c1]
  by_cases c2 : i.val - 8 - 8 < 8
  · rw [dif_pos c2, h19]
    congr 1 <;> (try dsimp only) <;> omega
  rw [dif_neg c2]
  by_cases c3 : i.val - 8 - 8 - 8 < 8
  · rw [dif_pos c3, h21]
    congr 1 <;> (try dsimp only) <;> omega
  rw [dif_neg c3]
  by_cases c4 : i.val - 8 - 8 - 8 - 8 < 8
  · rw [dif_pos c4, h23]
    congr 1 <;> (try dsimp only) <;> omega
  rw [dif_neg c4]
  by_cases c5 : i.val - 8 - 8 - 8 - 8 - 8 < 8
  · rw [dif_pos c5, h25]
    congr 1 <;> (try dsimp only) <;> omega
  rw [dif_neg c5]
  by_cases c6 : i.val - 8 - 8 - 8 - 8 - 8 - 8 < 8
  · rw [dif_pos c6, h26]
    congr 1 <;> (try dsimp only) <;> omega
  rw [dif_neg c6]
  by_cases c7 : i.val - 8 - 8 - 8 - 8 - 8 - 8 - 8 < 8
  · rw [dif_pos c7, h28]
    congr 1 <;> (try dsimp only) <;> omega
  rw [dif_neg c7]
  by_cases c8 : i.val - 8 - 8 - 8 - 8 - 8 - 8 - 8 - 8 < 8
  · rw [dif_pos c8, h30]
    congr 1 <;> (try dsimp only) <;> omega
  rw [dif_neg c8]
  by_cases c9 : i.val - 8 - 8 - 8 - 8 - 8 - 8 - 8 - 8 - 8 < 8
  · rw [dif_pos c9, h32]
    congr 1 <;> (try dsimp only) <;> omega
  rw [dif_neg c9]
  by_cases c10 : i.val - 8 - 8 - 8 - 8 - 8 - 8 - 8 - 8 - 8 - 8 < 8
  · rw [dif_pos c10, h34]
    congr 1 <;> (try dsimp only) <;> omega
  rw [dif_neg c10]
  rw [h36]
  congr 1 <;> (try dsimp only) <;> omega

theorem pay15_at (v42 v44 v46 : Vec Ideal S1x1x32x2176 .f32) (T : ℕ → ℕ → Fin 2176 → EReal)
    (h42 : ∀ q x, v42 (ix4 0 0 q x) = T 0 q.val x) (h44 : ∀ q x, v44 (ix4 0 0 q x) = T 1 q.val x) (h46 : ∀ q x, v46 (ix4 0 0 q x) = T 2 q.val x)
    (i : Fin 96) (x : Fin 2176) :
   (k0_pay15 v42 v44 v46 (ix2 i x) : EReal) = T (i.val / 32) (i.val % 32) x * (((Real.log 2)⁻¹ : ℝ) : EReal) := by
  pointwise [k0_pay15]
  refine congrArg₂ (· * ·) ?_ (IdealRules.named_const.ideal_named_scalar _ _ _ _ rfl)
  by_cases c0 : i.val < 32
  · rw [dif_pos c0, h42]
    congr 1 <;> (try dsimp only) <;> omega
  rw [dif_neg c0]
  by_cases c1 : i.val - 32 < 32
  · rw [dif_pos c1, h44]
    congr 1 <;> (try dsimp only) <;> omega
  rw [dif_neg c1, h46]
  congr 1 <;> (try dsimp only) <;> omega

theorem pay20_at (v7 : FVec Ideal S2048x128 .bf16) (v13 : FVec Ideal S128x128 .bf16) (v53 : FVec Ideal S96x2048 .f32) (v54 v55 : FVec Ideal S96x128 .f32) (s : Fin 8) (d : Fin 128) :
    (k0_pay20 v7 v13 v53 v54 v55 (ix3 0 s d) : EReal) = k0_pay19 v7 v13 v53 v54 v55 (ix2 ⟨s.val, by omega⟩ d) := by
  unfold k0_pay20
  generalize k0_pay19 v7 v13 v53 v54 v55 = A
  pointwise

theorem pay1_at (A : FVec Ideal S32x128 .f32) (s : Fin 8) (d : Fin 128) :
    (k0_pay1 A (ix3 0 s d) : EReal) = A (ix2 ⟨8 + s.val, by omega⟩ d) := by
  pointwise [k0_pay1]

theorem pay2_at (A : FVec Ideal S32x128 .f32) (s : Fin 8) (d : Fin 128) :
    (k0_pay2 A (ix3 0 s d) : EReal) = A (ix2 ⟨16 + s.val, by omega⟩ d) := by
  pointwise [k0_pay2]

theorem pay3_at (A : FVec Ideal S32x128 .f32) (s : Fin 8) (d : Fin 128) :
    (k0_pay3 A (ix3 0 s d) : EReal) = A (ix2 ⟨24 + s.val, by omega⟩ d) := by
  pointwise [k0_pay3]

theorem pay16_at (v15 : FVec Ideal S8x128 .f32) (v17 : FVec Ideal S8x128 .f32) (v19 : FVec Ideal S8x128 .f32) (v21 : FVec Ideal S8x128 .f32) (v23 : FVec Ideal S8x128 .f32) (v25 : FVec Ideal S8x128 .f32) (v26 v28 v30 v32 v34 v36 : Vec Ideal S1x8x128 .f32) (v3 : FVec Ideal S2048x128 .bf16)
   (v42 v44 v46 : Vec Ideal S1x1x32x2176 .f32) (i : Fin 96) (k : Fin 2048) :
   k0_pay16 v3 v15 v17 v19 v21 v23 v25 v26 v28 v30 v32 v34 v36 v42 v44 v46 (ix2 i k)
     = ∑ x : Fin 128, (k0_pay14 v15 v17 v19 v21 v23 v25 v26 v28 v30 v32 v34 v36 (ix2 i x) : EReal) * v3 (ix2 k x) + k0_pay15 v42 v44 v46 (ix2 i ⟨k.val, by omega⟩) := by
  pointwise [k0_pay16]

theorem pay17_at (v15 : FVec Ideal S8x128 .f32) (v17 : FVec Ideal S8x128 .f32) (v19 : FVec Ideal S8x128 .f32) (v21 : FVec Ideal S8x128 .f32) (v23 : FVec Ideal S8x128 .f32) (v25 : FVec Ideal S8x128 .f32) (v26 v28 v30 v32 v34 v36 : Vec Ideal S1x8x128 .f32) (v10 : FVec Ideal S128x128 .bf16)
   (i : Fin 96) (k : Fin 128) :
   k0_pay17 v10 v15 v17 v19 v21 v23 v25 v26 v28 v30 v32 v34 v36 (ix2 i k)
     = ∑ x : Fin 128, (k0_pay14 v15 v17 v19 v21 v23 v25 v26 v28 v30 v32 v34 v36 (ix2 i x) : EReal) * v10 (ix2 k x) := by
  pointwise [k0_pay17]

theorem pay18_at (v42 v44 v46 : Vec Ideal S1x1x32x2176 .f32) (i : Fin 96) (k : Fin 128) :
   k0_pay18 v42 v44 v46 (ix2 i k) = (k0_pay15 v42 v44 v46 (ix2 i ⟨2048 + k.val, by omega⟩) : EReal) := by
  pointwise [k0_pay18]

theorem pay4_at (A : Vec Ideal S1x2048x128 .f32) (k : Fin 2048) (d : Fin 128) : k0_pay4 A (ix2 k d) = (A (ix3 0 k d) : EReal) := by
  pointwise [k0_pay4]
theorem pay5_at (A : Vec Ideal S1x2048x128 .f32) (k : Fin 2048) (d : Fin 128) : k0_pay5 A (ix2 k d) = (A (ix3 0 k d) : EReal) := by
  pointwise [k0_pay5]
theorem pay6_at (A : Vec Ideal S1x128x128 .f32) (k : Fin 128) (d : Fin 128) : k0_pay6 A (ix2 k d) = (A (ix3 0 k d) : EReal) := by
  pointwise [k0_pay6]
theorem pay7_at (A : Vec Ideal S1x128x128 .f32) (k : Fin 128) (d : Fin 128) : k0_pay7 A (ix2 k d) = (A (ix3 0 k d) : EReal) := by
  pointwise [k0_pay7]

end Cert.KernelIdeal.Attend

end
-- ==== Proof.AttendRow.lean ====
module

public import proofs.«01_k».proof.Proof.AttendSpec
public import proofs.«01_k».proof.Proof.BlockReads

@[expose] public section

set_option maxRecDepth 16384

noncomputable section

namespace Cert.KernelIdeal.Attend

open Cert.KernelIdeal Cert.KernelIdeal.Gen Idealize.ShloMosaic Idealize.ShloMosaic.TcCoe Idealize.SL.Sem Cert.SoftmaxMath

theorem pay8_at (A : Vec Ideal S1x8x128 .f32) (s : Fin 8) (d : Fin 128) : k0_pay8 A (ix2 s d) = (A (ix3 0 s d) : EReal) := by pointwise [k0_pay8]
theorem pay9_at (A : Vec Ideal S1x8x128 .f32) (s : Fin 8) (d : Fin 128) : k0_pay9 A (ix2 s d) = (A (ix3 0 s d) : EReal) := by pointwise [k0_pay9]
theorem pay10_at (A : Vec Ideal S1x8x128 .f32) (s : Fin 8) (d : Fin 128) : k0_pay10 A (ix2 s d) = (A (ix3 0 s d) : EReal) := by pointwise [k0_pay10]
theorem pay11_at (A : Vec Ideal S1x8x128 .f32) (s : Fin 8) (d : Fin 128) : k0_pay11 A (ix2 s d) = (A (ix3 0 s d) : EReal) := by pointwise [k0_pay11]
theorem pay12_at (A : Vec Ideal S1x8x128 .f32) (s : Fin 8) (d : Fin 128) : k0_pay12 A (ix2 s d) = (A (ix3 0 s d) : EReal) := by pointwise [k0_pay12]
theorem pay13_at (A : Vec Ideal S1x8x128 .f32) (s : Fin 8) (d : Fin 128) : k0_pay13 A (ix2 s d) = (A (ix3 0 s d) : EReal) := by pointwise [k0_pay13]

/-- A scaled dot product of real rows. -/
theorem dot_real (a k : Fin 128 → ℝ) :
    (∑ x : Fin 128, ((a x : ℝ) : EReal) * ((11863283 / 134217728 * (Real.log 2)⁻¹ : ℝ) : EReal) * ((k x : ℝ) : EReal))
      = (((∑ x : Fin 128, a x * k x) * (11863283 / 134217728) * (Real.log 2)⁻¹ : ℝ) : EReal) := by
  rw [Finset.sum_mul, Finset.sum_mul, coe_sum]
  refine Finset.sum_congr rfl fun x _ => ?_
  rw [← EReal.coe_mul, ← EReal.coe_mul]
  congr 1
  ring

theorem rowQ_val (n : Fin 3) (q : Fin 32) : (rowQ n q).val = n.val * 32 + q.val := by
  match n with
  | 0 => show q.val = 0 * 32 + q.val; omega
  | 1 => show 32 + q.val = 1 * 32 + q.val; omega
  | 2 => show 64 + q.val = 2 * 32 + q.val; omega

variable (q : S8x8x6144.Idx → ℝ) (K V : S8x2048x4x128.Idx → ℝ) (N : S8x8x1024.Idx → ℝ) (B : S32x16.Idx → ℝ)

/-- An entry of a group's table at a row of queries and a key. -/
def tableAt (g : Fin 4) (n : Fin 3) (y : ℕ) (k : ℕ) : EReal :=
  if sees (y % 8) n k then ((biasR B ⟨(g.val * 4 + y / 8) % 16, by omega⟩ (bucketW (BitVec.ofNat 32 (2048 + y % 8 - k))) : ℝ) : EReal) else ⊥

/-- One row of a block's output, from what the block's reads give. -/
theorem row_of (b : Fin 8) (g : Fin 4) (A3 A4 : Vec Ideal S1x2048x128 .f32) (A5 A6 : Vec Ideal S1x128x128 .f32)
    (Q0 Q1 Q2 Q3 Q4 Q5 Q6 Q7 Q8 Q9 Q10 Q11 : Vec Ideal S1x8x128 .f32) (T0 T1 T2 : Vec Ideal S1x1x32x2176 .f32)
    (h0 : ∀ s x, Q0 (ix3 0 s x) = ((qAt q b g.val 0 0 s.val x : ℝ) : EReal)) (h1 : ∀ s x, Q1 (ix3 0 s x) = ((qAt q b g.val 0 1 s.val x : ℝ) : EReal))
    (h2 : ∀ s x, Q2 (ix3 0 s x) = ((qAt q b g.val 0 2 s.val x : ℝ) : EReal)) (h3 : ∀ s x, Q3 (ix3 0 s x) = ((qAt q b g.val 0 3 s.val x : ℝ) : EReal))
    (h4 : ∀ s x, Q4 (ix3 0 s x) = ((qAt q b g.val 1 0 s.val x : ℝ) : EReal)) (h5 : ∀ s x, Q5 (ix3 0 s x) = ((qAt q b g.val 1 1 s.val x : ℝ) : EReal))
    (h6 : ∀ s x, Q6 (ix3 0 s x) = ((qAt q b g.val 1 2 s.val x : ℝ) : EReal)) (h7 : ∀ s x, Q7 (ix3 0 s x) = ((qAt q b g.val 1 3 s.val x : ℝ) : EReal))
    (h8 : ∀ s x, Q8 (ix3 0 s x) = ((qAt q b g.val 2 0 s.val x : ℝ) : EReal)) (h9 : ∀ s x, Q9 (ix3 0 s x) = ((qAt q b g.val 2 1 s.val x : ℝ) : EReal))
    (h10 : ∀ s x, Q10 (ix3 0 s x) = ((qAt q b g.val 2 2 s.val x : ℝ) : EReal)) (h11 : ∀ s x, Q11 (ix3 0 s x) = ((qAt q b g.val 2 3 s.val x : ℝ) : EReal))
    (hK : ∀ k x, A3 (ix3 0 k x) = ((rowOf K N 0 b g k.val x : ℝ) : EReal)) (hV : ∀ k x, A4 (ix3 0 k x) = ((rowOf V N 512 b g k.val x : ℝ) : EReal))
    (hK' : ∀ l x, A5 (ix3 0 l x) = ((rowOf K N 0 b g (2048 + l.val) x : ℝ) : EReal)) (hV' : ∀ l x, A6 (ix3 0 l x) = ((rowOf V N 512 b g (2048 + l.val) x : ℝ) : EReal))
    (hT0 : ∀ y k, T0 (ix4 0 0 y k) = tableAt B g 0 y.val k.val) (hT1 : ∀ y k, T1 (ix4 0 0 y k) = tableAt B g 1 y.val k.val)
    (hT2 : ∀ y k, T2 (ix4 0 0 y k) = tableAt B g 2 y.val k.val) (y : Fin 32) (d : Fin 128) :
    k0_pay19 (k0_pay5 A4) (k0_pay7 A6)
      (k0_pay16 (k0_pay4 A3) (k0_pay8 Q0) (k0_pay9 Q1) (k0_pay10 Q2) (k0_pay11 Q3) (k0_pay12 Q4) (k0_pay13 Q5) Q6 Q7 Q8 Q9 Q10 Q11 T0 T1 T2)
      (k0_pay17 (k0_pay6 A5) (k0_pay8 Q0) (k0_pay9 Q1) (k0_pay10 Q2) (k0_pay11 Q3) (k0_pay12 Q4) (k0_pay13 Q5) Q6 Q7 Q8 Q9 Q10 Q11)
      (k0_pay18 T0 T1 T2) (ix2 y d) = ((attn q K V N B b g (y.val / 8) (y.val % 8) d : ℝ) : EReal) := by
  have hy := y.isLt
  have hq : ∀ (i : Fin 96) (x : Fin 128), (k0_pay14 (k0_pay8 Q0) (k0_pay9 Q1) (k0_pay10 Q2) (k0_pay11 Q3) (k0_pay12 Q4) (k0_pay13 Q5) Q6 Q7 Q8 Q9 Q10 Q11 (ix2 i x) : EReal)
      = ((qAt q b g.val (i.val / 32) (i.val % 32 / 8) (i.val % 8) x : ℝ) : EReal) * ((11863283 / 134217728 * (Real.log 2)⁻¹ : ℝ) : EReal) := fun i x =>
    pay14_at _ _ _ _ _ _ _ _ _ _ _ _ (fun a r s x => ((qAt q b g.val a r s x : ℝ) : EReal))
      (fun s x => (pay8_at Q0 s x).trans (h0 s x)) (fun s x => (pay9_at Q1 s x).trans (h1 s x)) (fun s x => (pay10_at Q2 s x).trans (h2 s x))
      (fun s x => (pay11_at Q3 s x).trans (h3 s x)) (fun s x => (pay12_at Q4 s x).trans (h4 s x)) (fun s x => (pay13_at Q5 s x).trans (h5 s x))
      h6 h7 h8 h9 h10 h11 i x
  have ht : ∀ (i : Fin 96) (k : Fin 2176), (k0_pay15 T0 T1 T2 (ix2 i k) : EReal)
      = tableAt B g ⟨i.val / 32, by omega⟩ (i.val % 32) k.val * (((Real.log 2)⁻¹ : ℝ) : EReal) := fun i k =>
    (pay15_at T0 T1 T2 (fun a y k => tableAt B g ⟨a % 3, by omega⟩ y k.val) hT0 hT1 hT2 i k).trans
      (congrArg (fun n => tableAt B g n (i.val % 32) k.val * (((Real.log 2)⁻¹ : ℝ) : EReal)) (Fin.ext (Nat.mod_eq_of_lt (by omega))))
  have hl : ∀ (n : Fin 3) (k : ℕ),
      (∑ x : Fin 128, ((qAt q b g.val ((rowQ n y).val / 32) ((rowQ n y).val % 32 / 8) ((rowQ n y).val % 8) x : ℝ) : EReal)
          * ((11863283 / 134217728 * (Real.log 2)⁻¹ : ℝ) : EReal) * ((rowOf K N 0 b g k x : ℝ) : EReal))
        + tableAt B g ⟨(rowQ n y).val / 32, by omega⟩ ((rowQ n y).val % 32) k * (((Real.log 2)⁻¹ : ℝ) : EReal)
      = if sees (y.val % 8) n k then ((score q K N B b g n (y.val / 8) (y.val % 8) k * (Real.log 2)⁻¹ : ℝ) : EReal) else ⊥ := by
    intro n k
    have hv := rowQ_val n y
    have hn := n.isLt
    rw [dot_real]
    have e1 : (rowQ n y).val / 32 = n.val := by omega
    have e2 : (rowQ n y).val % 32 = y.val := by omega
    have e3 : (rowQ n y).val % 8 = y.val % 8 := by omega
    rw [show (⟨(rowQ n y).val / 32, by omega⟩ : Fin 3) = n from Fin.ext e1, e1, e2, e3]
    unfold tableAt
    exact logit _ _ _
  refine (core _ _ _ _ _ y d (fun n k => sees (y.val % 8) n k) (fun n k => score q K N B b g n (y.val / 8) (y.val % 8) k)
    (fun k => rowOf V N 512 b g k d) ?_ ?_ ?_ ?_ ?_).trans ?_
  · intro n k
    rw [pay16_at, ht]
    simp only [hq, pay4_at, hK]
    exact hl n k.val
  · intro n l
    rw [pay17_at, pay18_at, ht]
    simp only [hq, pay6_at, hK']
    exact hl n (2048 + l.val)
  · intro k
    rw [pay5_at, hV]
  · intro l
    rw [pay7_at, hV']
  · unfold sees
    refine ⟨by omega, Nat.mod_one _, ?_⟩
    show 2048 + y.val % 8 - 2047 ≤ 128
    omega
  · congr 1
    unfold attn numOf denOf
    have hs : y.val % 8 < 8 := by omega
    congr 1
    · exact Finset.sum_congr rfl fun n _ =>
        seen_window (fun k => rowOf V N 512 b g k d) (fun k => Real.exp (score q K N B b g n (y.val / 8) (y.val % 8) k)) _ hs n
    · exact Finset.sum_congr rfl fun n _ =>
        seen_window' (fun k => Real.exp (score q K N B b g n (y.val / 8) (y.val % 8) k)) _ hs n

end Cert.KernelIdeal.Attend

end
-- ==== Proof.AttendBlock.lean ====
module

public import proofs.«01_k».proof.Proof.AttendRow

@[expose] public section

set_option maxRecDepth 16384

noncomputable section

namespace Cert.KernelIdeal.Attend

open Cert.KernelIdeal Cert.KernelIdeal.Gen Idealize.ShloMosaic Idealize.ShloMosaic.TcCoe Idealize.SL.Sem Cert.SoftmaxMath

variable (m : (ℓ : Loc nD τ sig) → Buf (Elt Ideal) ℓ)

theorem idx : ∀ t : Fin cfg0.N, win0_0.index t = ![t.val / 4, 0, t.val % 4] ∧ win0_1.index t = ![t.val / 4, 0, 4 + t.val % 4]
    ∧ win0_2.index t = ![t.val / 4, 0, 8 + t.val % 4] ∧ win0_3.index t = ![t.val / 4, 0, 0] ∧ win0_4.index t = ![t.val / 4, 0, 0]
    ∧ win0_5.index t = ![t.val / 4, 0, t.val % 4] ∧ win0_6.index t = ![t.val / 4, 0, 4 + t.val % 4]
    ∧ win0_7.index t = ![0, t.val % 4, 0, 0] ∧ win0_8.index t = ![t.val / 4, 0, t.val % 4] :=
  (by decide +kernel : ∀ t : Fin grid0.N, _)

theorem off : ∀ t : Fin cfg0.N, k0_off1 (grid0.coords t) = ![0, t.val % 4, 0] :=
  (by decide +kernel : ∀ t : Fin grid0.N, _)

theorem lt32 (t : Fin cfg0.N) : t.val < 32 := t.isLt

/-- The batch of a grid point. -/
def bOf (t : Fin cfg0.N) : Fin 8 := ⟨t.val / 4, by have := lt32 t; omega⟩
/-- The key head of a grid point. -/
def gOf (t : Fin cfg0.N) : Fin 4 := ⟨t.val % 4, by omega⟩

/-- That the arguments hold real numbers, and which. -/
structure Real5 (c : Dev nD) (q : S8x8x6144.Idx → ℝ) (K V : S8x2048x4x128.Idx → ℝ) (N : S8x8x1024.Idx → ℝ) (B : S32x16.Idx → ℝ) : Prop where
  hq : ∀ i, (m ((c : Thread nD τ).loc main_arg0) : FVec Ideal S8x8x6144 .f32) i = ((q i : ℝ) : EReal)
  hK : ∀ i, (m ((c : Thread nD τ).loc main_arg1) : FVec Ideal S8x2048x4x128 .f32) i = ((K i : ℝ) : EReal)
  hV : ∀ i, (m ((c : Thread nD τ).loc main_arg2) : FVec Ideal S8x2048x4x128 .f32) i = ((V i : ℝ) : EReal)
  hN : ∀ i, (m ((c : Thread nD τ).loc main_arg3) : FVec Ideal S8x8x1024 .f32) i = ((N i : ℝ) : EReal)
  hB : ∀ i, (m ((c : Thread nD τ).loc main_arg4) : FVec Ideal S32x16 .f32) i = ((B i : ℝ) : EReal)

variable {m} {c : Dev nD} {q : S8x8x6144.Idx → ℝ} {K V : S8x2048x4x128.Idx → ℝ} {N : S8x8x1024.Idx → ℝ} {B : S32x16.Idx → ℝ}

theorem blk_q0 (H : Real5 m c q K V N B) (t : Fin cfg0.N) (s : Fin 8) (r : Fin 4) (x : Fin 128) :
    (iblk m c 0 t : FVec Ideal S1x8x512 .f32) (ix3 0 s ⟨r.val * 128 + x.val, by omega⟩) = ((qAt q (bOf t) (gOf t).val 0 r.val s.val x : ℝ) : EReal) := by
  have ht := lt32 t
  blk_simp [iblk]
  refine (congrFun (entry_queries m c) _).trans ((H.hq _).trans ?_)
  unfold qAt
  refine congrArg (fun z => ((q z : ℝ) : EReal)) ?_
  blk_ext [idx t, bOf, gOf]

theorem blk_q1 (H : Real5 m c q K V N B) (t : Fin cfg0.N) (s : Fin 8) (r : Fin 4) (x : Fin 128) :
    (iblk m c 1 t : FVec Ideal S1x8x512 .f32) (ix3 0 s ⟨r.val * 128 + x.val, by omega⟩) = ((qAt q (bOf t) (gOf t).val 1 r.val s.val x : ℝ) : EReal) := by
  have ht := lt32 t
  blk_simp [iblk]
  refine (congrFun (entry_queries m c) _).trans ((H.hq _).trans ?_)
  unfold qAt
  refine congrArg (fun z => ((q z : ℝ) : EReal)) ?_
  blk_ext [idx t, bOf, gOf]

theorem blk_q2 (H : Real5 m c q K V N B) (t : Fin cfg0.N) (s : Fin 8) (r : Fin 4) (x : Fin 128) :
    (iblk m c 2 t : FVec Ideal S1x8x512 .f32) (ix3 0 s ⟨r.val * 128 + x.val, by omega⟩) = ((qAt q (bOf t) (gOf t).val 2 r.val s.val x : ℝ) : EReal) := by
  have ht := lt32 t
  blk_simp [iblk]
  refine (congrFun (entry_queries m c) _).trans ((H.hq _).trans ?_)
  unfold qAt
  refine congrArg (fun z => ((q z : ℝ) : EReal)) ?_
  blk_ext [idx t, bOf, gOf]

/-- The cached rows of a block, all heads of a batch. -/
theorem blk_k_row (H : Real5 m c q K V N B) (t : Fin cfg0.N) (i : Fin 8192) (x : Fin 128) :
    (iblk m c 3 t : FVec Ideal S1x8192x128 .f32) (ix3 0 i x) = ((K (ix4 (bOf t) ⟨i.val / 4, by omega⟩ ⟨i.val % 4, by omega⟩ x) : ℝ) : EReal) := by
  have ht := lt32 t
  have e : (iblk m c 3 t : FVec Ideal S1x8192x128 .f32) (ix3 0 i x) = (Gen.V m c main_v131 : FVec Ideal S8x8192x128 .f32) (ix3 (bOf t) i x) := by
    blk_simp [iblk]
    blk_ext [idx t, bOf]
  exact e.trans ((entry_keys m c (ix3 (bOf t) i x)).trans (H.hK _))

theorem blk_v_row (H : Real5 m c q K V N B) (t : Fin cfg0.N) (i : Fin 8192) (x : Fin 128) :
    (iblk m c 4 t : FVec Ideal S1x8192x128 .f32) (ix3 0 i x) = ((V (ix4 (bOf t) ⟨i.val / 4, by omega⟩ ⟨i.val % 4, by omega⟩ x) : ℝ) : EReal) := by
  have ht := lt32 t
  have e : (iblk m c 4 t : FVec Ideal S1x8192x128 .f32) (ix3 0 i x) = (Gen.V m c main_v132 : FVec Ideal S8x8192x128 .f32) (ix3 (bOf t) i x) := by
    blk_simp [iblk]
    blk_ext [idx t, bOf]
  exact e.trans ((entry_values m c (ix3 (bOf t) i x)).trans (H.hV _))

theorem blk_k (H : Real5 m c q K V N B) (t : Fin cfg0.N) (k : Fin 2048) (x : Fin 128) :
    (iblk m c 3 t : FVec Ideal S1x8192x128 .f32) (ix3 0 ⟨k.val * 4 + t.val % 4, by omega⟩ x) = ((rowOf K N 0 (bOf t) (gOf t) k.val x : ℝ) : EReal) := by
  refine (blk_k_row H t _ x).trans ?_
  unfold rowOf
  rw [dif_pos k.isLt]
  have e1 : (k.val * 4 + t.val % 4) / 4 = k.val := by omega
  have e2 : (k.val * 4 + t.val % 4) % 4 = t.val % 4 := by omega
  refine congrArg (fun z => ((K z : ℝ) : EReal)) ?_
  exact congrArg₂ (fun (a : Fin 2048) (b : Fin 4) => (ix4 (bOf t) a b x : S8x2048x4x128.Idx)) (Fin.ext e1) (Fin.ext e2)

theorem blk_v (H : Real5 m c q K V N B) (t : Fin cfg0.N) (k : Fin 2048) (x : Fin 128) :
    (iblk m c 4 t : FVec Ideal S1x8192x128 .f32) (ix3 0 ⟨k.val * 4 + t.val % 4, by omega⟩ x) = ((rowOf V N 512 (bOf t) (gOf t) k.val x : ℝ) : EReal) := by
  refine (blk_v_row H t _ x).trans ?_
  unfold rowOf
  rw [dif_pos k.isLt]
  have e1 : (k.val * 4 + t.val % 4) / 4 = k.val := by omega
  have e2 : (k.val * 4 + t.val % 4) % 4 = t.val % 4 := by omega
  refine congrArg (fun z => ((V z : ℝ) : EReal)) ?_
  exact congrArg₂ (fun (a : Fin 2048) (b : Fin 4) => (ix4 (bOf t) a b x : S8x2048x4x128.Idx)) (Fin.ext e1) (Fin.ext e2)

/-- A row after the cache. -/
theorem row_new (C : S8x2048x4x128.Idx → ℝ) (N : S8x8x1024.Idx → ℝ) (off : ℕ) (b : Fin 8) (g : Fin 4) (l : ℕ) (x : Fin 128) :
    rowOf C N off b g (2048 + l) x = if h : l < 8 then N (ix3 b ⟨l, h⟩ ⟨(off + g.val * 128 + x.val) % 1024, by omega⟩) else 0 := by
  unfold rowOf
  rw [dif_neg (by omega)]
  have e : 2048 + l - 2048 = l := by omega
  simp only [e]

theorem blk_nk (H : Real5 m c q K V N B) (t : Fin cfg0.N) (l : Fin 128) (x : Fin 128) :
    (iblk m c 5 t : FVec Ideal S1x128x128 .f32) (ix3 0 l x) = ((rowOf K N 0 (bOf t) (gOf t) (2048 + l.val) x : ℝ) : EReal) := by
  have ht := lt32 t
  rw [row_new]
  blk_simp [iblk]
  refine (entry_new m c _).trans ?_
  by_cases h : l.val < 8
  · refine (dif_pos (by blk_simp [idx t]; omega)).trans ?_
    rw [dif_pos h]
    refine (H.hN _).trans (congrArg (fun z => ((N z : ℝ) : EReal)) ?_)
    blk_ext [idx t, bOf, gOf]
  · refine (dif_neg (by blk_simp [idx t]; omega)).trans ?_
    rw [dif_neg h]
    rfl

theorem blk_nv (H : Real5 m c q K V N B) (t : Fin cfg0.N) (l : Fin 128) (x : Fin 128) :
    (iblk m c 6 t : FVec Ideal S1x128x128 .f32) (ix3 0 l x) = ((rowOf V N 512 (bOf t) (gOf t) (2048 + l.val) x : ℝ) : EReal) := by
  have ht := lt32 t
  rw [row_new]
  blk_simp [iblk]
  refine (entry_new m c _).trans ?_
  by_cases h : l.val < 8
  · refine (dif_pos (by blk_simp [idx t]; omega)).trans ?_
    rw [dif_pos h]
    refine (H.hN _).trans (congrArg (fun z => ((N z : ℝ) : EReal)) ?_)
    blk_ext [idx t, bOf, gOf]
  · refine (dif_neg (by blk_simp [idx t]; omega)).trans ?_
    rw [dif_neg h]
    rfl

/-- The table's entries, as the group's window sees them. -/
theorem table_real (H : Real5 m c q K V N B) (g : Fin 4) (n : Fin 3) (y : Fin 32) (k : Fin 2176) :
    (Gen.V m c main_v130 : FVec Ideal S3x4x32x2176 .f32) (ix4 n g y k) = tableAt B g n y.val k.val := by
  refine (entry_table m c n g y k).trans ?_
  have hk : k.val / 128 < 17 := by omega
  have hd : k.val / 128 * 128 + k.val % 128 = k.val := by omega
  obtain ⟨hs, hm⟩ := seen_iff n ⟨k.val / 128, hk⟩ ⟨y.val % 8, by omega⟩ ⟨k.val % 128, by omega⟩
  simp only [hd] at hs hm
  unfold tableAt
  by_cases h : sees (y.val % 8) n k.val
  · rw [if_pos h, if_pos (hs.2 h), hm h.1]
    have e : IntOp.maxsi (BitVec.ofNat 32 (2048 + y.val % 8 - k.val)) 0#32 = BitVec.ofNat 32 (2048 + y.val % 8 - k.val) := by
      rw [← hm h.1]
      generalize distW _ _ _ = w
      by_cases h1 : (0#32).slt w = true <;> simp [IntOp.maxsi, h1]
    rw [e]
    unfold biasAt
    refine (H.hB _).trans ?_
    unfold biasR
    refine congrArg (fun z => ((B z : ℝ) : EReal)) ?_
    have : y.val < 32 := y.isLt
    congr 1
    exact Fin.ext (Nat.mod_eq_of_lt (by show g.val * 4 + y.val / 8 < 16; omega)).symm
  · rw [if_neg h, if_neg fun e => h (hs.1 e)]

theorem blk_t (H : Real5 m c q K V N B) (t : Fin cfg0.N) (n : Fin 3) (y : Fin 32) (k : Fin 2176) :
    (iblk m c 7 t : FVec Ideal S3x1x32x2176 .f32) (ix4 n 0 y k) = tableAt B (gOf t) n y.val k.val := by
  have ht := lt32 t
  refine Eq.trans ?_ (table_real H (gOf t) n y k)
  blk_simp [iblk]
  blk_ext [idx t, gOf]

end Cert.KernelIdeal.Attend

end
-- ==== Proof.AttendPoint.lean ====
module

public import proofs.«01_k».proof.Proof.AttendBlock

@[expose] public section

set_option maxRecDepth 16384

noncomputable section

namespace Cert.KernelIdeal.Attend

open Cert.KernelIdeal Cert.KernelIdeal.Gen Idealize.ShloMosaic Idealize.ShloMosaic.TcCoe Idealize.SL.Sem Cert.SoftmaxMath

/-- A load of every fourth row. -/
theorem strided (M : Memref sig .tc .vmem S1x8192x128 .f32) (hM : M.IsWhole) (X : Vec Ideal S1x8192x128 .f32) (o : Fin S1x8192x128.rank → ℕ)
    (inb) (a : ℕ) (ha : a < 4) (ho : o = ![0, a, 0]) (k : Fin 2048) (x : Fin 128) :
    View.readAt (Elt Ideal) M.view (⟨o, S1x2048x128.size, ![1, 4, 1], inb⟩ : LoadRect S1x8192x128) (hM.unread X) (ix3 0 k x)
      = X (ix3 0 ⟨k.val * 4 + a, by omega⟩ x) := by
  subst ho
  show (M.view.read (Elt Ideal) (hM.unread X)) _ = _
  rw [Memref.IsWhole.read_unread]
  refine congrArg X ?_
  funext b
  refine Fin.ext ?_
  fin_cases b
  · rfl
  · show a + 4 * k.val = k.val * 4 + a; omega
  · show 0 + 1 * x.val = x.val; omega

theorem emb_at (o : ℕ) (inb) (s : Fin 8) (d : Fin 128) (h : o + d.val < 512) :
    (Rect.unit (s := S1x8x512) ![0, 0, o] ![1, 8, 128] inb).emb (ix3 (0 : Fin 1) s d : S1x8x128.Idx) = (ix3 0 s ⟨o + d.val, h⟩ : S1x8x512.Idx) := by
  funext b
  refine Fin.ext ?_
  fin_cases b
  · rfl
  · show 0 + 1 * s.val = s.val; omega
  · show o + 1 * d.val = o + d.val; omega

theorem off_piece (o : ℕ) (inb) (s : Fin 8) (j : Fin 512) (h : j.val < o) :
    (ix3 0 s j : S1x8x512.Idx) ∉ (Rect.unit (s := S1x8x512) ![0, 0, o] ![1, 8, 128] inb).set := by
  intro hm
  obtain ⟨x, hx⟩ := LoadRect.exists_idx_of_mem _ hm
  have h2 := congrArg Fin.val (congrFun hx 2)
  have h3 : o + 1 * (x 2).val = j.val := h2
  omega

/-- A block's output at head 0. -/
theorem piece0 (w3 w2 w1 w0 : Vec Ideal S1x8x128 .bf16) (i3 i2 i1 i0) (s : Fin 8) (d : Fin 128) (j : Fin 512) (hj : j.val = 0 + d.val) :
    View.canon (Val := Elt Ideal) (s := S1x8x512) (e := .bf16)
      [⟨Rect.unit (s := S1x8x512) ![0, 0, 384] ![1, 8, 128] i3, w3⟩, ⟨Rect.unit (s := S1x8x512) ![0, 0, 256] ![1, 8, 128] i2, w2⟩,
        ⟨Rect.unit (s := S1x8x512) ![0, 0, 128] ![1, 8, 128] i1, w1⟩, ⟨Rect.unit (s := S1x8x512) ![0, 0, 0] ![1, 8, 128] i0, w0⟩] (ix3 0 s j)
      = w0 (ix3 0 s d) := by
  have n3 := off_piece 384 i3 s j (by omega)
  have n2 := off_piece 256 i2 s j (by omega)
  have n1 := off_piece 128 i1 s j (by omega)
  have e : (ix3 0 s j : S1x8x512.Idx) = _ := (congrArg (fun z : Fin 512 => (ix3 0 s z : S1x8x512.Idx)) (Fin.ext hj : j = ⟨0 + d.val, by omega⟩)).trans (emb_at 0 i0 s d (by omega)).symm
  generalize (ix3 0 s j : S1x8x512.Idx) = y at *
  rw [View.canon_cons_of_not_mem, View.canon_cons_of_not_mem, View.canon_cons_of_not_mem, e, View.canon_cons_emb]
  · exact n1
  · exact n2
  · exact n3

/-- A block's output at head 1. -/
theorem piece1 (w3 w2 w1 w0 : Vec Ideal S1x8x128 .bf16) (i3 i2 i1 i0) (s : Fin 8) (d : Fin 128) (j : Fin 512) (hj : j.val = 128 + d.val) :
    View.canon (Val := Elt Ideal) (s := S1x8x512) (e := .bf16)
      [⟨Rect.unit (s := S1x8x512) ![0, 0, 384] ![1, 8, 128] i3, w3⟩, ⟨Rect.unit (s := S1x8x512) ![0, 0, 256] ![1, 8, 128] i2, w2⟩,
        ⟨Rect.unit (s := S1x8x512) ![0, 0, 128] ![1, 8, 128] i1, w1⟩, ⟨Rect.unit (s := S1x8x512) ![0, 0, 0] ![1, 8, 128] i0, w0⟩] (ix3 0 s j)
      = w1 (ix3 0 s d) := by
  have n3 := off_piece 384 i3 s j (by omega)
  have n2 := off_piece 256 i2 s j (by omega)
  have e : (ix3 0 s j : S1x8x512.Idx) = _ := (congrArg (fun z : Fin 512 => (ix3 0 s z : S1x8x512.Idx)) (Fin.ext hj : j = ⟨128 + d.val, by omega⟩)).trans (emb_at 128 i1 s d (by omega)).symm
  generalize (ix3 0 s j : S1x8x512.Idx) = y at *
  rw [View.canon_cons_of_not_mem, View.canon_cons_of_not_mem, e, View.canon_cons_emb]
  · exact n2
  · exact n3

/-- A block's output at head 2. -/
theorem piece2 (w3 w2 w1 w0 : Vec Ideal S1x8x128 .bf16) (i3 i2 i1 i0) (s : Fin 8) (d : Fin 128) (j : Fin 512) (hj : j.val = 256 + d.val) :
    View.canon (Val := Elt Ideal) (s := S1x8x512) (e := .bf16)
      [⟨Rect.unit (s := S1x8x512) ![0, 0, 384] ![1, 8, 128] i3, w3⟩, ⟨Rect.unit (s := S1x8x512) ![0, 0, 256] ![1, 8, 128] i2, w2⟩,
        ⟨Rect.unit (s := S1x8x512) ![0, 0, 128] ![1, 8, 128] i1, w1⟩, ⟨Rect.unit (s := S1x8x512) ![0, 0, 0] ![1, 8, 128] i0, w0⟩] (ix3 0 s j)
      = w2 (ix3 0 s d) := by
  have n3 := off_piece 384 i3 s j (by omega)
  have e : (ix3 0 s j : S1x8x512.Idx) = _ := (congrArg (fun z : Fin 512 => (ix3 0 s z : S1x8x512.Idx)) (Fin.ext hj : j = ⟨256 + d.val, by omega⟩)).trans (emb_at 256 i2 s d (by omega)).symm
  generalize (ix3 0 s j : S1x8x512.Idx) = y at *
  rw [View.canon_cons_of_not_mem, e, View.canon_cons_emb]
  · exact n3

/-- A block's output at head 3. -/
theorem piece3 (w3 w2 w1 w0 : Vec Ideal S1x8x128 .bf16) (i3 i2 i1 i0) (s : Fin 8) (d : Fin 128) (j : Fin 512) (hj : j.val = 384 + d.val) :
    View.canon (Val := Elt Ideal) (s := S1x8x512) (e := .bf16)
      [⟨Rect.unit (s := S1x8x512) ![0, 0, 384] ![1, 8, 128] i3, w3⟩, ⟨Rect.unit (s := S1x8x512) ![0, 0, 256] ![1, 8, 128] i2, w2⟩,
        ⟨Rect.unit (s := S1x8x512) ![0, 0, 128] ![1, 8, 128] i1, w1⟩, ⟨Rect.unit (s := S1x8x512) ![0, 0, 0] ![1, 8, 128] i0, w0⟩] (ix3 0 s j)
      = w3 (ix3 0 s d) := by
  have e : (ix3 0 s j : S1x8x512.Idx) = _ := (congrArg (fun z : Fin 512 => (ix3 0 s z : S1x8x512.Idx)) (Fin.ext hj : j = ⟨384 + d.val, by omega⟩)).trans (emb_at 384 i3 s d (by omega)).symm
  generalize (ix3 0 s j : S1x8x512.Idx) = y at *
  rw [e, View.canon_cons_emb]

variable {m : (ℓ : Loc nD τ sig) → Buf (Elt Ideal) ℓ} {c : Dev nD} {q : S8x8x6144.Idx → ℝ} {K V : S8x2048x4x128.Idx → ℝ} {N : S8x8x1024.Idx → ℝ} {B : S32x16.Idx → ℝ}

theorem ld_head (X : Vec Ideal S1x8x512 .f32) (o : ℕ) (inb) (s : Fin 8) (x : Fin 128) (h : o + x.val < 512) :
    View.ld X (Rect.unit (s := S1x8x512) ![0, 0, o] ![1, 8, 128] inb) (ix3 (0 : Fin 1) s x : S1x8x128.Idx) = X (ix3 0 s ⟨o + x.val, h⟩) :=
  congrArg X (emb_at o inb s x h)

theorem ld_group (X : Vec Ideal S3x1x32x2176 .f32) (n : ℕ) (hn : n < 3) (inb) (y : Fin 32) (k : Fin 2176) :
    View.ld X (Rect.unit (s := S3x1x32x2176) ![n, 0, 0, 0] ![1, 1, 32, 2176] inb) (ix4 (0 : Fin 1) (0 : Fin 1) y k : S1x1x32x2176.Idx) = X (ix4 ⟨n, hn⟩ 0 y k) := by
  refine congrArg X ?_
  funext b
  refine Fin.ext ?_
  fin_cases b
  · rfl
  · rfl
  · show 0 + 1 * y.val = y.val; omega
  · show 0 + 1 * k.val = k.val; omega

variable (q K V N B) in
/-- A block's output, from what the block's reads give. -/
theorem block_of (b : Fin 8) (g : Fin 4) (A3 A4 : Vec Ideal S1x2048x128 .f32) (A5 A6 : Vec Ideal S1x128x128 .f32)
    (Q0 Q1 Q2 Q3 Q4 Q5 Q6 Q7 Q8 Q9 Q10 Q11 : Vec Ideal S1x8x128 .f32) (T0 T1 T2 : Vec Ideal S1x1x32x2176 .f32)
    (h0 : ∀ s x, Q0 (ix3 0 s x) = ((qAt q b g.val 0 0 s.val x : ℝ) : EReal)) (h1 : ∀ s x, Q1 (ix3 0 s x) = ((qAt q b g.val 0 1 s.val x : ℝ) : EReal))
    (h2 : ∀ s x, Q2 (ix3 0 s x) = ((qAt q b g.val 0 2 s.val x : ℝ) : EReal)) (h3 : ∀ s x, Q3 (ix3 0 s x) = ((qAt q b g.val 0 3 s.val x : ℝ) : EReal))
    (h4 : ∀ s x, Q4 (ix3 0 s x) = ((qAt q b g.val 1 0 s.val x : ℝ) : EReal)) (h5 : ∀ s x, Q5 (ix3 0 s x) = ((qAt q b g.val 1 1 s.val x : ℝ) : EReal))
    (h6 : ∀ s x, Q6 (ix3 0 s x) = ((qAt q b g.val 1 2 s.val x : ℝ) : EReal)) (h7 : ∀ s x, Q7 (ix3 0 s x) = ((qAt q b g.val 1 3 s.val x : ℝ) : EReal))
    (h8 : ∀ s x, Q8 (ix3 0 s x) = ((qAt q b g.val 2 0 s.val x : ℝ) : EReal)) (h9 : ∀ s x, Q9 (ix3 0 s x) = ((qAt q b g.val 2 1 s.val x : ℝ) : EReal))
    (h10 : ∀ s x, Q10 (ix3 0 s x) = ((qAt q b g.val 2 2 s.val x : ℝ) : EReal)) (h11 : ∀ s x, Q11 (ix3 0 s x) = ((qAt q b g.val 2 3 s.val x : ℝ) : EReal))
    (hK : ∀ k x, A3 (ix3 0 k x) = ((rowOf K N 0 b g k.val x : ℝ) : EReal)) (hV : ∀ k x, A4 (ix3 0 k x) = ((rowOf V N 512 b g k.val x : ℝ) : EReal))
    (hK' : ∀ l x, A5 (ix3 0 l x) = ((rowOf K N 0 b g (2048 + l.val) x : ℝ) : EReal)) (hV' : ∀ l x, A6 (ix3 0 l x) = ((rowOf V N 512 b g (2048 + l.val) x : ℝ) : EReal))
    (hT0 : ∀ y k, T0 (ix4 0 0 y k) = tableAt B g 0 y.val k.val) (hT1 : ∀ y k, T1 (ix4 0 0 y k) = tableAt B g 1 y.val k.val)
    (hT2 : ∀ y k, T2 (ix4 0 0 y k) = tableAt B g 2 y.val k.val) (i3 i2 i1 i0) (r : Fin 4) (s : Fin 8) (d : Fin 128) (j : Fin 512) (hj : j.val = r.val * 128 + d.val) :
    View.canon (Val := Elt Ideal) (s := S1x8x512) (e := .bf16)
      [⟨Rect.unit (s := S1x8x512) ![0, 0, 384] ![1, 8, 128] i3, k0_pay3 (k0_pay19 (k0_pay5 A4) (k0_pay7 A6)
      (k0_pay16 (k0_pay4 A3) (k0_pay8 Q0) (k0_pay9 Q1) (k0_pay10 Q2) (k0_pay11 Q3) (k0_pay12 Q4) (k0_pay13 Q5) Q6 Q7 Q8 Q9 Q10 Q11 T0 T1 T2)
      (k0_pay17 (k0_pay6 A5) (k0_pay8 Q0) (k0_pay9 Q1) (k0_pay10 Q2) (k0_pay11 Q3) (k0_pay12 Q4) (k0_pay13 Q5) Q6 Q7 Q8 Q9 Q10 Q11)
      (k0_pay18 T0 T1 T2))⟩,
        ⟨Rect.unit (s := S1x8x512) ![0, 0, 256] ![1, 8, 128] i2, k0_pay2 (k0_pay19 (k0_pay5 A4) (k0_pay7 A6)
      (k0_pay16 (k0_pay4 A3) (k0_pay8 Q0) (k0_pay9 Q1) (k0_pay10 Q2) (k0_pay11 Q3) (k0_pay12 Q4) (k0_pay13 Q5) Q6 Q7 Q8 Q9 Q10 Q11 T0 T1 T2)
      (k0_pay17 (k0_pay6 A5) (k0_pay8 Q0) (k0_pay9 Q1) (k0_pay10 Q2) (k0_pay11 Q3) (k0_pay12 Q4) (k0_pay13 Q5) Q6 Q7 Q8 Q9 Q10 Q11)
      (k0_pay18 T0 T1 T2))⟩,
        ⟨Rect.unit (s := S1x8x512) ![0, 0, 128] ![1, 8, 128] i1, k0_pay1 (k0_pay19 (k0_pay5 A4) (k0_pay7 A6)
      (k0_pay16 (k0_pay4 A3) (k0_pay8 Q0) (k0_pay9 Q1) (k0_pay10 Q2) (k0_pay11 Q3) (k0_pay12 Q4) (k0_pay13 Q5) Q6 Q7 Q8 Q9 Q10 Q11 T0 T1 T2)
      (k0_pay17 (k0_pay6 A5) (k0_pay8 Q0) (k0_pay9 Q1) (k0_pay10 Q2) (k0_pay11 Q3) (k0_pay12 Q4) (k0_pay13 Q5) Q6 Q7 Q8 Q9 Q10 Q11)
      (k0_pay18 T0 T1 T2))⟩,
        ⟨Rect.unit (s := S1x8x512) ![0, 0, 0] ![1, 8, 128] i0, k0_pay20 (k0_pay5 A4) (k0_pay7 A6)
      (k0_pay16 (k0_pay4 A3) (k0_pay8 Q0) (k0_pay9 Q1) (k0_pay10 Q2) (k0_pay11 Q3) (k0_pay12 Q4) (k0_pay13 Q5) Q6 Q7 Q8 Q9 Q10 Q11 T0 T1 T2)
      (k0_pay17 (k0_pay6 A5) (k0_pay8 Q0) (k0_pay9 Q1) (k0_pay10 Q2) (k0_pay11 Q3) (k0_pay12 Q4) (k0_pay13 Q5) Q6 Q7 Q8 Q9 Q10 Q11)
      (k0_pay18 T0 T1 T2)⟩] (ix3 0 s j)
      = ((attn q K V N B b g r.val s.val d : ℝ) : EReal) := by
  have hs := s.isLt
  have R : ∀ (y : Fin 32) (e : y.val = r.val * 8 + s.val), _ = ((attn q K V N B b g r.val s.val d : ℝ) : EReal) := fun y e =>
    (row_of q K V N B b g A3 A4 A5 A6 Q0 Q1 Q2 Q3 Q4 Q5 Q6 Q7 Q8 Q9 Q10 Q11 T0 T1 T2 h0 h1 h2 h3 h4 h5 h6 h7 h8 h9 h10 h11 hK hV hK' hV' hT0 hT1 hT2 y d).trans (by
      rw [show y.val / 8 = r.val by omega, show y.val % 8 = s.val by omega])
  match r with
  | 0 => exact (piece0 _ _ _ _ _ _ _ _ s d j (by have : j.val = 0 * 128 + d.val := hj; omega)).trans ((pay20_at _ _ _ _ _ s d).trans (R ⟨s.val, by omega⟩ (by show _ = 0 * 8 + s.val; dsimp only; omega)))
  | 1 => exact (piece1 _ _ _ _ _ _ _ _ s d j (by have : j.val = 1 * 128 + d.val := hj; omega)).trans ((pay1_at _ s d).trans (R ⟨8 + s.val, by omega⟩ (by show _ = 1 * 8 + s.val; dsimp only)))
  | 2 => exact (piece2 _ _ _ _ _ _ _ _ s d j (by have : j.val = 2 * 128 + d.val := hj; omega)).trans ((pay2_at _ s d).trans (R ⟨16 + s.val, by omega⟩ (by show _ = 2 * 8 + s.val; dsimp only)))
  | 3 => exact (piece3 _ _ _ _ _ _ _ _ s d j (by have : j.val = 3 * 128 + d.val := hj; omega)).trans ((pay3_at _ s d).trans (R ⟨24 + s.val, by omega⟩ (by show _ = 3 * 8 + s.val; dsimp only)))

theorem out_at (H : Real5 m c q K V N B) (t : Fin cfg0.N) (r : Fin 4) (s : Fin 8) (d : Fin 128) (j : Fin 512) (hj : j.val = r.val * 128 + d.val) :
    (outsAt0 m c t : Vec Ideal S1x8x512 .bf16) (ix3 0 s j) = ((attn q K V N B (bOf t) (gOf t) r.val s.val d : ℝ) : EReal) := by
  have ht := lt32 t
  unfold outsAt0
  frame_out
  have q0 : ∀ (r : ℕ) (hr : r < 4) (o : ℕ) (ho : o = r * 128) (inb) (s : Fin 8) (x : Fin 128),
      View.ld (iblk m c 0 t : FVec Ideal S1x8x512 .f32) (Rect.unit (s := S1x8x512) ![0, 0, o] ![1, 8, 128] inb) (ix3 (0 : Fin 1) s x : S1x8x128.Idx)
        = ((qAt q (bOf t) (gOf t).val 0 r s.val x : ℝ) : EReal) := by
    intro r hr o ho inb s x; subst ho
    exact (ld_head _ _ inb s x (by omega)).trans (blk_q0 H t s ⟨r, hr⟩ x)
  have q1 : ∀ (r : ℕ) (hr : r < 4) (o : ℕ) (ho : o = r * 128) (inb) (s : Fin 8) (x : Fin 128),
      View.ld (iblk m c 1 t : FVec Ideal S1x8x512 .f32) (Rect.unit (s := S1x8x512) ![0, 0, o] ![1, 8, 128] inb) (ix3 (0 : Fin 1) s x : S1x8x128.Idx)
        = ((qAt q (bOf t) (gOf t).val 1 r s.val x : ℝ) : EReal) := by
    intro r hr o ho inb s x; subst ho
    exact (ld_head _ _ inb s x (by omega)).trans (blk_q1 H t s ⟨r, hr⟩ x)
  have q2 : ∀ (r : ℕ) (hr : r < 4) (o : ℕ) (ho : o = r * 128) (inb) (s : Fin 8) (x : Fin 128),
      View.ld (iblk m c 2 t : FVec Ideal S1x8x512 .f32) (Rect.unit (s := S1x8x512) ![0, 0, o] ![1, 8, 128] inb) (ix3 (0 : Fin 1) s x : S1x8x128.Idx)
        = ((qAt q (bOf t) (gOf t).val 2 r s.val x : ℝ) : EReal) := by
    intro r hr o ho inb s x; subst ho
    exact (ld_head _ _ inb s x (by omega)).trans (blk_q2 H t s ⟨r, hr⟩ x)
  refine block_of q K V N B (bOf t) (gOf t) _ _ _ _ _ _ _ _ _ _ _ _ _ _ _ _ _ _ _
    (q0 0 (by omega) _ (by rfl) _) (q0 1 (by omega) _ (by rfl) _) (q0 2 (by omega) _ (by rfl) _) (q0 3 (by omega) _ (by rfl) _)
    (q1 0 (by omega) _ (by rfl) _) (q1 1 (by omega) _ (by rfl) _) (q1 2 (by omega) _ (by rfl) _) (q1 3 (by omega) _ (by rfl) _)
    (q2 0 (by omega) _ (by rfl) _) (q2 1 (by omega) _ (by rfl) _) (q2 2 (by omega) _ (by rfl) _) (q2 3 (by omega) _ (by rfl) _)
    (fun k x => (strided _ _ _ _ _ (t.val % 4) (by omega) (off t) k x).trans (blk_k H t k x))
    (fun k x => (strided _ _ _ _ _ (t.val % 4) (by omega) (off t) k x).trans (blk_v H t k x))
    (blk_nk H t) (blk_nv H t)
    (fun y k => (ld_group _ 0 (by omega) _ y k).trans (blk_t H t 0 y k))
    (fun y k => (ld_group _ 1 (by omega) _ y k).trans (blk_t H t 1 y k))
    (fun y k => (ld_group _ 2 (by omega) _ y k).trans (blk_t H t 2 y k))
    _ _ _ _ r s d j hj

end Cert.KernelIdeal.Attend

end
-- ==== Proof.RefGroup.lean ====
module

public import proofs.«01_k».proof.Proof.Gen.ReferenceIdeal.Read
public import Idealize.ShloMosaic.Lib.Pipeline.ValueKit
public import Idealize.ShloMosaic.Lib.StableHlo.ReadAt
public import proofs.«01_k».proof.Proof.AttendSpec

@[expose] public section

set_option maxRecDepth 16384

noncomputable section

namespace Cert.ReferenceIdeal.Attend

open Cert.ReferenceIdeal Cert.ReferenceIdeal.Gen Cert.ReferenceIdeal.Read Idealize.ShloMosaic

/-- The distances a group with a dilation looks back. -/
def distR (dil : BitVec 32) : IVec S129 32 := muli (iotaInDim S129 32 0) (broadcastInDim S129 ![] bcast_S_S129 (constantI S_ 32 dil))

/-- The position of the key at each distance from each query. -/
def posR (dil : BitVec 32) : IVec S8x129 32 :=
  subi (broadcastInDim S8x129 ![0, 1] bcast_S8x1_S8x129_0_1 (broadcastInDim S8x1 ![0] bcast_S8_S8x1_0 (addi (broadcastInDim S8 ![] bcast_S_S8 (constantI S_ 32 2048#32)) (iotaInDim S8 32 0))))
    (broadcastInDim S8x129 ![0, 1] bcast_S1x129_S8x129_0_1 (broadcastInDim S1x129 ![1] bcast_S129_S1x129_1 (distR dil)))

/-- The row of the gathered keys each position names. -/
def idxR (dil : BitVec 32) : IVec S8x129x1 32 :=
  have v21 : IVec S8x129 32 := maxsi (posR dil) (broadcastInDim S8x129 ![] bcast_S_S8x129 (constantI S_ 32 0#32))
  broadcastInDim S8x129x1 ![0, 1] bcast_S8x129_S8x129x1_0_1
    (select (cmpi .slt v21 (broadcastInDim S8x129 ![] bcast_S_S8x129 (constantI S_ 32 0#32))) (addi v21 (broadcastInDim S8x129 ![] bcast_S_S8x129 (constantI S_ 32 2056#32))) v21)

/-- The bucket of each distance. -/
def bucketR (dil : BitVec 32) : IVec S129 32 :=
  have v42 : IVec S129 32 := maxsi (distR dil) (broadcastInDim S129 ![] bcast_S_S129 (constantI S_ 32 0#32))
  have v44 : IVec S129 32 := maxsi v42 (broadcastInDim S129 ![] bcast_S_S129 (constantI S_ 32 1#32))
  have v45 : FVec Ideal S129 .f32 := sitofp .f32 v44
  have v47 : FVec Ideal S129 .f32 := Host.divf v45 (broadcastInDim S129 ![] bcast_S_S129 (constant S_ .f32 0x41800000#32))
  have v48 : FVec Ideal S129 .f32 := Host.log v47
  have v50 : FVec Ideal S129 .f32 := Host.divf v48 (broadcastInDim S129 ![] bcast_S_S129 (constant S_ .f32 0x409B43D5#32))
  have v52 : FVec Ideal S129 .f32 := mulf v50 (broadcastInDim S129 ![] bcast_S_S129 (constant S_ .f32 0x41800000#32))
  have v55 : IVec S129 32 := addi (broadcastInDim S129 ![] bcast_S_S129 (constantI S_ 32 16#32)) (fptosi 32 v52)
  have v59 : IVec S129 32 := minsi v55 (broadcastInDim S129 ![] bcast_S_S129 (constantI S_ 32 31#32))
  select (cmpi .slt v42 (broadcastInDim S129 ![] bcast_S_S129 (constantI S_ 32 16#32))) v42 v59

/-- The row of the bias table each distance names. -/
def brow (dil : BitVec 32) : IVec S129x1 32 :=
  broadcastInDim S129x1 ![0] bcast_S129_S129x1_0
    (select (cmpi .slt (bucketR dil) (broadcastInDim S129 ![] bcast_S_S129 (constantI S_ 32 0#32))) (addi (bucketR dil) (broadcastInDim S129 ![] bcast_S_S129 (constantI S_ 32 32#32))) (bucketR dil))

/-- The rows a group gathers. -/
def rowsR (dil : BitVec 32) (C : FVec Ideal S8x2056x4x128 .f32) : FVec Ideal S8x8x129x4x128 .f32 :=
  Host.gather gather_S8x2056x4x128_S8x129x1_S8x8x129x4x128_034_1_n_n_1_2_814128 C (idxR dil)

/-- The logits of a group before the bias. -/
def dotsR (Q : FVec Ideal S8x8x4x4x128 .f32) (R : FVec Ideal S8x8x129x4x128 .f32) : FVec Ideal S8x8x4x4x129 .f32 :=
  mulf (Host.dotGeneral dot_S8x8x4x4x128_S8x8x129x4x128_S8x8x4x4x129_4_4_3_2_012_013 none Q R : FVec Ideal S8x8x4x4x129 .f32)
    (broadcastInDim S8x8x4x4x129 ![] bcast_S_S8x8x4x4x129 (constant S_ .f32 0x3DB504F3#32))

/-- The logits of a group. -/
def logitsR (dil : BitVec 32) (D : FVec Ideal S8x8x4x4x129 .f32) (X : FVec Ideal S32x16 .f32) : FVec Ideal S8x8x4x4x129 .f32 :=
  have v67 : FVec Ideal S129x16 .f32 := Host.gather gather_S32x16_S129x1_S129x16_1_0_n_n_0_1_116 X (brow dil)
  have v69 : FVec Ideal S4x4x129 .f32 := shapeCast S4x4x129 (transpose S16x129 [1, 0] v67 transposes_S129x16_S16x129_1_0) shapeCasts_S16x129_S4x4x129
  have v73 : FVec Ideal S8x8x4x4x129 .f32 := addf D (broadcastInDim S8x8x4x4x129 ![0, 1, 2, 3, 4] bcast_S1x1x4x4x129_S8x8x4x4x129_0_1_2_3_4 (broadcastInDim S1x1x4x4x129 ![2, 3, 4] bcast_S4x4x129_S1x1x4x4x129_2_3_4 v69))
  have v19 : IVec S8x129 1 := cmpi .sge (posR dil) (broadcastInDim S8x129 ![] bcast_S_S8x129 (constantI S_ 32 0#32))
  select (broadcastInDim S8x8x4x4x129 ![0, 1, 2, 3, 4] bcast_S1x8x1x1x129_S8x8x4x4x129_0_1_2_3_4 (broadcastInDim S1x8x1x1x129 ![1, 4] bcast_S8x129_S1x8x1x1x129_1_4 v19)) v73
    (broadcastInDim S8x8x4x4x129 ![] bcast_S_S8x8x4x4x129 (constant S_ .f32 0xF149F2CA#32))

/-- The largest logit of each row. -/
def topR (L : FVec Ideal S8x8x4x4x129 .f32) : FVec Ideal S8x8x4x4x1 .f32 :=
  broadcastInDim S8x8x4x4x1 ![0, 1, 2, 3] bcast_S8x8x4x4_S8x8x4x4x1_0_1_2_3
    (Host.reduce FloatOps.maximumf L (constant S_ .f32 0xFF800000#32) reducesTo_S8x8x4x4x129_S8x8x4x4_d4 h_S_ : FVec Ideal S8x8x4x4 .f32)

/-- The weights under a shift. -/
def expR (L : FVec Ideal S8x8x4x4x129 .f32) (T : FVec Ideal S8x8x4x4x1 .f32) : FVec Ideal S8x8x4x4x129 .f32 :=
  Host.exp (subf L (broadcastInDim S8x8x4x4x129 ![0, 1, 2, 3, 4] bcast_S8x8x4x4x1_S8x8x4x4x129_0_1_2_3_4 T))

/-- The weights' sums. -/
def sumR (E : FVec Ideal S8x8x4x4x129 .f32) : FVec Ideal S8x8x4x4 .f32 :=
  Host.reduceAdd E (constant S_ .f32 0x00000000#32) reducesTo_S8x8x4x4x129_S8x8x4x4_d4 h_S_

/-- A group's output. -/
def outR (E : FVec Ideal S8x8x4x4x129 .f32) (R : FVec Ideal S8x8x129x4x128 .f32) : FVec Ideal S8x8x4x4x128 .f32 :=
  Host.divf (Host.dotGeneral dot_S8x8x4x4x129_S8x8x129x4x128_S8x8x4x4x128_4_2_3_4_012_013 none E R : FVec Ideal S8x8x4x4x128 .f32)
    (broadcastInDim S8x8x4x4x128 ![0, 1, 2, 3, 4] bcast_S8x8x4x4x1_S8x8x4x4x128_0_1_2_3_4 (broadcastInDim S8x8x4x4x1 ![0, 1, 2, 3] bcast_S8x8x4x4_S8x8x4x4x1_0_1_2_3 (sumR E)))

/-- The logarithm of a group's weights' sum. -/
def lseR (E : FVec Ideal S8x8x4x4x129 .f32) (T : FVec Ideal S8x8x4x4x1 .f32) : FVec Ideal S8x8x4x4 .f32 :=
  addf (shapeCast S8x8x4x4 T shapeCasts_S8x8x4x4x1_S8x8x4x4) (Host.log (sumR E))

variable (x0 : FVec Ideal S8x8x6144 .f32) (x1 x2 : FVec Ideal S8x2048x4x128 .f32) (x3 : FVec Ideal S8x8x1024 .f32) (x4 : FVec Ideal S32x16 .f32)

theorem log0 : val_main_v74 (F := Ideal) x0 x1 x3 x4 = logitsR 1#32 (dotsR (val_main_v37 (F := Ideal) x0) (rowsR 1#32 (val_main_v3 (F := Ideal) x1 x3))) x4 := rfl
theorem log1 : val_main_v152 (F := Ideal) x0 x1 x3 x4 = logitsR 4#32 (dotsR (val_main_v115 (F := Ideal) x0) (rowsR 4#32 (val_main_v3 (F := Ideal) x1 x3))) x4 := rfl
theorem log2 : val_main_v230 (F := Ideal) x0 x1 x3 x4 = logitsR 16#32 (dotsR (val_main_v193 (F := Ideal) x0) (rowsR 16#32 (val_main_v3 (F := Ideal) x1 x3))) x4 := rfl

theorem lse0 : val_main_v87 (F := Ideal) x0 x1 x3 x4 = lseR (expR (val_main_v74 (F := Ideal) x0 x1 x3 x4) (topR (val_main_v74 (F := Ideal) x0 x1 x3 x4))) (topR (val_main_v74 (F := Ideal) x0 x1 x3 x4)) := rfl
theorem lse1 : val_main_v165 (F := Ideal) x0 x1 x3 x4 = lseR (expR (val_main_v152 (F := Ideal) x0 x1 x3 x4) (topR (val_main_v152 (F := Ideal) x0 x1 x3 x4))) (topR (val_main_v152 (F := Ideal) x0 x1 x3 x4)) := rfl
theorem lse2 : val_main_v243 (F := Ideal) x0 x1 x3 x4 = lseR (expR (val_main_v230 (F := Ideal) x0 x1 x3 x4) (topR (val_main_v230 (F := Ideal) x0 x1 x3 x4))) (topR (val_main_v230 (F := Ideal) x0 x1 x3 x4)) := rfl

theorem out0 : val_main_v84 (F := Ideal) x0 x1 x2 x3 x4 = outR (expR (val_main_v74 (F := Ideal) x0 x1 x3 x4) (topR (val_main_v74 (F := Ideal) x0 x1 x3 x4))) (rowsR 1#32 (val_main_v5 (F := Ideal) x2 x3)) := rfl
theorem out1 : val_main_v162 (F := Ideal) x0 x1 x2 x3 x4 = outR (expR (val_main_v152 (F := Ideal) x0 x1 x3 x4) (topR (val_main_v152 (F := Ideal) x0 x1 x3 x4))) (rowsR 4#32 (val_main_v5 (F := Ideal) x2 x3)) := rfl
theorem out2 : val_main_v240 (F := Ideal) x0 x1 x2 x3 x4 = outR (expR (val_main_v230 (F := Ideal) x0 x1 x3 x4) (topR (val_main_v230 (F := Ideal) x0 x1 x3 x4))) (rowsR 16#32 (val_main_v5 (F := Ideal) x2 x3)) := rfl

end Cert.ReferenceIdeal.Attend

end
-- ==== Proof.RefRead.lean ====
module

public import proofs.«01_k».proof.Proof.RefGroup

@[expose] public section

set_option maxRecDepth 16384

noncomputable section

namespace Cert.ReferenceIdeal.Attend

open Cert.ReferenceIdeal Cert.ReferenceIdeal.Gen Cert.ReferenceIdeal.Read Idealize.ShloMosaic Cert.SoftmaxMath
open Cert.KernelIdeal.Attend (dilN keyOf bucketW rowW biasAt)

/-- The position of a key, as a word. -/
def posW (dil : BitVec 32) (s j : ℕ) : BitVec 32 :=
  IntOp.subi (IntOp.addi 2048#32 (BitVec.ofNat 32 s)) (IntOp.muli (BitVec.ofNat 32 j) dil)

/-- The row a position names. -/
def keyW (w : BitVec 32) : BitVec 32 :=
  Scalar.select (IntOp.cmpi .slt (IntOp.maxsi w 0#32) 0#32) (IntOp.addi (IntOp.maxsi w 0#32) 2056#32) (IntOp.maxsi w 0#32)

/-- Every position a window names is at least zero and inside the rows. -/
theorem key_iff : ∀ (n : Fin 3) (s : Fin 8) (j : Fin 129),
    min (keyW (posW (BitVec.ofNat 32 (dilN n)) s.val j.val)).toInt.toNat 2055 = 2048 + s.val - j.val * dilN n
      ∧ IntOp.cmpi .sge (posW (BitVec.ofNat 32 (dilN n)) s.val j.val) 0#32 = 1#1
      ∧ IntOp.maxsi (IntOp.muli (BitVec.ofNat 32 j.val) (BitVec.ofNat 32 (dilN n))) 0#32 = BitVec.ofNat 32 (j.val * dilN n)
      ∧ j.val * dilN n ≤ 2048 := by
  decide +kernel

theorem idx_at (dil : BitVec 32) (i : S8x129x1.Idx) : idxR dil i = keyW (posW dil (i 0).val (i 1).val) := by
  unfold idxR posR distR
  pointwise
  rfl

theorem pos_at (dil : BitVec 32) (i : S8x129.Idx) : posR dil i = posW dil (i 0).val (i 1).val := by
  unfold posR distR
  pointwise
  rfl

theorem brow_at (dil : BitVec 32) (i : S129x1.Idx) :
    brow dil i = rowW (bucketW (IntOp.maxsi (IntOp.muli (BitVec.ofNat 32 (i 0).val) dil) 0#32)) := by
  unfold brow bucketR distR
  pointwise
  rfl

theorem gather_at (C : FVec Ideal S8x2056x4x128 .f32) (I : IVec S8x129x1 32) (b s : Fin 8) (j : Fin 129) (g : Fin 4) (x : Fin 128) :
    Host.gather gather_S8x2056x4x128_S8x129x1_S8x8x129x4x128_034_1_n_n_1_2_814128 C I (ix5 b s j g x)
      = C (ix4 b ⟨min (I (ix3 s j 0)).toInt.toNat 2055, by omega⟩ g x) := by
  unfold Host.gather
  congr 1
  funext a
  refine Fin.ext ?_
  match a with
  | ⟨0, _⟩ => exact Nat.zero_add _
  | ⟨1, _⟩ =>
    show min (I _).toInt.toNat 2055 + 0 + 0 = min (I _).toInt.toNat 2055
    refine congrArg (fun z => min (I z).toInt.toNat 2055) ?_
    funext b
    match b with
    | ⟨0, _⟩ => rfl
    | ⟨1, _⟩ => rfl
    | ⟨2, _⟩ => rfl
  | ⟨2, _⟩ => exact Nat.zero_add _
  | ⟨3, _⟩ => exact Nat.zero_add _

/-- An element of a row, at the row a word names. -/
def atRow (C : FVec Ideal S8x2056x4x128 .f32) (b : Fin 8) (g : Fin 4) (x : Fin 128) (w : BitVec 32) : EReal :=
  C (ix4 b ⟨min w.toInt.toNat 2055, by omega⟩ g x)

theorem rows_at (dil : BitVec 32) (C : FVec Ideal S8x2056x4x128 .f32) (b s : Fin 8) (j : Fin 129) (g : Fin 4) (x : Fin 128) :
    rowsR dil C (ix5 b s j g x) = atRow C b g x (keyW (posW dil s.val j.val)) :=
  (gather_at C (idxR dil) b s j g x).trans (congrArg (atRow C b g x) (idx_at dil (ix3 s j 0)))

theorem bias_at (X : FVec Ideal S32x16 .f32) (I : IVec S129x1 32) (y : S129x16.Idx) :
    Host.gather gather_S32x16_S129x1_S129x16_1_0_n_n_0_1_116 X I y = X (ix2 ⟨min (I (ix2 (y 0) 0)).toInt.toNat 31, by omega⟩ (y 1)) := by
  unfold Host.gather
  congr 1
  funext a
  refine Fin.ext ?_
  match a with
  | ⟨0, _⟩ =>
    show min (I _).toInt.toNat 31 + 0 + 0 = min (I _).toInt.toNat 31
    refine congrArg (fun z => min (I z).toInt.toNat 31) ?_
    funext b
    match b with
    | ⟨0, _⟩ => rfl
    | ⟨1, _⟩ => rfl
  | ⟨1, _⟩ => exact Nat.zero_add _

theorem bias_row (dil : BitVec 32) (X : FVec Ideal S32x16 .f32) (y : S129x16.Idx) :
    Host.gather gather_S32x16_S129x1_S129x16_1_0_n_n_0_1_116 X (brow dil) y
      = biasAt X (y 1) (bucketW (IntOp.maxsi (IntOp.muli (BitVec.ofNat 32 (y 0).val) dil) 0#32)) :=
  (bias_at X (brow dil) y).trans
    (congrArg (fun w : BitVec 32 => X (ix2 ⟨min w.toInt.toNat 31, by omega⟩ (y 1))) (brow_at dil (ix2 (y 0) 0)))

theorem logits_at (dil : BitVec 32) (D : FVec Ideal S8x8x4x4x129 .f32) (X : FVec Ideal S32x16 .f32) (b s : Fin 8) (g r : Fin 4) (j : Fin 129)
    (hv : IntOp.cmpi .sge (posW dil s.val j.val) 0#32 = 1#1) :
    logitsR dil D X (ix5 b s g r j)
      = (D (ix5 b s g r j) : EReal) + biasAt X ⟨g.val * 4 + r.val, by omega⟩ (bucketW (IntOp.maxsi (IntOp.muli (BitVec.ofNat 32 j.val) dil) 0#32)) := by
  have hp : posR dil (ix2 s j) = posW dil s.val j.val := pos_at dil (ix2 s j)
  have hG := bias_row dil X
  unfold logitsR
  generalize posR dil = P at hp
  generalize Host.gather gather_S32x16_S129x1_S129x16_1_0_n_n_0_1_116 X (brow dil) = G at hG
  pointwise
  rw [hp, hv]
  exact (if_pos rfl).trans (congrArg (fun z => (D (ix5 b s g r j) : EReal) + z) (hG _))

theorem dots_at (Q : FVec Ideal S8x8x4x4x128 .f32) (R : FVec Ideal S8x8x129x4x128 .f32) (b s : Fin 8) (g r : Fin 4) (j : Fin 129) :
    dotsR Q R (ix5 b s g r j) = (∑ x : Fin 128, (Q (ix5 b s g r x) : EReal) * R (ix5 b s j g x)) * Ideal.ofBits .f32 0x3DB504F3#32 := by
  pointwise [dotsR]

theorem top_at (L : FVec Ideal S8x8x4x4x129 .f32) (b s : Fin 8) (g r : Fin 4) :
    topR L (ix5 b s g r 0) = (Finset.univ : Finset (Fin 129)).fold max (Ideal.ofBits .f32 0xFF800000#32) (fun j => L (ix5 b s g r j)) := by
  pointwise [topR]

theorem exp_at (L : FVec Ideal S8x8x4x4x129 .f32) (T : FVec Ideal S8x8x4x4x1 .f32) (b s : Fin 8) (g r : Fin 4) (j : Fin 129) :
    expR L T (ix5 b s g r j) = Ideal.exp ((L (ix5 b s g r j) : EReal) - T (ix5 b s g r 0)) := by
  pointwise [expR]

theorem sum_at (E : FVec Ideal S8x8x4x4x129 .f32) (b s : Fin 8) (g r : Fin 4) :
    sumR E (ix4 b s g r) = 0 + ∑ j : Fin 129, (E (ix5 b s g r j) : EReal) := by
  pointwise [sumR]

theorem out_at (E : FVec Ideal S8x8x4x4x129 .f32) (R : FVec Ideal S8x8x129x4x128 .f32) (b s : Fin 8) (g r : Fin 4) (d : Fin 128) :
    outR E R (ix5 b s g r d) = Ideal.div (∑ j : Fin 129, (E (ix5 b s g r j) : EReal) * R (ix5 b s j g d)) (sumR E (ix4 b s g r)) := by
  unfold outR
  generalize sumR E = S
  pointwise

theorem lse_at (E : FVec Ideal S8x8x4x4x129 .f32) (T : FVec Ideal S8x8x4x4x1 .f32) (b s : Fin 8) (g r : Fin 4) :
    lseR E T (ix4 b s g r) = (T (ix5 b s g r 0) : EReal) + Ideal.log (sumR E (ix4 b s g r)) := by
  unfold lseR
  generalize sumR E = S
  pointwise

end Cert.ReferenceIdeal.Attend

end
-- ==== Proof.RefAttend.lean ====
module

public import proofs.«01_k».proof.Proof.RefRead

@[expose] public section

set_option maxRecDepth 16384

noncomputable section

namespace Cert.ReferenceIdeal.Attend

open Cert.ReferenceIdeal Cert.ReferenceIdeal.Gen Cert.ReferenceIdeal.Read Idealize.ShloMosaic Cert.SoftmaxMath
open Cert.KernelIdeal.Attend (dilN keyOf bucketW rowW biasAt qAt rowOf biasR score denOf numOf attn)

theorem rows_all (C : FVec Ideal S8x2048x4x128 .f32) (N : FVec Ideal S8x8x1024 .f32) (b : Fin 8) (k : Fin 2056) (g : Fin 4) (x : Fin 128) :
    val_main_v3 (F := Ideal) C N (ix4 b k g x) = if h : k.val < 2048 then C (ix4 b ⟨k.val, h⟩ g x) else N (ix3 b ⟨k.val - 2048, by omega⟩ ⟨g.val * 128 + x.val, by omega⟩) := by
  unfold val_main_v3 val_main_v2 val_main_v0
  pointwise

theorem vals_all (C : FVec Ideal S8x2048x4x128 .f32) (N : FVec Ideal S8x8x1024 .f32) (b : Fin 8) (k : Fin 2056) (g : Fin 4) (x : Fin 128) :
    val_main_v5 (F := Ideal) C N (ix4 b k g x) = if h : k.val < 2048 then C (ix4 b ⟨k.val, h⟩ g x) else N (ix3 b ⟨k.val - 2048, by omega⟩ ⟨512 + (g.val * 128 + x.val), by omega⟩) := by
  unfold val_main_v5 val_main_v4 val_main_v1
  pointwise

theorem q0_at (X : FVec Ideal S8x8x6144 .f32) (b s : Fin 8) (g r : Fin 4) (x : Fin 128) :
    val_main_v37 (F := Ideal) X (ix5 b s g r x) = X (ix3 b s ⟨0 + g.val * 512 + r.val * 128 + x.val, by omega⟩) := by
  unfold val_main_v37 val_main_v36 val_main_v6
  pointwise

theorem q1_at (X : FVec Ideal S8x8x6144 .f32) (b s : Fin 8) (g r : Fin 4) (x : Fin 128) :
    val_main_v115 (F := Ideal) X (ix5 b s g r x) = X (ix3 b s ⟨2048 + g.val * 512 + r.val * 128 + x.val, by omega⟩) := by
  unfold val_main_v115 val_main_v114 val_main_v6
  pointwise

theorem q2_at (X : FVec Ideal S8x8x6144 .f32) (b s : Fin 8) (g r : Fin 4) (x : Fin 128) :
    val_main_v193 (F := Ideal) X (ix5 b s g r x) = X (ix3 b s ⟨4096 + g.val * 512 + r.val * 128 + x.val, by omega⟩) := by
  unfold val_main_v193 val_main_v192 val_main_v6
  pointwise

variable (q : S8x8x6144.Idx → ℝ) (K V : S8x2048x4x128.Idx → ℝ) (N : S8x8x1024.Idx → ℝ) (B : S32x16.Idx → ℝ)

theorem rows_real (C : FVec Ideal S8x2048x4x128 .f32) (N' : FVec Ideal S8x8x1024 .f32) (hC : ∀ i, C i = ((K i : ℝ) : EReal)) (hN : ∀ i, N' i = ((N i : ℝ) : EReal))
    (b : Fin 8) (k : Fin 2056) (g : Fin 4) (x : Fin 128) : val_main_v3 (F := Ideal) C N' (ix4 b k g x) = ((rowOf K N 0 b g k.val x : ℝ) : EReal) := by
  rw [rows_all]
  unfold rowOf
  by_cases h : k.val < 2048
  · rw [dif_pos h, dif_pos h]
    exact hC _
  · rw [dif_neg h, dif_neg h, dif_pos (by omega)]
    refine (hN _).trans (congrArg (fun z => ((N z : ℝ) : EReal)) ?_)
    exact congrArg (fun z : Fin 1024 => (ix3 b ⟨k.val - 2048, by omega⟩ z : S8x8x1024.Idx)) (Fin.ext (by show g.val * 128 + x.val = (0 + g.val * 128 + x.val) % 1024; omega))

theorem vals_real (C : FVec Ideal S8x2048x4x128 .f32) (N' : FVec Ideal S8x8x1024 .f32) (hC : ∀ i, C i = ((K i : ℝ) : EReal)) (hN : ∀ i, N' i = ((N i : ℝ) : EReal))
    (b : Fin 8) (k : Fin 2056) (g : Fin 4) (x : Fin 128) : val_main_v5 (F := Ideal) C N' (ix4 b k g x) = ((rowOf K N 512 b g k.val x : ℝ) : EReal) := by
  rw [vals_all]
  unfold rowOf
  by_cases h : k.val < 2048
  · rw [dif_pos h, dif_pos h]
    exact hC _
  · rw [dif_neg h, dif_neg h, dif_pos (by omega)]
    refine (hN _).trans (congrArg (fun z => ((N z : ℝ) : EReal)) ?_)
    exact congrArg (fun z : Fin 1024 => (ix3 b ⟨k.val - 2048, by omega⟩ z : S8x8x1024.Idx)) (Fin.ext (by show 512 + (g.val * 128 + x.val) = (512 + g.val * 128 + x.val) % 1024; omega))

theorem q_real (n : Fin 3) (X : FVec Ideal S8x8x6144 .f32) (hX : ∀ i, X i = ((q i : ℝ) : EReal)) (b s : Fin 8) (g r : Fin 4) (x : Fin 128) (o : Fin 6144)
    (ho : o.val = n.val * 2048 + g.val * 512 + r.val * 128 + x.val) : X (ix3 b s o) = ((qAt q b g.val n.val r.val s.val x : ℝ) : EReal) := by
  refine (hX _).trans (congrArg (fun z => ((q z : ℝ) : EReal)) ?_)
  have e1 : s = ⟨s.val % 8, by omega⟩ := Fin.ext (by show s.val = s.val % 8; omega)
  have e2 : o = ⟨(n.val * 2048 + g.val * 512 + r.val * 128 + x.val) % 6144, by omega⟩ := Fin.ext (by show o.val = _ % 6144; omega)
  exact congrArg₂ (fun (a : Fin 8) (c : Fin 6144) => (ix3 b a c : S8x8x6144.Idx)) e1 e2

/-- What a word's row holds, at a place of a window. -/
theorem at_key (C : FVec Ideal S8x2056x4x128 .f32) (b s : Fin 8) (g : Fin 4) (f : ℕ → Fin 128 → ℝ) (h : ∀ (k : Fin 2056) x, C (ix4 b k g x) = ((f k.val x : ℝ) : EReal))
    (n : Fin 3) (j : Fin 129) (x : Fin 128) : rowsR (BitVec.ofNat 32 (dilN n)) C (ix5 b s j g x) = ((f (keyOf n s.val j.val) x : ℝ) : EReal) := by
  rw [rows_at]
  unfold atRow
  rw [h]
  refine congrArg (fun k => ((f k x : ℝ) : EReal)) ?_
  exact (key_iff n s j).1

/-- A group's logits. -/
theorem logits_real (n : Fin 3) (Q : FVec Ideal S8x8x4x4x128 .f32) (C : FVec Ideal S8x2056x4x128 .f32) (X : FVec Ideal S32x16 .f32) (b s : Fin 8) (g r : Fin 4)
    (hQ : ∀ x, Q (ix5 b s g r x) = ((qAt q b g.val n.val r.val s.val x : ℝ) : EReal))
    (hC : ∀ (k : Fin 2056) x, C (ix4 b k g x) = ((rowOf K N 0 b g k.val x : ℝ) : EReal)) (hX : ∀ i, X i = ((B i : ℝ) : EReal)) (j : Fin 129) :
    logitsR (BitVec.ofNat 32 (dilN n)) (dotsR Q (rowsR (BitVec.ofNat 32 (dilN n)) C)) X (ix5 b s g r j)
      = ((score q K N B b g n r.val s.val (keyOf n s.val j.val) : ℝ) : EReal) := by
  obtain ⟨_, hv, hm, hle⟩ := key_iff n s j
  rw [logits_at _ _ _ _ _ _ _ _ hv, dots_at, hm, bits_scale]
  have hr := at_key C b s g (fun k x => rowOf K N 0 b g k x) hC n j
  simp only [hr, hQ]
  unfold score
  rw [EReal.coe_add, EReal.coe_mul, coe_sum]
  simp only [EReal.coe_mul]
  refine congrArg₂ (· + ·) rfl ?_
  unfold biasAt
  refine (hX _).trans ?_
  unfold biasR
  have e : 2048 + s.val - keyOf n s.val j.val = j.val * dilN n := by unfold keyOf; omega
  rw [e]
  refine congrArg (fun z => ((B z : ℝ) : EReal)) ?_
  exact congrArg (fun z : Fin 16 => (ix2 _ z : S32x16.Idx)) (Fin.ext (by show g.val * 4 + r.val = (g.val * 4 + r.val) % 16; omega))

/-- A row's largest logit is a real number. -/
theorem top_real (L : FVec Ideal S8x8x4x4x129 .f32) (b s : Fin 8) (g r : Fin 4) (sc : Fin 129 → ℝ) (h : ∀ j, L (ix5 b s g r j) = ((sc j : ℝ) : EReal)) :
    ∃ μ : ℝ, topR L (ix5 b s g r 0) = (μ : EReal) := by
  rw [top_at]
  simp only [h]
  refine exists_real ?_ ?_
  · exact fold_ne_top _ _ _ (by rw [bits_neg_inf]; exact bot_ne_top) fun j _ => EReal.coe_ne_top _
  · exact fold_ne_bot _ _ _ 0 (Finset.mem_univ _) (EReal.coe_ne_bot _)

theorem group_real (L : FVec Ideal S8x8x4x4x129 .f32) (R : FVec Ideal S8x8x129x4x128 .f32) (b s : Fin 8) (g r : Fin 4) (sc : Fin 129 → ℝ)
    (h : ∀ j, L (ix5 b s g r j) = ((sc j : ℝ) : EReal)) :
    lseR (expR L (topR L)) (topR L) (ix4 b s g r) = ((Real.log (∑ j, Real.exp (sc j)) : ℝ) : EReal)
      ∧ ∀ (d : Fin 128) (v : Fin 129 → ℝ), (∀ j, R (ix5 b s j g d) = ((v j : ℝ) : EReal)) →
        outR (expR L (topR L)) R (ix5 b s g r d) = (((∑ j, Real.exp (sc j) * v j) / (∑ j, Real.exp (sc j)) : ℝ) : EReal) := by
  obtain ⟨μ, hμ⟩ := top_real L b s g r sc h
  constructor
  · rw [lse_at, sum_at]
    simp only [exp_at, h, hμ]
    exact group_lse sc μ
  · intro d v hv
    rw [out_at, sum_at]
    simp only [exp_at, h, hμ, hv]
    exact group_out sc v μ

theorem merge_all (x0 : FVec Ideal S8x8x6144 .f32) (x1 x2 : FVec Ideal S8x2048x4x128 .f32) (x3 : FVec Ideal S8x8x1024 .f32) (x4 : FVec Ideal S32x16 .f32)
    (b s : Fin 8) (g r : Fin 4) (d : Fin 128) (S M : Fin 3 → ℝ) (hS : ∀ n, 0 < S n)
    (h0 : val_main_v87 (F := Ideal) x0 x1 x3 x4 (ix4 b s g r) = ((Real.log (S 0) : ℝ) : EReal)) (h1 : val_main_v165 (F := Ideal) x0 x1 x3 x4 (ix4 b s g r) = ((Real.log (S 1) : ℝ) : EReal))
    (h2 : val_main_v243 (F := Ideal) x0 x1 x3 x4 (ix4 b s g r) = ((Real.log (S 2) : ℝ) : EReal))
    (o0 : val_main_v84 (F := Ideal) x0 x1 x2 x3 x4 (ix5 b s g r d) = ((M 0 / S 0 : ℝ) : EReal)) (o1 : val_main_v162 (F := Ideal) x0 x1 x2 x3 x4 (ix5 b s g r d) = ((M 1 / S 1 : ℝ) : EReal))
    (o2 : val_main_v240 (F := Ideal) x0 x1 x2 x3 x4 (ix5 b s g r d) = ((M 2 / S 2 : ℝ) : EReal)) :
    val_main_v263 (F := Ideal) x0 x1 x2 x3 x4 (ix5 b s g r d) = (((∑ n, M n) / (∑ n, S n) : ℝ) : EReal) := by
  unfold val_main_v263 val_main_v262 val_main_v261 val_main_v260 val_main_v259 val_main_v258 val_main_v257 val_main_v256 val_main_v255 val_main_v254 val_main_v253
    val_main_v252 val_main_v251 val_main_v250 val_main_v249 val_main_v248 val_main_v247 val_main_v246 val_main_v245 val_main_v244 val_main_cst_62 val_main_cst_63 val_main_cst_64
  generalize val_main_v87 (F := Ideal) x0 x1 x3 x4 = l0 at *
  generalize val_main_v165 (F := Ideal) x0 x1 x3 x4 = l1 at *
  generalize val_main_v243 (F := Ideal) x0 x1 x3 x4 = l2 at *
  generalize val_main_v84 (F := Ideal) x0 x1 x2 x3 x4 = a0 at *
  generalize val_main_v162 (F := Ideal) x0 x1 x2 x3 x4 = a1 at *
  generalize val_main_v240 (F := Ideal) x0 x1 x2 x3 x4 = a2 at *
  pointwise
  have hl : ∀ x : Fin 3, (if h : x.val < 1 then l0 (ix4 b s g r) else if h : x.val - 1 < 1 then l1 (ix4 b s g r) else l2 (ix4 b s g r))
      = ((Real.log (S x) : ℝ) : EReal) := fun x => by fin_cases x; exacts [h0, h1, h2]
  have ho : ∀ x : Fin 3, (if h : x.val < 1 then a0 (ix5 b s g r d) else if h : x.val - 1 < 1 then a1 (ix5 b s g r d) else a2 (ix5 b s g r d))
      = ((M x / S x : ℝ) : EReal) := fun x => by fin_cases x; exacts [o0, o1, o2]
  simp only [hl, ho]
  obtain ⟨T, hT⟩ : ∃ T : ℝ, max (Ideal.ofBits .f32 0xFF800000#32) (Finset.fold max (Ideal.ofBits .f32 0xFF800000#32) (fun x : Fin 3 => ((Real.log (S x) : ℝ) : EReal)) Finset.univ)
      = (T : EReal) := by
    rw [bits_neg_inf, max_eq_right bot_le]
    exact exists_real (fold_ne_top _ _ _ bot_ne_top fun j _ => EReal.coe_ne_top _) (fold_ne_bot _ _ _ 0 (Finset.mem_univ _) (EReal.coe_ne_bot _))
  simp only [hT]
  have h := merge S M hS T
  rw [zero_add] at h
  exact h

/-- The flattened output: column `g*512 + r*128 + d` is element `d` of head `r` of key head `g`. -/
theorem flat_at (x0 : FVec Ideal S8x8x6144 .f32) (x1 x2 : FVec Ideal S8x2048x4x128 .f32) (x3 : FVec Ideal S8x8x1024 .f32) (x4 : FVec Ideal S32x16 .f32)
    (b s : Fin 8) (f : Fin 2048) : val_main_v265 (F := Ideal) x0 x1 x2 x3 x4 (ix3 b s f)
      = val_main_v263 (F := Ideal) x0 x1 x2 x3 x4 (ix5 b s ⟨f.val / 512, by omega⟩ ⟨f.val % 512 / 128, by omega⟩ ⟨f.val % 128, by omega⟩) := by
  unfold val_main_v265 val_main_v264
  generalize val_main_v263 (F := Ideal) x0 x1 x2 x3 x4 = w
  pointwise
  exact congrArg (fun r : Fin 4 => w (ix5 b s ⟨f.val / 512, by omega⟩ r ⟨f.val % 128, by omega⟩)) (Fin.ext (by show f.val / 128 % 4 = f.val % 512 / 128; omega))

theorem attn_at (x0 : FVec Ideal S8x8x6144 .f32) (x1 x2 : FVec Ideal S8x2048x4x128 .f32) (x3 : FVec Ideal S8x8x1024 .f32) (x4 : FVec Ideal S32x16 .f32)
    (hq : ∀ i, x0 i = ((q i : ℝ) : EReal)) (hK : ∀ i, x1 i = ((K i : ℝ) : EReal)) (hV : ∀ i, x2 i = ((V i : ℝ) : EReal)) (hN : ∀ i, x3 i = ((N i : ℝ) : EReal))
    (hB : ∀ i, x4 i = ((B i : ℝ) : EReal)) (b s : Fin 8) (g r : Fin 4) (d : Fin 128) :
    val_main_v263 (F := Ideal) x0 x1 x2 x3 x4 (ix5 b s g r d) = ((attn q K V N B b g r.val s.val d : ℝ) : EReal) := by
  have hk := rows_real K N x1 x3 hK hN b
  have hv := vals_real V N x2 x3 hV hN b
  have L0 := logits_real q K N B 0 (val_main_v37 (F := Ideal) x0) (val_main_v3 (F := Ideal) x1 x3) x4 b s g r
    (fun x => (q0_at x0 b s g r x).trans (q_real q 0 x0 hq b s g r x _ (by simp))) (fun k x => hk k g x) hB
  have L1 := logits_real q K N B 1 (val_main_v115 (F := Ideal) x0) (val_main_v3 (F := Ideal) x1 x3) x4 b s g r
    (fun x => (q1_at x0 b s g r x).trans (q_real q 1 x0 hq b s g r x _ (by simp))) (fun k x => hk k g x) hB
  have L2 := logits_real q K N B 2 (val_main_v193 (F := Ideal) x0) (val_main_v3 (F := Ideal) x1 x3) x4 b s g r
    (fun x => (q2_at x0 b s g r x).trans (q_real q 2 x0 hq b s g r x _ (by simp))) (fun k x => hk k g x) hB
  have V0 := at_key (val_main_v5 (F := Ideal) x2 x3) b s g (fun k x => rowOf V N 512 b g k x) (fun k x => hv k g x) 0
  have V1 := at_key (val_main_v5 (F := Ideal) x2 x3) b s g (fun k x => rowOf V N 512 b g k x) (fun k x => hv k g x) 1
  have V2 := at_key (val_main_v5 (F := Ideal) x2 x3) b s g (fun k x => rowOf V N 512 b g k x) (fun k x => hv k g x) 2
  have G0 := group_real _ (rowsR (BitVec.ofNat 32 (dilN 0)) (val_main_v5 (F := Ideal) x2 x3)) b s g r _ L0
  have G1 := group_real _ (rowsR (BitVec.ofNat 32 (dilN 1)) (val_main_v5 (F := Ideal) x2 x3)) b s g r _ L1
  have G2 := group_real _ (rowsR (BitVec.ofNat 32 (dilN 2)) (val_main_v5 (F := Ideal) x2 x3)) b s g r _ L2
  have hS : ∀ n, 0 < denOf q K N B b g r.val s.val n := fun n => Finset.sum_pos (fun _ _ => Real.exp_pos _) ⟨0, Finset.mem_univ _⟩
  refine merge_all x0 x1 x2 x3 x4 b s g r d (denOf q K N B b g r.val s.val) (numOf q K V N B b g r.val s.val d) hS ?_ ?_ ?_ ?_ ?_ ?_
  · rw [lse0, log0]; exact G0.1
  · rw [lse1, log1]; exact G1.1
  · rw [lse2, log2]; exact G2.1
  · rw [out0, log0]; exact G0.2 d _ fun j => V0 j d
  · rw [out1, log1]; exact G1.2 d _ fun j => V1 j d
  · rw [out2, log2]; exact G2.2 d _ fun j => V2 j d

end Cert.ReferenceIdeal.Attend

end
-- ==== Proof.Attend.lean ====
module

public import proofs.«01_k».proof.Defs
public import proofs.«01_k».proof.Proof.AttendPoint
public import proofs.«01_k».proof.Proof.RefAttend
public import proofs.«01_k».proof.Proof.Gen.KernelIdeal.Value
public import proofs.«01_k».proof.Proof.Gen.ReferenceIdeal.Run
public import Idealize.ShloMosaic.Lib.ReduceAll
public import Idealize.ShloMosaic.Lib.Pipeline.ValueKit
public import Idealize.ShloMosaic.Lib.Pipeline.ReadBack

/-! # What the decode attention writes

On finite arguments the array the kernel ends with is the reference's, element by element. -/

@[expose] public section

set_option maxRecDepth 16384

noncomputable section

namespace Cert.KernelIdeal.Attend

open Cert.KernelIdeal Cert.KernelIdeal.Gen Idealize.ShloMosaic Idealize.ShloMosaic.TcCoe Idealize.SL.Sem Cert.SoftmaxMath
open Idealize.ShloMosaic.Pipeline (Dat)
open Cert.ReferenceIdeal.Read

/-- The precondition's shape facts. -/
theorem finite_facts : Cert.Pre_all_finite.Facts where
  bcast_S_S8x8x6144 := by decide
  reducesTo_S8x8x6144_S_d0_1_2 := by decide
  h_S_ := by decide
  bcast_S_S8x2048x4x128 := by decide
  reducesTo_S8x2048x4x128_S_d0_1_2_3 := by decide
  bcast_S_S8x8x1024 := by decide
  reducesTo_S8x8x1024_S_d0_1_2 := by decide
  bcast_S_S32x16 := by decide
  reducesTo_S32x16_S_d0_1 := by decide

/-- A number whose absolute value compares below infinity is real. -/
theorem real_of_lt (x : EReal) (h : Ideal.cmp .olt (max x (-x)) (Ideal.ofBits .f32 0x7F800000#32) = 1#1) : x = ((x.toReal : ℝ) : EReal) := by
  rw [bits_inf] at h
  have h' : max x (-x) < ⊤ := by
    by_contra hn
    have e : Ideal.cmp .olt (max x (-x)) ⊤ = BitVec.ofBool (decide (max x (-x) < ⊤)) := rfl
    rw [e, decide_eq_false hn] at h
    exact absurd h (by decide)
  refine (EReal.coe_toReal ?_ ?_).symm
  · rintro rfl
    exact absurd h' (by simp)
  · rintro rfl
    exact absurd h' (by simp)

/-- An array all of whose elements compare below infinity in absolute value holds reals. -/
theorem real_of_all (s : Shape) (axes : List (Fin s.rank)) (x : FVec Ideal s .f32) (dims : Fin 0 → Fin s.rank) (hb : Cert.Pre_all_finite.S_.BroadcastsInDim s dims)
    (hr : s.ReducesTo axes Cert.Pre_all_finite.S_) (hu : 0 < Cert.Pre_all_finite.S_.numel) (j : Cert.Pre_all_finite.S_.Idx)
    (h : Host.reduce IntOp.andi (cmpf .olt (Host.absf x) (broadcastInDim s dims hb (constant (F := Ideal) Cert.Pre_all_finite.S_ .f32 0x7F800000#32)))
      (constantI Cert.Pre_all_finite.S_ 1 1#1) hr hu j = 1#1) (i : s.Idx) : x i = (((x i).toReal : ℝ) : EReal) := by
  have : Subsingleton Cert.Pre_all_finite.S_.Idx := ⟨fun a b => funext fun k => k.elim0⟩
  exact real_of_lt (x i) (Host.reduce_andi_all _ _ hr hu j h i)

variable (m : (ℓ : Loc nD τ sig) → Buf (Elt Ideal) ℓ)

/-- The precondition makes the five arguments arrays of reals. -/
theorem real5_of_pre [Cert.Pre_all_finite.Facts] (h : Cert.Pre_KernelIdeal_all_finite m) (c : Dev nD) :
    Real5 m c (fun i => ((m ((c : Thread nD τ).loc main_arg0) : FVec Ideal S8x8x6144 .f32) i).toReal)
      (fun i => ((m ((c : Thread nD τ).loc main_arg1) : FVec Ideal S8x2048x4x128 .f32) i).toReal)
      (fun i => ((m ((c : Thread nD τ).loc main_arg2) : FVec Ideal S8x2048x4x128 .f32) i).toReal)
      (fun i => ((m ((c : Thread nD τ).loc main_arg3) : FVec Ideal S8x8x1024 .f32) i).toReal)
      (fun i => ((m ((c : Thread nD τ).loc main_arg4) : FVec Ideal S32x16 .f32) i).toReal) := by
  have e := congrFun (h c) (fun k => k.elim0)
  unfold Cert.Pre_all_finite.fn Cert.Pre_all_finite.fn_part1 at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all _ _ _ _ _ _ _ _ h0, real_of_all _ _ _ _ _ _ _ _ h1, real_of_all _ _ _ _ _ _ _ _ h2,
    real_of_all _ _ _ _ _ _ _ _ h3, real_of_all _ _ _ _ _ _ _ _ h4⟩

variable {m}

/-- What a block ends with is the reference's array there. -/
theorem point {c : Dev nD} {q : S8x8x6144.Idx → ℝ} {K V : S8x2048x4x128.Idx → ℝ} {N : S8x8x1024.Idx → ℝ} {B : S32x16.Idx → ℝ}
    (H : Real5 m c q K V N B) (t : Fin cfg0.N) (s : Fin 8) (f : Fin 512) :
    (outsAt0 m c t : Vec Ideal S1x8x512 .bf16) (ix3 0 s f)
      = val_main_v265 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (ix3 (bOf t) s ⟨t.val % 4 * 512 + f.val, by omega⟩) := by
  rw [out_at H t ⟨f.val / 128, by omega⟩ s ⟨f.val % 128, by omega⟩ f (by show f.val = f.val / 128 * 128 + f.val % 128; omega)]
  rw [Cert.ReferenceIdeal.Attend.flat_at]
  refine Eq.trans ?_ (Cert.ReferenceIdeal.Attend.attn_at q K V N B _ _ _ _ _ H.hq H.hK H.hV H.hN H.hB _ _ _ _ _).symm
  have e1 : (⟨(t.val % 4 * 512 + f.val) / 512, by omega⟩ : Fin 4) = gOf t := Fin.ext (by show _ = t.val % 4; dsimp only; omega)
  have e2 : (t.val % 4 * 512 + f.val) % 512 / 128 = f.val / 128 := by omega
  have e3 : (⟨(t.val % 4 * 512 + f.val) % 128, by omega⟩ : Fin 128) = ⟨f.val % 128, by omega⟩ := Fin.ext (by dsimp only; omega)
  dsimp only
  rw [e1, e2, e3]

theorem final (c : Dev nD) {q : S8x8x6144.Idx → ℝ} {K V : S8x2048x4x128.Idx → ℝ} {N : S8x8x1024.Idx → ℝ} {B : S32x16.Idx → ℝ}
    (H : Real5 m c q K V N B) : (dats m 0 c).arrAt 8 (cfgs 0).N
    = (val_main_v265 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) : FVec Ideal S8x8x2048 .bf16) := by
  refine (dats m 0 c).arrAt_eq_of_covers 8 _ (by decide +kernel) fun t _ y => ?_
  blk_simp
  rw [after0_8]
  refine (congrArg _ (by blk_ext)).trans ((point H t (y 1) (y 2)).trans ?_)
  blk_ext [idx t, bOf]

/-- The reference's run, its result as the array read above. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ fun r => ∀ c : Dev Cert.ReferenceIdeal.nD,
      r.2.mem ((c.tc : Thread Cert.ReferenceIdeal.nD Cert.ReferenceIdeal.τ).loc Cert.ReferenceIdeal.main_v265)
        = val_main_v265 (F := Ideal) (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4) :=
  θ_run_mono (Cert.ReferenceIdeal.Value.run m' g') fun r h c =>
    ⟨(h c).1.trans ((val_main_v265_eq (StableHlo.launchContents m' c)).trans (by simp only [StableHlo.launchContents_devRef])), (h c).2⟩

/-- On finite arguments the values of the decode attention are its reference's. -/
theorem algebraic [Cert.Pre_all_finite.Facts] : Cert.algebraic_KernelIdeal_ReferenceIdeal_pre_all_finite := by
  pair_intro
  · run_from Cert.KernelIdeal.Value.run_blocks m g
  · run_from ref_run m' g'
    exact (final c (real5_of_pre m hpre c)).symm

end Cert.KernelIdeal.Attend

end
-- ==== Proof.lean ====
/- The certificate: every program's run ends quiescent with its arguments unchanged, the idealized programs
   are the programs themselves (one of them with two constants named), and at the ideal instance the values
   of the matrix-multiplication kernels and of the decode attention are those of their references. The modules next to this one prove what
   each kernel's result array holds; here the runs and those values are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Pre_all_finite
public import Idealize.ShloMosaic.Adequacy
public import Idealize.ShloMosaic.Init
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Run
public import proofs.«01_k».proof.Proof.Gen.Kernel12Ideal.Read
public import proofs.«01_k».proof.Proof.Gen.Reference12Ideal.Run
public import proofs.«01_k».proof.Proof.Gen.Reference12Ideal.Read
public import proofs.«01_k».proof.Proof.Gen.Kernel13Ideal.Run
public import proofs.«01_k».proof.Proof.Gen.Kernel13Ideal.Read
public import proofs.«01_k».proof.Proof.Gen.Reference13Ideal.Run
public import proofs.«01_k».proof.Proof.Gen.Reference13Ideal.Read
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.QueryProj
public import proofs.«01_k».proof.Proof.SharedKv
public import proofs.«01_k».proof.Proof.InProj
public import proofs.«01_k».proof.Proof.DownProj
public import proofs.«01_k».proof.Proof.MixerOut
public import proofs.«01_k».proof.Proof.FfnUp
public import proofs.«01_k».proof.Proof.InProjDecode
public import proofs.«01_k».proof.Proof.SharedKvDecode
public import proofs.«01_k».proof.Proof.DownDecode
public import proofs.«01_k».proof.Proof.GateDecode
public import proofs.«01_k».proof.Proof.Keys
public import proofs.«01_k».proof.Proof.KeysDecode
public import proofs.«01_k».proof.Proof.QueryDecode
public import proofs.«01_k».proof.Proof.MixerDecode
public import proofs.«01_k».proof.Proof.FfnDecode
public import proofs.«01_k».proof.Proof.Attend

@[expose] public section

noncomputable section

namespace Cert.Proof

open Idealize.ShloMosaic Idealize.SL.Sem

/-- Reference runs to an end with its arguments unchanged. -/
theorem reference1 : Cert.quiescent_ReferenceIdeal := by
  intro m g _
  exact θ_run_mono (Cert.ReferenceIdeal.Value.run m g) fun r h =>
    ⟨fun c => (h c).2, sem_eq_zero_of_no_sems (by decide) r.2⟩

/-- Reference2 runs to an end with its arguments unchanged. -/
theorem reference2 : Cert.quiescent_Reference2Ideal := by
  intro m g _
  exact θ_run_mono (Cert.Reference2Ideal.Value.run m g) fun r h =>
    ⟨fun c => (h c).2.2, sem_eq_zero_of_no_sems (by decide) r.2⟩

/-- Reference3 runs to an end with its arguments unchanged. -/
theorem reference3 : Cert.quiescent_Reference3Ideal := by
  intro m g _
  exact θ_run_mono (Cert.Reference3Ideal.Value.run m g) fun r h =>
    ⟨fun c => (h c).2.2, sem_eq_zero_of_no_sems (by decide) r.2⟩

/-- Reference4 runs to an end with its arguments unchanged. -/
theorem reference4 : Cert.quiescent_Reference4Ideal := by
  intro m g _
  exact θ_run_mono (Cert.Reference4Ideal.Value.run m g) fun r h =>
    ⟨fun c => (h c).2.2, sem_eq_zero_of_no_sems (by decide) r.2⟩

/-- Reference5 runs to an end with its arguments unchanged. -/
theorem reference5 : Cert.quiescent_Reference5Ideal := by
  intro m g _
  exact θ_run_mono (Cert.Reference5Ideal.Value.run m g) fun r h =>
    ⟨fun c => (h c).2, sem_eq_zero_of_no_sems (by decide) r.2⟩

/-- Reference6 runs to an end with its arguments unchanged. -/
theorem reference6 : Cert.quiescent_Reference6Ideal := by
  intro m g _
  exact θ_run_mono (Cert.Reference6Ideal.Value.run m g) fun r h =>
    ⟨fun c => (h c).2, sem_eq_zero_of_no_sems (by decide) r.2⟩

/-- Reference7 runs to an end with its arguments unchanged. -/
theorem reference7 : Cert.quiescent_Reference7Ideal := by
  intro m g _
  exact θ_run_mono (Cert.Reference7Ideal.Value.run m g) fun r h =>
    ⟨fun c => (h c).2, sem_eq_zero_of_no_sems (by decide) r.2⟩

/-- Reference8 runs to an end with its arguments unchanged. -/
theorem reference8 : Cert.quiescent_Reference8Ideal := by
  intro m g _
  exact θ_run_mono (Cert.Reference8Ideal.Value.run m g) fun r h =>
    ⟨fun c => (h c).2, sem_eq_zero_of_no_sems (by decide) r.2⟩

/-- Reference9 runs to an end with its arguments unchanged. -/
theorem reference9 : Cert.quiescent_Reference9Ideal := by
  intro m g _
  exact θ_run_mono (Cert.Reference9Ideal.Value.run m g) fun r h =>
    ⟨fun c => (h c).2, sem_eq_zero_of_no_sems (by decide) r.2⟩

/-- Reference10 runs to an end with its arguments unchanged. -/
theorem reference10 : Cert.quiescent_Reference10Ideal := by
  intro m g _
  exact θ_run_mono (Cert.Reference10Ideal.Value.run m g) fun r h =>
    ⟨fun c => (h c).2.2, sem_eq_zero_of_no_sems (by decide) r.2⟩

/-- Reference11 runs to an end with its arguments unchanged. -/
theorem reference11 : Cert.quiescent_Reference11Ideal := by
  intro m g _
  exact θ_run_mono (Cert.Reference11Ideal.Value.run m g) fun r h =>
    ⟨fun c => (h c).2, sem_eq_zero_of_no_sems (by decide) r.2⟩

/-- Reference12 runs to an end with its arguments unchanged. -/
theorem reference12 : Cert.quiescent_Reference12Ideal := by
  intro m g _
  exact θ_run_mono (Cert.Reference12Ideal.Value.run m g) fun r h =>
    ⟨fun c => (h c).2.2.2, sem_eq_zero_of_no_sems (by decide) r.2⟩

/-- Reference13 runs to an end with its arguments unchanged. -/
theorem reference13 : Cert.quiescent_Reference13Ideal := by
  intro m g _
  exact θ_run_mono (Cert.Reference13Ideal.Value.run m g) fun r h =>
    ⟨fun c => (h c).2.2.2, sem_eq_zero_of_no_sems (by decide) r.2⟩

/-- Reference14 runs to an end with its arguments unchanged. -/
theorem reference14 : Cert.quiescent_Reference14Ideal := by
  intro m g _
  exact θ_run_mono (Cert.Reference14Ideal.Value.run m g) fun r h =>
    ⟨fun c => (h c).2.2, sem_eq_zero_of_no_sems (by decide) r.2⟩

/-- Reference15 runs to an end with its arguments unchanged. -/
theorem reference15 : Cert.quiescent_Reference15Ideal := by
  intro m g _
  exact θ_run_mono (Cert.Reference15Ideal.Value.run m g) fun r h =>
    ⟨fun c => (h c).2, sem_eq_zero_of_no_sems (by decide) r.2⟩

/-- Reference16 runs to an end with its arguments unchanged. -/
theorem reference16 : Cert.quiescent_Reference16Ideal := by
  intro m g _
  exact θ_run_mono (Cert.Reference16Ideal.Value.run m g) fun r h =>
    ⟨fun c => (h c).2.2, sem_eq_zero_of_no_sems (by decide) r.2⟩

/-- The two constants that the decode attention names are rounded from the reals they stand for. -/
theorem constants : Cert.preserves_Kernel_KernelIdeal :=
  ⟨IdealRules.named_const.statement Cert.KernelIdeal.κ "qscale" .f32 0x3E0293EE#32 _ rfl,
   IdealRules.named_const.statement Cert.KernelIdeal.κ "log2e" .f32 0x3FB8AA3B#32 _ rfl⟩

/-- The values of the convolution FFN's up product with its activation and its state are its reference's. -/
theorem algebraic2 : Cert.algebraic_Kernel2Ideal_Reference2Ideal := by
  pair_intro
  · run_from Cert.Kernel2Ideal.Value.run_blocks m g
  · hlo_run
    · exact (Cert.Kernel2Ideal.FfnUp.final_act m c).symm
    · exact (Cert.Kernel2Ideal.FfnUp.final_state m c).symm

/-- The values of the FFN's down product with residual and LayerNorm are its reference's. -/
theorem algebraic3 : Cert.algebraic_Kernel3Ideal_Reference3Ideal := by
  pair_intro
  · run_from Cert.Kernel3Ideal.Value.run_blocks m g
  · hlo_run
    · exact (Cert.Kernel3Ideal.Down.final_f32 m c).symm
    · exact (Cert.Kernel3Ideal.Down.final_bf16 m c).symm

/-- The values of the mixer's output product with residual and LayerNorm are its reference's. -/
theorem algebraic4 : Cert.algebraic_Kernel4Ideal_Reference4Ideal := by
  pair_intro
  · run_from Cert.Kernel4Ideal.Value.run_blocks m g
  · hlo_run
    · exact (Cert.Kernel4Ideal.Mixer.final_f32 m c).symm
    · exact (Cert.Kernel4Ideal.Mixer.final_bf16 m c).symm

/-- The values of the sparse-attention layers' input projection are its reference's. -/
theorem algebraic5 : Cert.algebraic_Kernel5Ideal_Reference5Ideal := by
  pair_intro
  · run_from Cert.Kernel5Ideal.Value.run_blocks m g
  · hlo_run
    exact (Cert.Kernel5Ideal.InProj.final m c).symm

/-- The values of the query projection are its reference's. -/
theorem algebraic6 : Cert.algebraic_Kernel6Ideal_Reference6Ideal := by
  pair_intro
  · run_from Cert.Kernel6Ideal.Value.run_blocks m g
  · hlo_run
    exact (Cert.Kernel6Ideal.Query.final m c).symm

/-- The values of the shared key and value projection are its reference's. -/
theorem algebraic7 : Cert.algebraic_Kernel7Ideal_Reference7Ideal := by
  pair_intro
  · run_from Cert.Kernel7Ideal.Value.run_blocks m g
  · hlo_run
    exact (Cert.Kernel7Ideal.SharedKv.final m c).symm

/-- The values of the input projection of the decoding step are its reference's. -/
theorem algebraic8 : Cert.algebraic_Kernel8Ideal_Reference8Ideal := by
  pair_intro
  · run_from Cert.Kernel8Ideal.Value.run_blocks m g
  · hlo_run
    exact (Cert.Kernel8Ideal.InProjDecode.final m c).symm

/-- The values of the shared key and value projection of the decoding step are its reference's. -/
theorem algebraic9 : Cert.algebraic_Kernel9Ideal_Reference9Ideal := by
  pair_intro
  · run_from Cert.Kernel9Ideal.Value.run_blocks m g
  · hlo_run
    exact (Cert.Kernel9Ideal.SharedKvDecode.final m c).symm

/-- The values of the down product of the decoding step with residual and LayerNorm are its reference's. -/
theorem algebraic10 : Cert.algebraic_Kernel10Ideal_Reference10Ideal := by
  pair_intro
  · run_from Cert.Kernel10Ideal.Value.run_blocks m g
  · hlo_run
    · exact (Cert.Kernel10Ideal.DownDecode.final_f32 m c).symm
    · exact (Cert.Kernel10Ideal.DownDecode.final_bf16 m c).symm

/-- The values of the gate product of the decoding step are its reference's. -/
theorem algebraic11 : Cert.algebraic_Kernel11Ideal_Reference11Ideal := by
  pair_intro
  · run_from Cert.Kernel11Ideal.Value.run_blocks m g
  · hlo_run
    exact (Cert.Kernel11Ideal.GateDecode.final m c).symm

/-- The values of the keys, values and indexer keys are its reference's. -/
theorem algebraic12 : Cert.algebraic_Kernel12Ideal_Reference12Ideal :=
  Cert.Kernel12Ideal.Keys.algebraic

/-- The values of the keys, values and indexer keys of the decoding step are its reference's. -/
theorem algebraic13 : Cert.algebraic_Kernel13Ideal_Reference13Ideal :=
  Cert.Kernel13Ideal.KeysDecode.algebraic

/-- The values of the feed-forward activations of the decoding step and its state are its reference's. -/
theorem algebraic14 : Cert.algebraic_Kernel14Ideal_Reference14Ideal :=
  Cert.Kernel14Ideal.FfnDecode.algebraic

/-- The values of the query projection of the decoding step are its reference's. -/
theorem algebraic15 : Cert.algebraic_Kernel15Ideal_Reference15Ideal := by
  pair_intro
  · run_from Cert.Kernel15Ideal.Value.run_blocks m g
  · hlo_run
    exact (Cert.Kernel15Ideal.QueryDecode.final m c).symm

/-- The values of the mixer's output product of the decoding step with residual and LayerNorm are its reference's. -/
theorem algebraic16 : Cert.algebraic_Kernel16Ideal_Reference16Ideal := by
  pair_intro
  · run_from Cert.Kernel16Ideal.Value.run_blocks m g
  · hlo_run
    · exact (Cert.Kernel16Ideal.MixerDecode.final_f32 m c).symm
    · exact (Cert.Kernel16Ideal.MixerDecode.final_bf16 m c).symm

/-- All the claims. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Kernel16.Gen.facts, Cert.Kernel16Ideal.Gen.facts, Cert.Reference16Ideal.Gen.facts,
   Cert.KernelIdeal.Attend.finite_facts,
   fun m ρ _ => Cert.Kernel.Gen.frame m ρ,
   fun m ρ _ => Cert.KernelIdeal.Gen.frame m ρ,
   fun m ρ _ => Cert.KernelIdeal.Gen.frame m ρ,
   reference1,
   fun m g _ => reference1 m g trivial,
   fun m ρ _ => Cert.Kernel2.Gen.frame m ρ,
   fun m ρ _ => Cert.Kernel2Ideal.Gen.frame m ρ,
   reference2,
   fun m ρ _ => Cert.Kernel3.Gen.frame m ρ,
   fun m ρ _ => Cert.Kernel3Ideal.Gen.frame m ρ,
   reference3,
   fun m ρ _ => Cert.Kernel4.Gen.frame m ρ,
   fun m ρ _ => Cert.Kernel4Ideal.Gen.frame m ρ,
   reference4,
   fun m ρ _ => Cert.Kernel5.Gen.frame m ρ,
   fun m ρ _ => Cert.Kernel5Ideal.Gen.frame m ρ,
   reference5,
   fun m ρ _ => Cert.Kernel6.Gen.frame m ρ,
   fun m ρ _ => Cert.Kernel6Ideal.Gen.frame m ρ,
   reference6,
   fun m ρ _ => Cert.Kernel7.Gen.frame m ρ,
   fun m ρ _ => Cert.Kernel7Ideal.Gen.frame m ρ,
   reference7,
   fun m ρ _ => Cert.Kernel8.Gen.frame m ρ,
   fun m ρ _ => Cert.Kernel8Ideal.Gen.frame m ρ,
   reference8,
   fun m ρ _ => Cert.Kernel9.Gen.frame m ρ,
   fun m ρ _ => Cert.Kernel9Ideal.Gen.frame m ρ,
   reference9,
   fun m ρ _ => Cert.Kernel10.Gen.frame m ρ,
   fun m ρ _ => Cert.Kernel10Ideal.Gen.frame m ρ,
   reference10,
   fun m ρ _ => Cert.Kernel11.Gen.frame m ρ,
   fun m ρ _ => Cert.Kernel11Ideal.Gen.frame m ρ,
   reference11,
   fun m ρ _ => Cert.Kernel12.Gen.frame m ρ,
   fun m ρ _ => Cert.Kernel12Ideal.Gen.frame m ρ,
   reference12,
   fun m ρ _ => Cert.Kernel13.Gen.frame m ρ,
   fun m ρ _ => Cert.Kernel13Ideal.Gen.frame m ρ,
   reference13,
   fun m ρ _ => Cert.Kernel14.Gen.frame m ρ,
   fun m ρ _ => Cert.Kernel14Ideal.Gen.frame m ρ,
   reference14,
   fun m ρ _ => Cert.Kernel15.Gen.frame m ρ,
   fun m ρ _ => Cert.Kernel15Ideal.Gen.frame m ρ,
   reference15,
   fun m ρ _ => Cert.Kernel16.Gen.frame m ρ,
   fun m ρ _ => Cert.Kernel16Ideal.Gen.frame m ρ,
   reference16,
   constants, @Cert.KernelIdeal.Attend.algebraic Cert.KernelIdeal.Attend.finite_facts, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16⟩

end Cert.Proof

end
